-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v63) = v3 c
          ∧ r.2.mem ((c.tc : Thread Cert.Reference4Ideal.nD Cert.Reference4Ideal.τ).loc Cert.Reference4Ideal.main_v64) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)) (v5 : (c : Dev Cert.Kernel5Ideal.nD) → Buf (Elt Ideal) ((c.tc : Thread Cert.Kernel5Ideal.nD Cert.Kernel5Ideal.τ).loc Cert.Kernel5Ideal.main_v18_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_v18_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_v75) = v4 c
          ∧ r.2.mem ((c.tc : Thread Cert.Reference5Ideal.nD Cert.Reference5Ideal.τ).loc Cert.Reference5Ideal.main_v76) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)) (v4 : (c : Dev Cert.Kernel6Ideal.nD) → Buf (Elt Ideal) ((c.tc : Thread Cert.Kernel6Ideal.nD Cert.Kernel6Ideal.τ).loc Cert.Kernel6Ideal.main_v12_4)) (v5 : (c : Dev Cert.Kernel6Ideal.nD) → Buf (Elt Ideal) ((c.tc : Thread Cert.Kernel6Ideal.nD Cert.Kernel6Ideal.τ).loc Cert.Kernel6Ideal.main_v12_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_v12_4) = v4 c
          ∧ r.2.mem ((c.tc : Thread Cert.Kernel6Ideal.nD Cert.Kernel6Ideal.τ).loc Cert.Kernel6Ideal.main_v12_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v59) = v2 c
          ∧ r.2.mem ((c.tc : Thread Cert.Reference6Ideal.nD Cert.Reference6Ideal.τ).loc Cert.Reference6Ideal.main_v60) = v3 c
          ∧ r.2.mem ((c.tc : Thread Cert.Reference6Ideal.nD Cert.Reference6Ideal.τ).loc Cert.Reference6Ideal.main_v61) = v4 c
          ∧ r.2.mem ((c.tc : Thread Cert.Reference6Ideal.nD Cert.Reference6Ideal.τ).loc Cert.Reference6Ideal.main_v62) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_

variable [Facts]

def fn {F : FTy → Type} [FloatOps F] (main_arg0 : FVec F S8x4096x8x96 .f32) (main_arg1 : FVec F S8x4096x8x96 .f32) (main_arg2 : FVec F S8x4096x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  let main_v9 : FVec F S8x4096x8x64 .f32 := Host.absf main_arg2
  let main_cst_2 : FVec F S_ .f32 := constant S_ .f32 0x7F800000#32
  let main_v10 : FVec F S8x4096x8x64 .f32 := broadcastInDim S8x4096x8x64 ![] bcast_S_S8x4096x8x64 main_cst_2
  let main_v11 : IVec S8x4096x8x64 1 := cmpf .olt main_v9 main_v10
  let main_c_3 : IVec S_ 1 := constantI S_ 1 1#1
  let main_v12 : IVec S_ 1 := (fun x v => Host.reduce IntOp.andi x v reducesTo_S8x4096x8x64_S_d0_1_2_3 h_S_) main_v11 main_c_3
  let main_v13 : IVec S_ 1 := andi main_v8 main_v12
  main_v13
-- ==== Kernel.lean ====
abbrev S8x4096x8x96 : Shape := ⟨4, ![8, 4096, 8, 96]⟩
abbrev S8x4096x8x64 : Shape := ⟨4, ![8, 4096, 8, 64]⟩
abbrev S_ : Shape := ⟨0, ![]⟩
abbrev S8x4096x8x128 : Shape := ⟨4, ![8, 4096, 8, 128]⟩
abbrev S32768x1024 : Shape := ⟨2, ![32768, 1024]⟩
abbrev S1x1024 : Shape := ⟨2, ![1, 1024]⟩
abbrev S32768x512 : Shape := ⟨2, ![32768, 512]⟩
abbrev S512x1024 : Shape := ⟨2, ![512, 1024]⟩
abbrev S4096x1024 : Shape := ⟨2, ![4096, 1024]⟩
abbrev S512x512 : Shape := ⟨2, ![512, 512]⟩
abbrev S8x1x512 : Shape := ⟨3, ![8, 1, 512]⟩
abbrev S8x72x512 : Shape := ⟨3, ![8, 72, 512]⟩
abbrev S256x128 : Shape := ⟨2, ![256, 128]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x72x512 : Shape := ⟨3, ![1, 72, 512]⟩
abbrev S72x512 : Shape := ⟨2, ![72, 512]⟩
abbrev S128x512 : Shape := ⟨2, ![128, 512]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x72x256 : Shape := ⟨3, ![1, 72, 256]⟩
abbrev S72x256 : Shape := ⟨2, ![72, 256]⟩
abbrev S128x256 : Shape := ⟨2, ![128, 256]⟩
abbrev S1x64x512 : Shape := ⟨3, ![1, 64, 512]⟩
abbrev S64x512 : Shape := ⟨2, ![64, 512]⟩

abbrev nBuf : Space → Nat
  | .hbm => 40
  | .vmem => 10
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S_, .f32⟩
  | .hbm, ⟨12, _⟩ => ⟨S8x4096x8x128, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .bf16⟩
  | .hbm, ⟨17, _⟩ => ⟨S_, .i32⟩
  | .hbm, ⟨18, _⟩ => ⟨S_, .f32⟩
  | .hbm, ⟨19, _⟩ => ⟨S8x4096x8x128, .f32⟩
  | .hbm, ⟨20, _⟩ => ⟨S32768x1024, .f32⟩
  | .hbm, ⟨21, _⟩ => ⟨S32768x1024, .bf16⟩
  | .hbm, ⟨22, _⟩ => ⟨S1x1024, .i32⟩
  | .hbm, ⟨23, _⟩ => ⟨S_, .i32⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i1⟩
  | .hbm, ⟨29, _⟩ => ⟨S_, .i32⟩
  | .hbm, ⟨30, _⟩ => ⟨S_, .f32⟩
  | .hbm, ⟨31, _⟩ => ⟨S8x4096x8x128, .f32⟩
  | .hbm, ⟨32, _⟩ => ⟨S32768x1024, .f32⟩
  | .hbm, ⟨33, _⟩ => ⟨S_, .f32⟩
  | .hbm, ⟨34, _⟩ => ⟨S_, .f32⟩
  | .hbm, ⟨35, _⟩ => ⟨S32768x1024, .i1⟩
  | .hbm, ⟨36, _⟩ => ⟨S32768x1024, .f32⟩
  | .hbm, ⟨37, _⟩ => ⟨S32768x1024, .f32⟩
  | .hbm, ⟨38, _⟩ => ⟨S32768x1024, .bf16⟩
  | .hbm, ⟨39, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S512x512, .bf16⟩
  | .local _ .vmem, ⟨7, _⟩ => ⟨S512x512, .bf16⟩
  | .local _ .vmem, ⟨8, _⟩ => ⟨S8x1x512, .f32⟩
  | .local _ .vmem, ⟨9, _⟩ => ⟨S8x72x512, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let c0_i32_367 : BitVec 32 := 0#32
  let v680 : BitVec 32 := Scalar.addi v679 c0_i32_367
  v680
def k0_off1 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v682 : Index := Scalar.indexCast v681
  let c0_368 : Index := 0#32
  ![v682.toNat, 0]
def k0_off2 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v688 : Index := Scalar.indexCast v681
  let c128_372 : Index := 128#32
  ![v688.toNat, 128]
def k0_off3 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v694 : Index := Scalar.indexCast v681
  let c256_376 : Index := 256#32
  ![v694.toNat, 256]
def k0_off4 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v700 : Index := Scalar.indexCast v681
  let c384_380 : Index := 384#32
  ![v700.toNat, 384]
def k0_off5 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v706 : Index := Scalar.indexCast v681
  let c512_384 : Index := 512#32
  ![v706.toNat, 512]
def k0_off6 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v712 : Index := Scalar.indexCast v681
  let c640_388 : Index := 640#32
  ![v712.toNat, 640]
def k0_off7 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v718 : Index := Scalar.indexCast v681
  let c768_392 : Index := 768#32
  ![v718.toNat, 768]
def k0_off8 (i : grid0.Coords) (k0_t1 : Fin (k0_t1_loop i).trips) (c0_i32_367 : BitVec 32) : Fin 2 → Nat :=
  let c0_i32_6 : BitVec 32 := 0#32
  let c1_i32_7 : BitVec 32 := 1#32
  let arg9 : BitVec 32 := Scf.iv c0_i32_6 c1_i32_7 k0_t1
  let c512_i32_366 : BitVec 32 := 512#32
  let v679 : BitVec 32 := Scalar.muli arg9 c512_i32_366
  let v680 : BitVec 32 := Scalar.addi v679 c0_i32_367
  let v681 : BitVec 32 := v680
  let v724 : Index := Scalar.indexCast v681
  let c896_396 : Index := 896#32
  ![v724.toNat, 896]
def k0_mult2 (i : grid0.Coords) (k0_t1 : Fin (k0_t1_loop i).trips) : BitVec 32 :=
  let c0_i32_6 : BitVec 32 := 0#32
  let c1_i32_7 : BitVec 32 := 1#32
  let arg9 : BitVec 32 := Scf.iv c0_i32_6 c1_i32_7 k0_t1
  let c512_i32_520 : BitVec 32 := 512#32
  let v946 : BitVec 32 := Scalar.muli arg9 c512_i32_520
  let c256_i32_521 : BitVec 32 := 256#32
  let v947 : BitVec 32 := Scalar.addi v946 c256_i32_521
  v947
@[reducible] def k0_t2_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult3 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let c0_i32_367 : BitVec 32 := 0#32
  let v680 : BitVec 32 := Scalar.addi v679 c0_i32_367
  v680
def k0_off9 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v682 : Index := Scalar.indexCast v681
  let c0_368 : Index := 0#32
  ![v682.toNat, 0]
def k0_off10 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v688 : Index := Scalar.indexCast v681
  let c128_372 : Index := 128#32
  ![v688.toNat, 128]
def k0_off11 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v694 : Index := Scalar.indexCast v681
  let c256_376 : Index := 256#32
  ![v694.toNat, 256]
def k0_off12 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v700 : Index := Scalar.indexCast v681
  let c384_380 : Index := 384#32
  ![v700.toNat, 384]
def k0_off13 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v706 : Index := Scalar.indexCast v681
  let c512_384 : Index := 512#32
  ![v706.toNat, 512]
def k0_off14 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v712 : Index := Scalar.indexCast v681
  let c640_388 : Index := 640#32
  ![v712.toNat, 640]
def k0_off15 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v718 : Index := Scalar.indexCast v681
  let c768_392 : Index := 768#32
  ![v718.toNat, 768]
def k0_off16 (i : grid0.Coords) (k0_t2 : Fin (k0_t2_loop i).trips) (c0_i32_367 : BitVec 32) : Fin 2 → Nat :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_366 : BitVec 32 := 512#32
  let v679 : BitVec 32 := Scalar.muli arg9 c512_i32_366
  let v680 : BitVec 32 := Scalar.addi v679 c0_i32_367
  let v681 : BitVec 32 := v680
  let v724 : Index := Scalar.indexCast v681
  let c896_396 : Index := 896#32
  ![v724.toNat, 896]
def k0_mult4 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg9 : BitVec 32 := Scf.iv v12 c1_i32_8 k0_t2
  let c512_i32_520 : BitVec 32 := 512#32
  let v946 : BitVec 32 := Scalar.muli arg9 c512_i32_520
  let c256_i32_521 : BitVec 32 := 256#32
  let v947 : BitVec 32 := Scalar.addi v946 c256_i32_521
  v947
def k0_mult5 (i : grid0.Coords) : BitVec 32 :=
  let arg2 : BitVec 32 := BitVec.ofNat 32 (i 2).val
  let c512_i32 : BitVec 32 := 512#32
  let v13 : BitVec 32 := Scalar.muli arg2 c512_i32
  let c0_i32_9 : BitVec 32 := 0#32
  let v14 : BitVec 32 := Scalar.addi v13 c0_i32_9
  v14
def k0_off17 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v16 : Index := Scalar.indexCast v15
  let c0_10 : Index := 0#32
  ![v16.toNat, 0]
def k0_off18 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v22 : Index := Scalar.indexCast v15
  let c128 : Index := 128#32
  ![v22.toNat, 128]
def k0_off19 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v28 : Index := Scalar.indexCast v15
  let c256 : Index := 256#32
  ![v28.toNat, 256]
def k0_off20 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v34 : Index := Scalar.indexCast v15
  let c384 : Index := 384#32
  ![v34.toNat, 384]
def k0_off21 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v40 : Index := Scalar.indexCast v15
  let c512 : Index := 512#32
  ![v40.toNat, 512]
def k0_off22 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v46 : Index := Scalar.indexCast v15
  let c640 : Index := 640#32
  ![v46.toNat, 640]
def k0_off23 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v52 : Index := Scalar.indexCast v15
  let c768 : Index := 768#32
  ![v52.toNat, 768]
def k0_off24 (i : grid0.Coords) (c0_i32_9 : BitVec 32) : Fin 2 → Nat :=
  let arg2 : BitVec 32 := BitVec.ofNat 32 (i 2).val
  let c512_i32 : BitVec 32 := 512#32
  let v13 : BitVec 32 := Scalar.muli arg2 c512_i32
  let v14 : BitVec 32 := Scalar.addi v13 c0_i32_9
  let v15 : BitVec 32 := v14
  let v58 : Index := Scalar.indexCast v15
  let c896 : Index := 896#32
  ![v58.toNat, 896]
def k0_mult6 (i : grid0.Coords) : BitVec 32 :=
  let arg2 : BitVec 32 := BitVec.ofNat 32 (i 2).val
  let c512_i32_156 : BitVec 32 := 512#32
  let v320 : BitVec 32 := Scalar.muli arg2 c512_i32_156
  let c256_i32 : BitVec 32 := 256#32
  let v321 : BitVec 32 := Scalar.addi v320 c256_i32
  v321
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x96 : Shape := ⟨4, ![8, 4096, 8, 96]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x8x4096x4096, .f32⟩
  | .hbm, ⟨4, _⟩ => ⟨S_, .f32⟩
  | .hbm, ⟨5, _⟩ => ⟨S_, .f32⟩
  | .hbm, ⟨6, _⟩ => ⟨S8x8x4096x4096, .f32⟩
  | .hbm, ⟨7, _⟩ => ⟨S8x8x4096x4096, .f32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x8x4096x4096, .i1⟩
  | .hbm, ⟨18, _⟩ => ⟨S8x8x4096x4096, .f32⟩
  | .hbm, ⟨19, _⟩ => ⟨S8x8x4096x4096, .f32⟩
  | .hbm, ⟨20, _⟩ => ⟨S_, .f32⟩
  | .hbm, ⟨21, _⟩ => ⟨S8x8x4096, .f32⟩
  | .hbm, ⟨22, _⟩ => ⟨S_, .f32⟩
  | .hbm, ⟨23, _⟩ => ⟨S8x8x4096, .f32⟩
  | .hbm, ⟨24, _⟩ => ⟨S8x8x4096, .f32⟩
  | .hbm, ⟨25, _⟩ => ⟨S8x8x4096x1, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S8x8x4096, .f32⟩
  | .hbm, ⟨31, _⟩ => ⟨S8x8x4096x1, .f32⟩
  | .hbm, ⟨32, _⟩ => ⟨S8x8x4096x4096, .f32⟩
  | .hbm, ⟨33, _⟩ => ⟨S8x8x4096x4096, .f32⟩
  | .hbm, ⟨34, _⟩ => ⟨S8x8x64x4096, .f32⟩
  | .hbm, ⟨35, _⟩ => ⟨S8x4096x8x64, .f32⟩
  | .hbm, ⟨36, _⟩ => ⟨S32768x512, .f32⟩
  | .hbm, ⟨37, _⟩ => ⟨S32768x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x8112 : Shape := ⟨2, ![1024, 8112]⟩
abbrev S8x4096x512 : Shape := ⟨3, ![8, 4096, 512]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S1x1024 : Shape := ⟨2, ![1, 1024]⟩
abbrev S1024x3072 : Shape := ⟨2, ![1024, 3072]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S8x4096x512, .f32⟩
  | .hbm, ⟨4, _⟩ => ⟨S8x4096x512, .f32⟩
  | .hbm, ⟨5, _⟩ => ⟨S8x4096x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S32768x1024, .f32⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x1024, .f32⟩
  | .hbm, ⟨16, _⟩ => ⟨S32768x1024, .bf16⟩
  | .hbm, ⟨17, _⟩ => ⟨S1x1024, .f32⟩
  | .hbm, ⟨18, _⟩ => ⟨S1024x3072, .f32⟩
  | .hbm, ⟨19, _⟩ => ⟨S1024x3072, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S1024x1024, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S1024 : Shape := ⟨1, ![1024]⟩
abbrev S1024x8112 : Shape := ⟨2, ![1024, 8112]⟩
abbrev S8x4096x512 : Shape := ⟨3, ![8, 4096, 512]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8112 : Shape := ⟨3, ![8, 4096, 8112]⟩
abbrev S8x4096x3072 : Shape := ⟨3, ![8, 4096, 3072]⟩
abbrev S8x4096x3x1024 : Shape := ⟨4, ![8, 4096, 3, 1024]⟩
abbrev S8x4096x1x1024 : Shape := ⟨4, ![8, 4096, 1, 1024]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S8x4096x512, .f32⟩
  | .hbm, ⟨4, _⟩ => ⟨S8x4096x512, .f32⟩
  | .hbm, ⟨5, _⟩ => ⟨S8x4096x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x8112, .f32⟩
  | .hbm, ⟨27, _⟩ => ⟨S8x4096x3072, .f32⟩
  | .hbm, ⟨28, _⟩ => ⟨S8x4096x3072, .f32⟩
  | .hbm, ⟨29, _⟩ => ⟨S8x4096x3072, .f32⟩
  | .hbm, ⟨30, _⟩ => ⟨S_, .f32⟩
  | .hbm, ⟨31, _⟩ => ⟨S8x4096x3072, .f32⟩
  | .hbm, ⟨32, _⟩ => ⟨S8x4096x3072, .f32⟩
  | .hbm, ⟨33, _⟩ => ⟨S_, .f32⟩
  | .hbm, ⟨34, _⟩ => ⟨S8x4096x3072, .f32⟩
  | .hbm, ⟨35, _⟩ => ⟨S8x4096x3072, .f32⟩
  | .hbm, ⟨36, _⟩ => ⟨S8x4096x3x1024, .f32⟩
  | .hbm, ⟨37, _⟩ => ⟨S8x4096x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x8112 : Shape := ⟨2, ![1024, 8112]⟩
abbrev S4x1536 : Shape := ⟨2, ![4, 1536]⟩
abbrev S1536 : Shape := ⟨1, ![1536]⟩
abbrev S16 : Shape := ⟨1, ![16]⟩
abbrev S32768x1024 : Shape := ⟨2, ![32768, 1024]⟩
abbrev S1024x2576 : Shape := ⟨2, ![1024, 2576]⟩
abbrev S_ : Shape := ⟨0, ![]⟩
abbrev S1024x2688 : Shape := ⟨2, ![1024, 2688]⟩
abbrev S1x1024 : Shape := ⟨2, ![1, 1024]⟩
abbrev S1x1536 : Shape := ⟨2, ![1, 1536]⟩
abbrev S1x16 : Shape := ⟨2, ![1, 16]⟩
abbrev S1x128 : Shape := ⟨2, ![1, 128]⟩
abbrev S32768x256 : Shape := ⟨2, ![32768, 256]⟩
abbrev S32768x128 : Shape := ⟨2, ![32768, 128]⟩
abbrev S512x1024 : Shape := ⟨2, ![512, 1024]⟩
abbrev S512x256 : Shape := ⟨2, ![512, 256]⟩
abbrev S512x128 : Shape := ⟨2, ![512, 128]⟩
abbrev S8x1536 : Shape := ⟨2, ![8, 1536]⟩
abbrev S512 : Shape := ⟨1, ![512]⟩
abbrev S512x1 : Shape := ⟨2, ![512, 1]⟩
abbrev S8x512 : Shape := ⟨2, ![8, 512]⟩
abbrev S1024x512 : Shape := ⟨2, ![1024, 512]⟩
abbrev S512x512 : Shape := ⟨2, ![512, 512]⟩
abbrev S1x512 : Shape := ⟨2, ![1, 512]⟩
abbrev S504x512 : Shape := ⟨2, ![504, 512]⟩
abbrev S1024x128 : Shape := ⟨2, ![1024, 128]⟩

abbrev nBuf : Space → Nat
  | .hbm => 23
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S32768x1024, .f32⟩
  | .hbm, ⟨7, _⟩ => ⟨S1024x2576, .f32⟩
  | .hbm, ⟨8, _⟩ => ⟨S_, .i32⟩
  | .hbm, ⟨9, _⟩ => ⟨S_, .f32⟩
  | .hbm, ⟨10, _⟩ => ⟨S1024x2688, .f32⟩
  | .hbm, ⟨11, _⟩ => ⟨S1x1024, .f32⟩
  | .hbm, ⟨12, _⟩ => ⟨S1024x2688, .bf16⟩
  | .hbm, ⟨13, _⟩ => ⟨S1x1536, .f32⟩
  | .hbm, ⟨14, _⟩ => ⟨S1x16, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S32768x1024, .f32⟩
  | .hbm, ⟨19, _⟩ => ⟨S32768x1024, .f32⟩
  | .hbm, ⟨20, _⟩ => ⟨S32768x256, .bf16⟩
  | .hbm, ⟨21, _⟩ => ⟨S32768x256, .bf16⟩
  | .hbm, ⟨22, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S4x1536, .f32⟩
  | .local _ .vmem, ⟨5, _⟩ => ⟨S1x1536, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x128, .f32⟩
  | .local _ .vmem, ⟨16, _⟩ => ⟨S512x128, .f32⟩
  | .local _ .vmem, ⟨17, _⟩ => ⟨S8x1536, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x1024 : Shape := ⟨3, ![8, 4096, 1024]⟩
abbrev S1024 : Shape := ⟨1, ![1024]⟩
abbrev S1024x8112 : Shape := ⟨2, ![1024, 8112]⟩
abbrev S4x1536 : Shape := ⟨2, ![4, 1536]⟩
abbrev S1536 : Shape := ⟨1, ![1536]⟩
abbrev S16 : Shape := ⟨1, ![16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8112 : Shape := ⟨3, ![8, 4096, 8112]⟩
abbrev S8x4096x2576 : Shape := ⟨3, ![8, 4096, 2576]⟩
abbrev S8x4096x1536 : Shape := ⟨3, ![8, 4096, 1536]⟩
abbrev S8x4096x16 : Shape := ⟨3, ![8, 4096, 16]⟩
abbrev S8x4099x1536 : Shape := ⟨3, ![8, 4099, 1536]⟩
abbrev S1x1536 : Shape := ⟨2, ![1, 1536]⟩
abbrev S1x1x1536 : Shape := ⟨3, ![1, 1, 1536]⟩
abbrev S8x4096x256 : Shape := ⟨3, ![8, 4096, 256]⟩
abbrev S1x1x16 : Shape := ⟨3, ![1, 1, 16]⟩
abbrev S8x4096x128 : Shape := ⟨3, ![8, 4096, 128]⟩
abbrev S32768x1024 : Shape := ⟨2, ![32768, 1024]⟩
abbrev S32768x256 : Shape := ⟨2, ![32768, 256]⟩
abbrev S32768x128 : Shape := ⟨2, ![32768, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x8112, .f32⟩
  | .hbm, ⟨23, _⟩ => ⟨S8x4096x2576, .f32⟩
  | .hbm, ⟨24, _⟩ => ⟨S8x4096x1024, .f32⟩
  | .hbm, ⟨25, _⟩ => ⟨S8x4096x1536, .f32⟩
  | .hbm, ⟨26, _⟩ => ⟨S8x4096x16, .f32⟩
  | .hbm, ⟨27, _⟩ => ⟨S_, .i32⟩
  | .hbm, ⟨28, _⟩ => ⟨S_, .f32⟩
  | .hbm, ⟨29, _⟩ => ⟨S8x4099x1536, .f32⟩
  | .hbm, ⟨30, _⟩ => ⟨S8x4096x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S8x4096x1536, .f32⟩
  | .hbm, ⟨35, _⟩ => ⟨S8x4096x1536, .f32⟩
  | .hbm, ⟨36, _⟩ => ⟨S1x1x1536, .f32⟩
  | .hbm, ⟨37, _⟩ => ⟨S8x4096x1536, .f32⟩
  | .hbm, ⟨38, _⟩ => ⟨S8x4096x1536, .f32⟩
  | .hbm, ⟨39, _⟩ => ⟨S8x4096x1536, .f32⟩
  | .hbm, ⟨40, _⟩ => ⟨S1x1536, .f32⟩
  | .hbm, ⟨41, _⟩ => ⟨S1536, .f32⟩
  | .hbm, ⟨42, _⟩ => ⟨S1x1x1536, .f32⟩
  | .hbm, ⟨43, _⟩ => ⟨S8x4096x1536, .f32⟩
  | .hbm, ⟨44, _⟩ => ⟨S8x4096x1536, .f32⟩
  | .hbm, ⟨45, _⟩ => ⟨S8x4096x1536, .f32⟩
  | .hbm, ⟨46, _⟩ => ⟨S8x4096x1536, .f32⟩
  | .hbm, ⟨47, _⟩ => ⟨S1x1536, .f32⟩
  | .hbm, ⟨48, _⟩ => ⟨S1536, .f32⟩
  | .hbm, ⟨49, _⟩ => ⟨S1x1x1536, .f32⟩
  | .hbm, ⟨50, _⟩ => ⟨S8x4096x1536, .f32⟩
  | .hbm, ⟨51, _⟩ => ⟨S8x4096x1536, .f32⟩
  | .hbm, ⟨52, _⟩ => ⟨S8x4096x1536, .f32⟩
  | .hbm, ⟨53, _⟩ => ⟨S8x4096x1536, .f32⟩
  | .hbm, ⟨54, _⟩ => ⟨S1x1536, .f32⟩
  | .hbm, ⟨55, _⟩ => ⟨S1536, .f32⟩
  | .hbm, ⟨56, _⟩ => ⟨S1x1x1536, .f32⟩
  | .hbm, ⟨57, _⟩ => ⟨S8x4096x1536, .f32⟩
  | .hbm, ⟨58, _⟩ => ⟨S8x4096x1536, .f32⟩
  | .hbm, ⟨59, _⟩ => ⟨S8x4096x1536, .f32⟩
  | .hbm, ⟨60, _⟩ => ⟨S8x4096x1536, .f32⟩
  | .hbm, ⟨61, _⟩ => ⟨S8x4096x1536, .f32⟩
  | .hbm, ⟨62, _⟩ => ⟨S_, .f32⟩
  | .hbm, ⟨63, _⟩ => ⟨S8x4096x1536, .f32⟩
  | .hbm, ⟨64, _⟩ => ⟨S8x4096x1536, .f32⟩
  | .hbm, ⟨65, _⟩ => ⟨S_, .f32⟩
  | .hbm, ⟨66, _⟩ => ⟨S8x4096x1536, .f32⟩
  | .hbm, ⟨67, _⟩ => ⟨S8x4096x1536, .f32⟩
  | .hbm, ⟨68, _⟩ => ⟨S8x4096x1536, .f32⟩
  | .hbm, ⟨69, _⟩ => ⟨S8x4096x1024, .f32⟩
  | .hbm, ⟨70, _⟩ => ⟨S8x4096x256, .f32⟩
  | .hbm, ⟨71, _⟩ => ⟨S8x4096x256, .f32⟩
  | .hbm, ⟨72, _⟩ => ⟨S1x1x16, .f32⟩
  | .hbm, ⟨73, _⟩ => ⟨S8x4096x16, .f32⟩
  | .hbm, ⟨74, _⟩ => ⟨S8x4096x16, .f32⟩
  | .hbm, ⟨75, _⟩ => ⟨S_, .i32⟩
  | .hbm, ⟨76, _⟩ => ⟨S_, .f32⟩
  | .hbm, ⟨77, _⟩ => ⟨S8x4096x128, .f32⟩
  | .hbm, ⟨78, _⟩ => ⟨S_, .f32⟩
  | .hbm, ⟨79, _⟩ => ⟨S8x4096x128, .f32⟩
  | .hbm, ⟨80, _⟩ => ⟨S8x4096x128, .f32⟩
  | .hbm, ⟨81, _⟩ => ⟨S8x4096x128, .f32⟩
  | .hbm, ⟨82, _⟩ => ⟨S8x4096x128, .f32⟩
  | .hbm, ⟨83, _⟩ => ⟨S8x4096x128, .i1⟩
  | .hbm, ⟨84, _⟩ => ⟨S8x4096x128, .f32⟩
  | .hbm, ⟨85, _⟩ => ⟨S8x4096x128, .f32⟩
  | .hbm, ⟨86, _⟩ => ⟨S8x4096x128, .f32⟩
  | .hbm, ⟨87, _⟩ => ⟨S8x4096x128, .f32⟩
  | .hbm, ⟨88, _⟩ => ⟨S8x4096x128, .f32⟩
  | .hbm, ⟨89, _⟩ => ⟨S8x4096x128, .f32⟩
  | .hbm, ⟨90, _⟩ => ⟨S8x4096x128, .f32⟩
  | .hbm, ⟨91, _⟩ => ⟨S8x4096x128, .f32⟩
  | .hbm, ⟨92, _⟩ => ⟨S32768x1024, .f32⟩
  | .hbm, ⟨93, _⟩ => ⟨S32768x1024, .f32⟩
  | .hbm, ⟨94, _⟩ => ⟨S32768x256, .f32⟩
  | .hbm, ⟨95, _⟩ => ⟨S32768x256, .bf16⟩
  | .hbm, ⟨96, _⟩ => ⟨S32768x256, .f32⟩
  | .hbm, ⟨97, _⟩ => ⟨S32768x256, .bf16⟩
  | .hbm, ⟨98, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_2 : Ref sig .tc := ⟨.hbm, 75, rfl⟩
abbrev main_call2_v0 : Ref sig .tc := ⟨.hbm, 76, rfl⟩
abbrev main_v56 : Ref sig .tc := ⟨.hbm, 77, rfl⟩
abbrev main_call3_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x8112 : Shape := ⟨2, ![1024, 8112]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x4096x512 : Shape := ⟨3, ![8, 4096, 512]⟩
abbrev S512x32 : Shape := ⟨2, ![512, 32]⟩
abbrev S32x512 : Shape := ⟨2, ![32, 512]⟩
abbrev S32768x1024 : Shape := ⟨2, ![32768, 1024]⟩
abbrev S1x1024 : Shape := ⟨2, ![1, 1024]⟩
abbrev S1024x1792 : Shape := ⟨2, ![1024, 1792]⟩
abbrev S1x1792 : Shape := ⟨2, ![1, 1792]⟩
abbrev S1x512 : Shape := ⟨2, ![1, 512]⟩
abbrev S_ : Shape := ⟨0, ![]⟩
abbrev S32768x512 : Shape := ⟨2, ![32768, 512]⟩
abbrev S512x128 : Shape := ⟨2, ![512, 128]⟩
abbrev S512x1024 : Shape := ⟨2, ![512, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S1024x512 : Shape := ⟨2, ![1024, 512]⟩

abbrev nBuf : Space → Nat
  | .hbm => 45
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S8x4096x512, .f32⟩
  | .hbm, ⟨10, _⟩ => ⟨S512, .f32⟩
  | .hbm, ⟨11, _⟩ => ⟨S512x32, .f32⟩
  | .hbm, ⟨12, _⟩ => ⟨S32x512, .f32⟩
  | .hbm, ⟨13, _⟩ => ⟨S32768x1024, .f32⟩
  | .hbm, ⟨14, _⟩ => ⟨S1x1024, .f32⟩
  | .hbm, ⟨15, _⟩ => ⟨S1024x1792, .f32⟩
  | .hbm, ⟨16, _⟩ => ⟨S1024x1792, .bf16⟩
  | .hbm, ⟨17, _⟩ => ⟨S1x1792, .f32⟩
  | .hbm, ⟨18, _⟩ => ⟨S1x512, .f32⟩
  | .hbm, ⟨19, _⟩ => ⟨S_, .i32⟩
  | .hbm, ⟨20, _⟩ => ⟨S_, .f32⟩
  | .hbm, ⟨21, _⟩ => ⟨S128x512, .f32⟩
  | .hbm, ⟨22, _⟩ => ⟨S128x512, .bf16⟩
  | .hbm, ⟨23, _⟩ => ⟨S1x512, .f32⟩
  | .hbm, ⟨24, _⟩ => ⟨S_, .i32⟩
  | .hbm, ⟨25, _⟩ => ⟨S_, .f32⟩
  | .hbm, ⟨26, _⟩ => ⟨S128x512, .f32⟩
  | .hbm, ⟨27, _⟩ => ⟨S128x512, .bf16⟩
  | .hbm, ⟨28, _⟩ => ⟨S128x512, .bf16⟩
  | .hbm, ⟨29, _⟩ => ⟨S32768x512, .f32⟩
  | .hbm, ⟨30, _⟩ => ⟨S1x512, .f32⟩
  | .hbm, ⟨31, _⟩ => ⟨S_, .i32⟩
  | .hbm, ⟨32, _⟩ => ⟨S_, .f32⟩
  | .hbm, ⟨33, _⟩ => ⟨S512x128, .f32⟩
  | .hbm, ⟨34, _⟩ => ⟨S512x128, .bf16⟩
  | .hbm, ⟨35, _⟩ => ⟨S_, .i32⟩
  | .hbm, ⟨36, _⟩ => ⟨S_, .f32⟩
  | .hbm, ⟨37, _⟩ => ⟨S128x512, .f32⟩
  | .hbm, ⟨38, _⟩ => ⟨S128x512, .bf16⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x1792, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x128, .bf16⟩
  | .local _ .vmem, ⟨14, _⟩ => ⟨S128x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x1792, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_call3_v0 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v18_3 : Ref sig .tc := ⟨.hbm, 42, rfl⟩
abbrev main_v18_4 : Ref sig .tc := ⟨.hbm, 43, rfl⟩
abbrev main_v18_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S8x4096x1024 : Shape := ⟨3, ![8, 4096, 1024]⟩
abbrev S1024 : Shape := ⟨1, ![1024]⟩
abbrev S1024x8112 : Shape := ⟨2, ![1024, 8112]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x4096x512 : Shape := ⟨3, ![8, 4096, 512]⟩
abbrev S512x32 : Shape := ⟨2, ![512, 32]⟩
abbrev S32x512 : Shape := ⟨2, ![32, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8112 : Shape := ⟨3, ![8, 4096, 8112]⟩
abbrev S8x4096x1792 : Shape := ⟨3, ![8, 4096, 1792]⟩
abbrev S8x4095x1792 : Shape := ⟨3, ![8, 4095, 1792]⟩
abbrev S1x1x1792 : Shape := ⟨3, ![1, 1, 1792]⟩
abbrev S8x4096x64 : Shape := ⟨3, ![8, 4096, 64]⟩
abbrev S8x4096x128 : Shape := ⟨3, ![8, 4096, 128]⟩
abbrev S1x1x512 : Shape := ⟨3, ![1, 1, 512]⟩
abbrev S8x4096x32 : Shape := ⟨3, ![8, 4096, 32]⟩
abbrev S32768x512 : Shape := ⟨2, ![32768, 512]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S8x4096x512, .f32⟩
  | .hbm, ⟨10, _⟩ => ⟨S512, .f32⟩
  | .hbm, ⟨11, _⟩ => ⟨S512x32, .f32⟩
  | .hbm, ⟨12, _⟩ => ⟨S32x512, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x4096x8112, .f32⟩
  | .hbm, ⟨30, _⟩ => ⟨S8x4096x1792, .f32⟩
  | .hbm, ⟨31, _⟩ => ⟨S8x4095x1792, .f32⟩
  | .hbm, ⟨32, _⟩ => ⟨S_, .i32⟩
  | .hbm, ⟨33, _⟩ => ⟨S_, .f32⟩
  | .hbm, ⟨34, _⟩ => ⟨S8x4096x1792, .f32⟩
  | .hbm, ⟨35, _⟩ => ⟨S8x4096x1792, .f32⟩
  | .hbm, ⟨36, _⟩ => ⟨S1x1x1792, .f32⟩
  | .hbm, ⟨37, _⟩ => ⟨S8x4096x1792, .f32⟩
  | .hbm, ⟨38, _⟩ => ⟨S8x4096x1792, .f32⟩
  | .hbm, ⟨39, _⟩ => ⟨S8x4096x1792, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S8x4096x64, .f32⟩
  | .hbm, ⟨44, _⟩ => ⟨S8x4096x64, .f32⟩
  | .hbm, ⟨45, _⟩ => ⟨S8x4096x128, .f32⟩
  | .hbm, ⟨46, _⟩ => ⟨S8x4096x64, .f32⟩
  | .hbm, ⟨47, _⟩ => ⟨S8x4096x512, .f32⟩
  | .hbm, ⟨48, _⟩ => ⟨S1x1x512, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S_, .f32⟩
  | .hbm, ⟨53, _⟩ => ⟨S8x4096x512, .f32⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S8x4096x512, .i1⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S8x4096x512, .f32⟩
  | .hbm, ⟨63, _⟩ => ⟨S8x4096x512, .f32⟩
  | .hbm, ⟨64, _⟩ => ⟨S8x4096x512, .f32⟩
  | .hbm, ⟨65, _⟩ => ⟨S8x4096x512, .f32⟩
  | .hbm, ⟨66, _⟩ => ⟨S8x4096x512, .f32⟩
  | .hbm, ⟨67, _⟩ => ⟨S_, .f32⟩
  | .hbm, ⟨68, _⟩ => ⟨S8x4096x512, .f32⟩
  | .hbm, ⟨69, _⟩ => ⟨S8x4096x512, .f32⟩
  | .hbm, ⟨70, _⟩ => ⟨S8x4096x512, .f32⟩
  | .hbm, ⟨71, _⟩ => ⟨S8x4096x32, .f32⟩
  | .hbm, ⟨72, _⟩ => ⟨S8x4096x512, .f32⟩
  | .hbm, ⟨73, _⟩ => ⟨S1x1x512, .f32⟩
  | .hbm, ⟨74, _⟩ => ⟨S8x4096x512, .f32⟩
  | .hbm, ⟨75, _⟩ => ⟨S8x4096x512, .f32⟩
  | .hbm, ⟨76, _⟩ => ⟨S8x4096x512, .f32⟩
  | .hbm, ⟨77, _⟩ => ⟨S8x4096x512, .f32⟩
  | .hbm, ⟨78, _⟩ => ⟨S_, .f32⟩
  | .hbm, ⟨79, _⟩ => ⟨S8x4096x512, .f32⟩
  | .hbm, ⟨80, _⟩ => ⟨S8x4096x512, .f32⟩
  | .hbm, ⟨81, _⟩ => ⟨S_, .f32⟩
  | .hbm, ⟨82, _⟩ => ⟨S8x4096x512, .f32⟩
  | .hbm, ⟨83, _⟩ => ⟨S8x4096x512, .f32⟩
  | .hbm, ⟨84, _⟩ => ⟨S8x4096x512, .f32⟩
  | .hbm, ⟨85, _⟩ => ⟨S8x4096x512, .f32⟩
  | .hbm, ⟨86, _⟩ => ⟨S8x4096x512, .f32⟩
  | .hbm, ⟨87, _⟩ => ⟨S1x1x512, .f32⟩
  | .hbm, ⟨88, _⟩ => ⟨S8x4096x512, .f32⟩
  | .hbm, ⟨89, _⟩ => ⟨S8x4096x512, .f32⟩
  | .hbm, ⟨90, _⟩ => ⟨S8x4096x512, .f32⟩
  | .hbm, ⟨91, _⟩ => ⟨S8x4096x512, .f32⟩
  | .hbm, ⟨92, _⟩ => ⟨S_, .f32⟩
  | .hbm, ⟨93, _⟩ => ⟨S8x4096x512, .f32⟩
  | .hbm, ⟨94, _⟩ => ⟨S8x4096x512, .f32⟩
  | .hbm, ⟨95, _⟩ => ⟨S_, .f32⟩
  | .hbm, ⟨96, _⟩ => ⟨S8x4096x512, .f32⟩
  | .hbm, ⟨97, _⟩ => ⟨S8x4096x512, .f32⟩
  | .hbm, ⟨98, _⟩ => ⟨S8x4096x128, .f32⟩
  | .hbm, ⟨99, _⟩ => ⟨S8x4096x128, .f32⟩
  | .hbm, ⟨100, _⟩ => ⟨S_, .f32⟩
  | .hbm, ⟨101, _⟩ => ⟨S8x4096x128, .f32⟩
  | .hbm, ⟨102, _⟩ => ⟨S8x4096x128, .f32⟩
  | .hbm, ⟨103, _⟩ => ⟨S_, .f32⟩
  | .hbm, ⟨104, _⟩ => ⟨S8x4096x128, .f32⟩
  | .hbm, ⟨105, _⟩ => ⟨S8x4096x128, .f32⟩
  | .hbm, ⟨106, _⟩ => ⟨S8x4096x512, .f32⟩
  | .hbm, ⟨107, _⟩ => ⟨S8x4096x512, .f32⟩
  | .hbm, ⟨108, _⟩ => ⟨S8x4096x512, .f32⟩
  | .hbm, ⟨109, _⟩ => ⟨S32768x512, .f32⟩
  | .hbm, ⟨110, _⟩ => ⟨S32768x512, .f32⟩
  | .hbm, ⟨111, _⟩ => ⟨S32768x512, .f32⟩
  | .hbm, ⟨112, _⟩ => ⟨S32768x512, .f32⟩
  | .hbm, ⟨113, _⟩ => ⟨S32768x512, .f32⟩
  | .hbm, ⟨114, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_3 : Ref sig .tc := ⟨.hbm, 78, rfl⟩
abbrev main_v46 : Ref sig .tc := ⟨.hbm, 79, rfl⟩
abbrev main_v47 : Ref sig .tc := ⟨.hbm, 80, rfl⟩
abbrev main_cst_4 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_5 : Ref sig .tc := ⟨.hbm, 92, rfl⟩
abbrev main_v58 : Ref sig .tc := ⟨.hbm, 93, rfl⟩
abbrev main_v59 : Ref sig .tc := ⟨.hbm, 94, rfl⟩
abbrev main_cst_6 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_7 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S1024x8112 : Shape := ⟨2, ![1024, 8112]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S32768x1024 : Shape := ⟨2, ![32768, 1024]⟩
abbrev S1x1024 : Shape := ⟨2, ![1, 1024]⟩
abbrev S1024x1792 : Shape := ⟨2, ![1024, 1792]⟩
abbrev S1x1792 : Shape := ⟨2, ![1, 1792]⟩
abbrev S1x512 : Shape := ⟨2, ![1, 512]⟩
abbrev S_ : Shape := ⟨0, ![]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1024x512 : Shape := ⟨2, ![1024, 512]⟩

abbrev nBuf : Space → Nat
  | .hbm => 31
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S32768x1024, .f32⟩
  | .hbm, ⟨10, _⟩ => ⟨S1x1024, .f32⟩
  | .hbm, ⟨11, _⟩ => ⟨S1024x1792, .f32⟩
  | .hbm, ⟨12, _⟩ => ⟨S1024x1792, .bf16⟩
  | .hbm, ⟨13, _⟩ => ⟨S1x1792, .f32⟩
  | .hbm, ⟨14, _⟩ => ⟨S1x512, .f32⟩
  | .hbm, ⟨15, _⟩ => ⟨S_, .i32⟩
  | .hbm, ⟨16, _⟩ => ⟨S_, .f32⟩
  | .hbm, ⟨17, _⟩ => ⟨S128x512, .f32⟩
  | .hbm, ⟨18, _⟩ => ⟨S128x512, .bf16⟩
  | .hbm, ⟨19, _⟩ => ⟨S1x512, .f32⟩
  | .hbm, ⟨20, _⟩ => ⟨S_, .i32⟩
  | .hbm, ⟨21, _⟩ => ⟨S_, .f32⟩
  | .hbm, ⟨22, _⟩ => ⟨S128x512, .f32⟩
  | .hbm, ⟨23, _⟩ => ⟨S128x512, .bf16⟩
  | .hbm, ⟨24, _⟩ => ⟨S128x512, .bf16⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x1792, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S1x1792, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S8x4096x1024 : Shape := ⟨3, ![8, 4096, 1024]⟩
abbrev S1024 : Shape := ⟨1, ![1024]⟩
abbrev S1024x8112 : Shape := ⟨2, ![1024, 8112]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8112 : Shape := ⟨3, ![8, 4096, 8112]⟩
abbrev S8x4096x1792 : Shape := ⟨3, ![8, 4096, 1792]⟩
abbrev S8x4095x1792 : Shape := ⟨3, ![8, 4095, 1792]⟩
abbrev S1x1x1792 : Shape := ⟨3, ![1, 1, 1792]⟩
abbrev S8x4096x512 : Shape := ⟨3, ![8, 4096, 512]⟩
abbrev S8x4096x64 : Shape := ⟨3, ![8, 4096, 64]⟩
abbrev S8x4096x128 : Shape := ⟨3, ![8, 4096, 128]⟩
abbrev S1x1x512 : Shape := ⟨3, ![1, 1, 512]⟩
abbrev S32768x512 : Shape := ⟨2, ![32768, 512]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x8112, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x8112, .f32⟩
  | .hbm, ⟨26, _⟩ => ⟨S8x4096x1792, .f32⟩
  | .hbm, ⟨27, _⟩ => ⟨S8x4095x1792, .f32⟩
  | .hbm, ⟨28, _⟩ => ⟨S_, .i32⟩
  | .hbm, ⟨29, _⟩ => ⟨S_, .f32⟩
  | .hbm, ⟨30, _⟩ => ⟨S8x4096x1792, .f32⟩
  | .hbm, ⟨31, _⟩ => ⟨S8x4096x1792, .f32⟩
  | .hbm, ⟨32, _⟩ => ⟨S1x1x1792, .f32⟩
  | .hbm, ⟨33, _⟩ => ⟨S8x4096x1792, .f32⟩
  | .hbm, ⟨34, _⟩ => ⟨S8x4096x1792, .f32⟩
  | .hbm, ⟨35, _⟩ => ⟨S8x4096x1792, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x64, .f32⟩
  | .hbm, ⟨40, _⟩ => ⟨S8x4096x64, .f32⟩
  | .hbm, ⟨41, _⟩ => ⟨S8x4096x128, .f32⟩
  | .hbm, ⟨42, _⟩ => ⟨S8x4096x64, .f32⟩
  | .hbm, ⟨43, _⟩ => ⟨S8x4096x512, .f32⟩
  | .hbm, ⟨44, _⟩ => ⟨S1x1x512, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S_, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S8x4096x512, .f32⟩
  | .hbm, ⟨53, _⟩ => ⟨S8x4096x512, .i1⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S8x4096x512, .f32⟩
  | .hbm, ⟨63, _⟩ => ⟨S_, .f32⟩
  | .hbm, ⟨64, _⟩ => ⟨S8x4096x512, .f32⟩
  | .hbm, ⟨65, _⟩ => ⟨S8x4096x512, .f32⟩
  | .hbm, ⟨66, _⟩ => ⟨S8x4096x512, .f32⟩
  | .hbm, ⟨67, _⟩ => ⟨S1x1x512, .f32⟩
  | .hbm, ⟨68, _⟩ => ⟨S8x4096x512, .f32⟩
  | .hbm, ⟨69, _⟩ => ⟨S8x4096x512, .f32⟩
  | .hbm, ⟨70, _⟩ => ⟨S8x4096x512, .f32⟩
  | .hbm, ⟨71, _⟩ => ⟨S8x4096x512, .f32⟩
  | .hbm, ⟨72, _⟩ => ⟨S_, .f32⟩
  | .hbm, ⟨73, _⟩ => ⟨S8x4096x512, .f32⟩
  | .hbm, ⟨74, _⟩ => ⟨S8x4096x512, .f32⟩
  | .hbm, ⟨75, _⟩ => ⟨S_, .f32⟩
  | .hbm, ⟨76, _⟩ => ⟨S8x4096x512, .f32⟩
  | .hbm, ⟨77, _⟩ => ⟨S8x4096x512, .f32⟩
  | .hbm, ⟨78, _⟩ => ⟨S8x4096x128, .f32⟩
  | .hbm, ⟨79, _⟩ => ⟨S8x4096x128, .f32⟩
  | .hbm, ⟨80, _⟩ => ⟨S_, .f32⟩
  | .hbm, ⟨81, _⟩ => ⟨S8x4096x128, .f32⟩
  | .hbm, ⟨82, _⟩ => ⟨S8x4096x128, .f32⟩
  | .hbm, ⟨83, _⟩ => ⟨S_, .f32⟩
  | .hbm, ⟨84, _⟩ => ⟨S8x4096x128, .f32⟩
  | .hbm, ⟨85, _⟩ => ⟨S8x4096x128, .f32⟩
  | .hbm, ⟨86, _⟩ => ⟨S8x4096x512, .f32⟩
  | .hbm, ⟨87, _⟩ => ⟨S8x4096x512, .f32⟩
  | .hbm, ⟨88, _⟩ => ⟨S8x4096x512, .f32⟩
  | .hbm, ⟨89, _⟩ => ⟨S32768x512, .f32⟩
  | .hbm, ⟨90, _⟩ => ⟨S32768x512, .f32⟩
  | .hbm, ⟨91, _⟩ => ⟨S32768x512, .f32⟩
  | .hbm, ⟨92, _⟩ => ⟨S32768x512, .f32⟩
  | .hbm, ⟨93, _⟩ => ⟨S32768x512, .f32⟩
  | .hbm, ⟨94, _⟩ => ⟨S32768x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v34 : Ref sig .tc := ⟨.hbm, 61, rfl⟩
abbrev main_v35 : Ref sig .tc := ⟨.hbm, 62, rfl⟩
abbrev main_cst_2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_3 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_cst_6 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel7.lean ====
abbrev S8x4096 : Shape := ⟨2, ![8, 4096]⟩
abbrev S16 : Shape := ⟨1, ![16]⟩
abbrev S_ : Shape := ⟨0, ![]⟩
abbrev S4096x8x1 : Shape := ⟨3, ![4096, 8, 1]⟩
abbrev S4096x8x16 : Shape := ⟨3, ![4096, 8, 16]⟩
abbrev S4096x128 : Shape := ⟨2, ![4096, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S512x128 : Shape := ⟨2, ![512, 128]⟩

abbrev nBuf : Space → Nat
  | .hbm => 18
  | .vmem => 7
  | .smem => 0
  | _ => 0

abbrev bufTy : (tb : Table) → Fin (tcTables nBuf tb) → BufTy
  | .hbm, ⟨0, _⟩ => ⟨S8x4096, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S4096x8x1, .i32⟩
  | .hbm, ⟨10, _⟩ => ⟨S4096x8x16, .i32⟩
  | .hbm, ⟨11, _⟩ => ⟨S4096x128, .i32⟩
  | .hbm, ⟨12, _⟩ => ⟨S1x16, .f32⟩
  | .hbm, ⟨13, _⟩ => ⟨S8x16, .f32⟩
  | .hbm, ⟨14, _⟩ => ⟨S128, .f32⟩
  | .hbm, ⟨15, _⟩ => ⟨S1x128, .f32⟩
  | .hbm, ⟨16, _⟩ => ⟨S4096x128, .f32⟩
  | .hbm, ⟨17, _⟩ => ⟨S4096x128, .f32⟩
  | .local _ .vmem, ⟨0, _⟩ => ⟨S512x128, .i32⟩
  | .local _ .vmem, ⟨1, _⟩ => ⟨S512x128, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x4096 : Shape := ⟨2, ![8, 4096]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S4096x128 : Shape := ⟨2, ![4096, 128]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S8x4096, .f32⟩
  | .hbm, ⟨10, _⟩ => ⟨S8x4096x1, .f32⟩
  | .hbm, ⟨11, _⟩ => ⟨S1x1x16, .f32⟩
  | .hbm, ⟨12, _⟩ => ⟨S8x4096x16, .f32⟩
  | .hbm, ⟨13, _⟩ => ⟨S8x4096x16, .f32⟩
  | .hbm, ⟨14, _⟩ => ⟨S8x4096x16, .f32⟩
  | .hbm, ⟨15, _⟩ => ⟨S8x4096x16, .f32⟩
  | .hbm, ⟨16, _⟩ => ⟨S4096x128, .f32⟩
  | .hbm, ⟨17, _⟩ => ⟨S8x4096x16, .f32⟩
  | .hbm, ⟨18, _⟩ => ⟨S4096x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Rows.lean ====
module
public import proofs.«01_k».proof.Proof.Gen.KernelIdeal.Value
public import Idealize.ShloMosaic.Lib.Pipeline.ValueKit
public import Idealize.ShloMosaic.Lib.WritesUnit
@[expose] public section
set_option maxRecDepth 16384
noncomputable section
namespace Cert.KernelIdeal.Rows
open Cert.KernelIdeal Cert.KernelIdeal.Gen
open Idealize.ShloMosaic Idealize.ShloMosaic.TcCoe Idealize.SL.Sem

/-! # What the scratch of one head holds after the kernel's stores

The kernel keeps, for each of eight heads, one row of running maxima and one tile of running sums. Every store and
every load of them is at one head, so a load of a head sees only the stores made at that head. -/

section Reads
variable {sig' : RefSig} {κ : Kind} {sp : Space} {s : Shape} {e : EltTy} {Val : EltTy → Type}

/-- A load whose box is apart from the last store's box on one axis sees the earlier stores. -/
theorem load_skip (v : View sig' κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  refine View.read_writes_cons_unit_of_not_mem v f inb' w L _ rfl a ?_
  have hy : (y a).val < size a := (y a).isLt
  have : (((Rect.unit off size inb).toLoadRect.idx y) a).val = off a + 1 * (y a).val := rfl
  omega

/-- A load of the last store's own box sees what was stored. -/
theorem load_same (v : View sig' κ sp s e) (f : v.ty.Contents Val) {off size : Fin s.rank → ℕ}
    (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w := by
  funext y
  exact View.read_writes_cons_unit_of_mem v f inb' w L _ y rfl fun a => by
    show off a + 1 * (y a).val = _
    omega

/-- A load inside the last store's box sees the part of what was stored. -/
theorem load_within (v : View sig' κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (y : (Rect.unit off size inb).shape.Idx) (x : (Rect.unit off' size' inb').shape.Idx)
    (h : ∀ a, off a + (y a).val = off' a + (x a).val) :
    v.readAt Val (Rect.unit off size inb).toLoadRect (v.writes Val f (⟨Rect.unit off' size' inb', w⟩ :: L)) y = w x :=
  View.read_writes_cons_unit_of_mem v f inb' w L _ x rfl fun a => by
    show off a + 1 * (y a).val = _
    have := h a
    omega

end Reads

/-! ## One head's step on a block of keys -/
section Step
variable {F : FTy → Type} [FloatOps F]

/-- The running maxima after a block of keys with scores `s`. -/
def mNew (s : FVec F S256x512 .f32) (m : Vec F S1x1x512 .f32) : Vec F S1x1x512 .f32 := k0_pay14 s m
/-- The running sums after a block of keys with scores `s` and values `v`, the maxima before it being `m`. -/
def aNew (s : FVec F S256x512 .f32) (m : Vec F S1x1x512 .f32) (v : Vec F S256x128 .bf16) (a : Vec F S1x72x512 .f32) :
    Vec F S1x72x512 .f32 := k0_pay52 (k0_pay13 s m) (k0_pay15 s m) v a
end Step

variable {F : FTy → Type} [FloatOps F]

section Trip
variable (i : grid0.Coords) (k : Fin (k0_t1_loop i).trips)

/-- Where the keys of head `h` begin in the tile of trip `k`: rows from `512 k + c`, columns from `128 h`. -/
def tOff (c : BitVec 32) : Fin 8 → Fin 2 → ℕ :=
  ![k0_off1 i k c, k0_off2 i k c, k0_off3 i k c, k0_off4 i k c, k0_off5 i k c, k0_off6 i k c, k0_off7 i k c, k0_off8 i k c]

theorem tOff_eq (r : Fin 2) (h : Fin 8) : tOff i k (BitVec.ofNat 32 (256 * r.val)) h = ![512 * k.val + 256 * r.val, 128 * h.val] := by
  fin_cases h
  · exact k0_off1_eq i k r
  · exact k0_off2_eq i k r
  · exact k0_off3_eq i k r
  · exact k0_off4_eq i k r
  · exact k0_off5_eq i k r
  · exact k0_off6_eq i k r
  · exact k0_off7_eq i k r
  · exact k0_off8_eq i k r

theorem trip_lt : k.val < 7 := lt_of_lt_of_le k.isLt (k0_t1_abs i).2.1

theorem tOff_inb (r : Fin 2) (h : Fin 8) : ∀ a, tOff i k (BitVec.ofNat 32 (256 * r.val)) h a + S256x128.size a ≤ S4096x1024.size a := by
  rw [tOff_eq]
  have := trip_lt i k
  have := h.isLt
  have := r.isLt
  refine Fin.forall_fin_two.mpr ⟨?_, ?_⟩
  · show 512 * k.val + 256 * r.val + 256 ≤ 4096
    omega
  · show 128 * h.val + 128 ≤ 1024
    omega

/-- Head `h`'s key (or value) rows in the half `r` of trip `k`'s tile. -/
def tBlk (arg4 : Memref sig .tc .vmem S4096x1024 .bf16) (X : arg4.view.ty.Contents (Elt F)) (r : Fin 2) (h : Fin 8) : Vec F S256x128 .bf16 :=
  View.readAt (Elt F) arg4.view (Rect.unit (s := S4096x1024) (tOff i k (BitVec.ofNat 32 (256 * r.val)) h) S256x128.size (tOff_inb i k r h)).toLoadRect X
end Trip

theorem qInb (h : Fin 8) : ∀ a, (![0, 128 * h.val] : Fin 2 → ℕ) a + S512x128.size a ≤ S512x1024.size a :=
  Fin.forall_fin_two.mpr ⟨by decide +revert, by revert h; decide⟩

/-- Head `h`'s queries. -/
def qBlk (arg3 : Memref sig .tc .vmem S512x1024 .bf16) (X : arg3.view.ty.Contents (Elt F)) (h : Fin 8) : Vec F S512x128 .bf16 :=
  View.readAt (Elt F) arg3.view (Rect.unit (s := S512x1024) ![0, 128 * h.val] S512x128.size (qInb h)).toLoadRect X

theorem mInb (h : Fin 8) : ∀ a, (![h.val, 0, 0] : Fin 3 → ℕ) a + S1x1x512.size a ≤ S8x1x512.size a := by revert h; decide
theorem aInb (h : Fin 8) : ∀ a, (![h.val, 0, 0] : Fin 3 → ℕ) a + S1x72x512.size a ≤ S8x72x512.size a := by revert h; decide

/-- Head `h`'s running maxima. -/
def mRow (arg7 : Memref sig .tc .vmem S8x1x512 .f32) (f : arg7.view.ty.Contents (Elt F)) (h : Fin 8) : Vec F S1x1x512 .f32 :=
  View.readAt (Elt F) arg7.view (Rect.unit (s := S8x1x512) ![h.val, 0, 0] S1x1x512.size (mInb h)).toLoadRect f
/-- Head `h`'s running sums. -/
def aRow (arg8 : Memref sig .tc .vmem S8x72x512 .f32) (f : arg8.view.ty.Contents (Elt F)) (h : Fin 8) : Vec F S1x72x512 .f32 :=
  View.readAt (Elt F) arg8.view (Rect.unit (s := S8x72x512) ![h.val, 0, 0] S1x72x512.size (aInb h)).toLoadRect f

end Cert.KernelIdeal.Rows
-- ==== Proof.Trip.lean ====
module
public import proofs.«01_k».proof.Proof.Rows
@[expose] public section
set_option maxRecDepth 16384
noncomputable section
namespace Cert.KernelIdeal.Rows
open Cert.KernelIdeal Cert.KernelIdeal.Gen
open Idealize.ShloMosaic Idealize.ShloMosaic.TcCoe Idealize.SL.Sem
variable {F : FTy → Type} [FloatOps F]
variable (𝒱 : Variants) (c : Dev nD) (bd : Option 𝒱.V) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x72x512 .f32) (harg8 : arg8.IsWhole)
  (X3 : arg3.view.ty.Contents (Elt F)) (X4 : arg4.view.ty.Contents (Elt F)) (X5 : arg5.view.ty.Contents (Elt F))
  (k : Fin (k0_t1_loop i).trips)

/-- The scores of half `r` of trip `k`'s tile. -/
def tSc (r : Fin 2) (h : Fin 8) : FVec F S256x512 .f32 := k0_pay2 (tBlk i k arg4 X4 r h) (qBlk arg3 X3 h)

set_option maxHeartbeats 800000 in
/-- After the first half of the tile, every head's maxima have taken its keys in. -/
theorem mid_m (f7 : arg7.view.ty.Contents (Elt F)) (h : Fin 8) :
    (![trip_k0_t1.sl.v997 i arg3 arg4 arg7 X3 X4 k f7, trip_k0_t1.sl.v1011 i arg3 arg4 arg7 X3 X4 k f7, trip_k0_t1.sl.v1025 i arg3 arg4 arg7 X3 X4 k f7, trip_k0_t1.sl.v1039 i arg3 arg4 arg7 X3 X4 k f7, trip_k0_t1.sl.v1053 i arg3 arg4 arg7 X3 X4 k f7, trip_k0_t1.sl.v1067 i arg3 arg4 arg7 X3 X4 k f7, trip_k0_t1.sl.v1081 i arg3 arg4 arg7 X3 X4 k f7, trip_k0_t1.sl.v1095 i arg3 arg4 arg7 X3 X4 k f7] : Fin 8 → Vec F S1x1x512 .f32) h
      = mNew (tSc i arg3 arg4 X3 X4 k 0 h) (mRow arg7 f7 h) := by
  fin_cases h
  all_goals
    dsimp only [Matrix.cons_val]
    simp only [trip_k0_t1.sl.v997, trip_k0_t1.sl.v1011, trip_k0_t1.sl.v1025, trip_k0_t1.sl.v1039, trip_k0_t1.sl.v1053, trip_k0_t1.sl.v1067,
      trip_k0_t1.sl.v1081, trip_k0_t1.sl.v1095]
    unfold View.readCov
    simp only [trip_k0_t1.sl.HW_arg7_15, trip_k0_t1.sl.HW_arg7_14, trip_k0_t1.sl.HW_arg7_13, trip_k0_t1.sl.HW_arg7_12, trip_k0_t1.sl.HW_arg7_11,
      trip_k0_t1.sl.HW_arg7_10, trip_k0_t1.sl.HW_arg7_9, trip_k0_t1.sl.HW_arg7_8]
    repeat first
      | rw [load_same]
      | rw [load_skip (a := (0 : Fin 3)) (h := by decide)]
    simp only [trip_k0_t1.sl.v758, trip_k0_t1.sl.r_19, trip_k0_t1.sl.r_64, trip_k0_t1.sl.v744, trip_k0_t1.sl.r_17, trip_k0_t1.sl.r_32, trip_k0_t1.sl.r_56,
      trip_k0_t1.sl.v814, trip_k0_t1.sl.r_4, trip_k0_t1.sl.v897, trip_k0_t1.sl.v871, trip_k0_t1.sl.r_44, trip_k0_t1.sl.r_7,
      trip_k0_t1.sl.r_16, trip_k0_t1.sl.r_24, trip_k0_t1.sl.r_11, trip_k0_t1.sl.v772, trip_k0_t1.sl.r_57, trip_k0_t1.sl.r_29,
      trip_k0_t1.sl.r_14, trip_k0_t1.sl.r_33, trip_k0_t1.sl.r_20, trip_k0_t1.sl.r_58, trip_k0_t1.sl.r_31, trip_k0_t1.sl.r_8,
      trip_k0_t1.sl.r_48, trip_k0_t1.sl.r_46, trip_k0_t1.sl.r_50, trip_k0_t1.sl.r_63, trip_k0_t1.sl.r_47, trip_k0_t1.sl.v828,
      trip_k0_t1.sl.r_12, trip_k0_t1.sl.r_6, trip_k0_t1.sl.r_49, trip_k0_t1.sl.r_53, trip_k0_t1.sl.r_13, trip_k0_t1.sl.r_60,
      trip_k0_t1.sl.r_30, trip_k0_t1.sl.r_69, trip_k0_t1.sl.r_3, trip_k0_t1.sl.r_39, trip_k0_t1.sl.r_26, trip_k0_t1.sl.r_1,
      trip_k0_t1.sl.r_15, trip_k0_t1.sl.r, trip_k0_t1.sl.r_22, trip_k0_t1.sl.r_37, trip_k0_t1.sl.r_25, trip_k0_t1.sl.r_41,
      trip_k0_t1.sl.r_54, trip_k0_t1.sl.r_34, trip_k0_t1.sl.r_42, trip_k0_t1.sl.v910, trip_k0_t1.sl.r_21, trip_k0_t1.sl.r_55,
      trip_k0_t1.sl.r_35, trip_k0_t1.sl.v923, trip_k0_t1.sl.v936, trip_k0_t1.sl.r_66, trip_k0_t1.sl.r_45, trip_k0_t1.sl.r_51,
      trip_k0_t1.sl.r_68, trip_k0_t1.sl.r_18, trip_k0_t1.sl.r_2, trip_k0_t1.sl.v884, trip_k0_t1.sl.v800, trip_k0_t1.sl.r_40,
      trip_k0_t1.sl.r_23, trip_k0_t1.sl.r_10, trip_k0_t1.sl.r_5, trip_k0_t1.sl.r_62, trip_k0_t1.sl.v858, trip_k0_t1.sl.r_59,
      trip_k0_t1.sl.r_36, trip_k0_t1.sl.r_52, trip_k0_t1.sl.r_27, trip_k0_t1.sl.v786, trip_k0_t1.sl.r_67, trip_k0_t1.sl.r_65,
      trip_k0_t1.sl.r_9, trip_k0_t1.sl.r_28, trip_k0_t1.sl.r_43, trip_k0_t1.sl.r_38, trip_k0_t1.sl.r_61]
    rfl

set_option maxHeartbeats 800000 in
/-- After the first half of the tile, every head's sums have taken its keys in. -/
theorem mid_a (f7 : arg7.view.ty.Contents (Elt F)) (f8 : arg8.view.ty.Contents (Elt F)) (h : Fin 8) :
    (![trip_k0_t1.sl.v1112 i arg3 arg4 arg5 arg7 arg8 X3 X4 X5 k f7 f8, trip_k0_t1.sl.v1125 i arg3 arg4 arg5 arg7 arg8 X3 X4 X5 k f7 f8, trip_k0_t1.sl.v1138 i arg3 arg4 arg5 arg7 arg8 X3 X4 X5 k f7 f8, trip_k0_t1.sl.v1151 i arg3 arg4 arg5 arg7 arg8 X3 X4 X5 k f7 f8, trip_k0_t1.sl.v1164 i arg3 arg4 arg5 arg7 arg8 X3 X4 X5 k f7 f8, trip_k0_t1.sl.v1177 i arg3 arg4 arg5 arg7 arg8 X3 X4 X5 k f7 f8, trip_k0_t1.sl.v1190 i arg3 arg4 arg5 arg7 arg8 X3 X4 X5 k f7 f8, trip_k0_t1.sl.v1203 i arg3 arg4 arg5 arg7 arg8 X3 X4 X5 k f7 f8] : Fin 8 → Vec F S1x72x512 .f32) h
      = aNew (tSc i arg3 arg4 X3 X4 k 0 h) (mRow arg7 f7 h) (tBlk i k arg5 X5 0 h) (aRow arg8 f8 h) := by
  fin_cases h
  all_goals
    dsimp only [Matrix.cons_val]
    simp only [trip_k0_t1.sl.v1112, trip_k0_t1.sl.v1125, trip_k0_t1.sl.v1138, trip_k0_t1.sl.v1151, trip_k0_t1.sl.v1164, trip_k0_t1.sl.v1177,
      trip_k0_t1.sl.v1190, trip_k0_t1.sl.v1203]
    unfold View.readCov
    simp only [trip_k0_t1.sl.HW_arg8_15, trip_k0_t1.sl.HW_arg8_14, trip_k0_t1.sl.HW_arg8_13, trip_k0_t1.sl.HW_arg8_12, trip_k0_t1.sl.HW_arg8_11,
      trip_k0_t1.sl.HW_arg8_10, trip_k0_t1.sl.HW_arg8_9, trip_k0_t1.sl.HW_arg8_8]
    repeat first
      | rw [load_same]
      | rw [load_skip (a := (0 : Fin 3)) (h := by decide)]
    simp only [trip_k0_t1.sl.v758, trip_k0_t1.sl.r_19, trip_k0_t1.sl.r_64, trip_k0_t1.sl.v744, trip_k0_t1.sl.r_17, trip_k0_t1.sl.r_32, trip_k0_t1.sl.r_56,
      trip_k0_t1.sl.v814, trip_k0_t1.sl.r_4, trip_k0_t1.sl.v897, trip_k0_t1.sl.v871, trip_k0_t1.sl.r_44, trip_k0_t1.sl.r_7,
      trip_k0_t1.sl.r_16, trip_k0_t1.sl.r_24, trip_k0_t1.sl.r_11, trip_k0_t1.sl.v772, trip_k0_t1.sl.r_57, trip_k0_t1.sl.r_29,
      trip_k0_t1.sl.r_14, trip_k0_t1.sl.r_33, trip_k0_t1.sl.r_20, trip_k0_t1.sl.r_58, trip_k0_t1.sl.r_31, trip_k0_t1.sl.r_8,
      trip_k0_t1.sl.r_48, trip_k0_t1.sl.r_46, trip_k0_t1.sl.r_50, trip_k0_t1.sl.r_63, trip_k0_t1.sl.r_47, trip_k0_t1.sl.v828,
      trip_k0_t1.sl.r_12, trip_k0_t1.sl.r_6, trip_k0_t1.sl.r_49, trip_k0_t1.sl.r_53, trip_k0_t1.sl.r_13, trip_k0_t1.sl.r_60,
      trip_k0_t1.sl.r_30, trip_k0_t1.sl.r_69, trip_k0_t1.sl.r_3, trip_k0_t1.sl.r_39, trip_k0_t1.sl.r_26, trip_k0_t1.sl.r_1,
      trip_k0_t1.sl.r_15, trip_k0_t1.sl.r, trip_k0_t1.sl.r_22, trip_k0_t1.sl.r_37, trip_k0_t1.sl.r_25, trip_k0_t1.sl.r_41,
      trip_k0_t1.sl.r_54, trip_k0_t1.sl.r_34, trip_k0_t1.sl.r_42, trip_k0_t1.sl.v910, trip_k0_t1.sl.r_21, trip_k0_t1.sl.r_55,
      trip_k0_t1.sl.r_35, trip_k0_t1.sl.v923, trip_k0_t1.sl.v936, trip_k0_t1.sl.r_66, trip_k0_t1.sl.r_45, trip_k0_t1.sl.r_51,
      trip_k0_t1.sl.r_68, trip_k0_t1.sl.r_18, trip_k0_t1.sl.r_2, trip_k0_t1.sl.v884, trip_k0_t1.sl.v800, trip_k0_t1.sl.r_40,
      trip_k0_t1.sl.r_23, trip_k0_t1.sl.r_10, trip_k0_t1.sl.r_5, trip_k0_t1.sl.r_62, trip_k0_t1.sl.v858, trip_k0_t1.sl.r_59,
      trip_k0_t1.sl.r_36, trip_k0_t1.sl.r_52, trip_k0_t1.sl.r_27, trip_k0_t1.sl.v786, trip_k0_t1.sl.r_67, trip_k0_t1.sl.r_65,
      trip_k0_t1.sl.r_9, trip_k0_t1.sl.r_28, trip_k0_t1.sl.r_43, trip_k0_t1.sl.r_38, trip_k0_t1.sl.r_61]
    rfl

/-- One trip takes both halves of its tile into every head's maxima; -/
theorem trip_m (f7 : arg7.view.ty.Contents (Elt F)) (f8 : arg8.view.ty.Contents (Elt F)) (h : Fin 8) :
    mRow arg7 (arg7.view.writes (Elt F) f7 (tripL_k0_t1 𝒱 c bd i arg3 harg3 arg4 harg4 arg5 harg5 arg6 harg6 arg7 harg7 arg8 harg8 X3 X4 X5 k f7 f8).1) h
      = mNew (tSc i arg3 arg4 X3 X4 k 1 h) (mNew (tSc i arg3 arg4 X3 X4 k 0 h) (mRow arg7 f7 h)) := by
  have m0 : trip_k0_t1.sl.v997 i arg3 arg4 arg7 X3 X4 k f7 = _ := mid_m i arg3 arg4 arg7 X3 X4 k f7 0
  have m1 : trip_k0_t1.sl.v1011 i arg3 arg4 arg7 X3 X4 k f7 = _ := mid_m i arg3 arg4 arg7 X3 X4 k f7 1
  have m2 : trip_k0_t1.sl.v1025 i arg3 arg4 arg7 X3 X4 k f7 = _ := mid_m i arg3 arg4 arg7 X3 X4 k f7 2
  have m3 : trip_k0_t1.sl.v1039 i arg3 arg4 arg7 X3 X4 k f7 = _ := mid_m i arg3 arg4 arg7 X3 X4 k f7 3
  have m4 : trip_k0_t1.sl.v1053 i arg3 arg4 arg7 X3 X4 k f7 = _ := mid_m i arg3 arg4 arg7 X3 X4 k f7 4
  have m5 : trip_k0_t1.sl.v1067 i arg3 arg4 arg7 X3 X4 k f7 = _ := mid_m i arg3 arg4 arg7 X3 X4 k f7 5
  have m6 : trip_k0_t1.sl.v1081 i arg3 arg4 arg7 X3 X4 k f7 = _ := mid_m i arg3 arg4 arg7 X3 X4 k f7 6
  have m7 : trip_k0_t1.sl.v1095 i arg3 arg4 arg7 X3 X4 k f7 = _ := mid_m i arg3 arg4 arg7 X3 X4 k f7 7
  unfold tripL_k0_t1 trip_k0_t1
  dsimp only
  fin_cases h
  all_goals
    unfold mRow
    simp only [trip_k0_t1.sl.HW_arg7_15, trip_k0_t1.sl.HW_arg7_14, trip_k0_t1.sl.HW_arg7_13, trip_k0_t1.sl.HW_arg7_12, trip_k0_t1.sl.HW_arg7_11,
      trip_k0_t1.sl.HW_arg7_10, trip_k0_t1.sl.HW_arg7_9, trip_k0_t1.sl.HW_arg7_8]
    repeat first
      | rw [load_same]
      | rw [load_skip (a := (0 : Fin 3)) (h := by decide)]
    simp only [trip_k0_t1.sl.v758, trip_k0_t1.sl.r_19, trip_k0_t1.sl.r_64, trip_k0_t1.sl.v744, trip_k0_t1.sl.r_17, trip_k0_t1.sl.r_32, trip_k0_t1.sl.r_56,
      trip_k0_t1.sl.v814, trip_k0_t1.sl.r_4, trip_k0_t1.sl.v897, trip_k0_t1.sl.v871, trip_k0_t1.sl.r_44, trip_k0_t1.sl.r_7,
      trip_k0_t1.sl.r_16, trip_k0_t1.sl.r_24, trip_k0_t1.sl.r_11, trip_k0_t1.sl.v772, trip_k0_t1.sl.r_57, trip_k0_t1.sl.r_29,
      trip_k0_t1.sl.r_14, trip_k0_t1.sl.r_33, trip_k0_t1.sl.r_20, trip_k0_t1.sl.r_58, trip_k0_t1.sl.r_31, trip_k0_t1.sl.r_8,
      trip_k0_t1.sl.r_48, trip_k0_t1.sl.r_46, trip_k0_t1.sl.r_50, trip_k0_t1.sl.r_63, trip_k0_t1.sl.r_47, trip_k0_t1.sl.v828,
      trip_k0_t1.sl.r_12, trip_k0_t1.sl.r_6, trip_k0_t1.sl.r_49, trip_k0_t1.sl.r_53, trip_k0_t1.sl.r_13, trip_k0_t1.sl.r_60,
      trip_k0_t1.sl.r_30, trip_k0_t1.sl.r_69, trip_k0_t1.sl.r_3, trip_k0_t1.sl.r_39, trip_k0_t1.sl.r_26, trip_k0_t1.sl.r_1,
      trip_k0_t1.sl.r_15, trip_k0_t1.sl.r, trip_k0_t1.sl.r_22, trip_k0_t1.sl.r_37, trip_k0_t1.sl.r_25, trip_k0_t1.sl.r_41,
      trip_k0_t1.sl.r_54, trip_k0_t1.sl.r_34, trip_k0_t1.sl.r_42, trip_k0_t1.sl.v910, trip_k0_t1.sl.r_21, trip_k0_t1.sl.r_55,
      trip_k0_t1.sl.r_35, trip_k0_t1.sl.v923, trip_k0_t1.sl.v936, trip_k0_t1.sl.r_66, trip_k0_t1.sl.r_45, trip_k0_t1.sl.r_51,
      trip_k0_t1.sl.r_68, trip_k0_t1.sl.r_18, trip_k0_t1.sl.r_2, trip_k0_t1.sl.v884, trip_k0_t1.sl.v800, trip_k0_t1.sl.r_40,
      trip_k0_t1.sl.r_23, trip_k0_t1.sl.r_10, trip_k0_t1.sl.r_5, trip_k0_t1.sl.r_62, trip_k0_t1.sl.v858, trip_k0_t1.sl.r_59,
      trip_k0_t1.sl.r_36, trip_k0_t1.sl.r_52, trip_k0_t1.sl.r_27, trip_k0_t1.sl.v786, trip_k0_t1.sl.r_67, trip_k0_t1.sl.r_65,
      trip_k0_t1.sl.r_9, trip_k0_t1.sl.r_28, trip_k0_t1.sl.r_43, trip_k0_t1.sl.r_38, trip_k0_t1.sl.r_61, m0, m1, m2, m3, m4, m5, m6, m7]
    rfl

set_option maxHeartbeats 800000 in
/-- and into every head's sums. -/
theorem trip_a (f7 : arg7.view.ty.Contents (Elt F)) (f8 : arg8.view.ty.Contents (Elt F)) (h : Fin 8) :
    aRow arg8 (arg8.view.writes (Elt F) f8 (tripL_k0_t1 𝒱 c bd i arg3 harg3 arg4 harg4 arg5 harg5 arg6 harg6 arg7 harg7 arg8 harg8 X3 X4 X5 k f7 f8).2) h
      = aNew (tSc i arg3 arg4 X3 X4 k 1 h) (mNew (tSc i arg3 arg4 X3 X4 k 0 h) (mRow arg7 f7 h)) (tBlk i k arg5 X5 1 h)
          (aNew (tSc i arg3 arg4 X3 X4 k 0 h) (mRow arg7 f7 h) (tBlk i k arg5 X5 0 h) (aRow arg8 f8 h)) := by
  have m0 : trip_k0_t1.sl.v997 i arg3 arg4 arg7 X3 X4 k f7 = _ := mid_m i arg3 arg4 arg7 X3 X4 k f7 0
  have m1 : trip_k0_t1.sl.v1011 i arg3 arg4 arg7 X3 X4 k f7 = _ := mid_m i arg3 arg4 arg7 X3 X4 k f7 1
  have m2 : trip_k0_t1.sl.v1025 i arg3 arg4 arg7 X3 X4 k f7 = _ := mid_m i arg3 arg4 arg7 X3 X4 k f7 2
  have m3 : trip_k0_t1.sl.v1039 i arg3 arg4 arg7 X3 X4 k f7 = _ := mid_m i arg3 arg4 arg7 X3 X4 k f7 3
  have m4 : trip_k0_t1.sl.v1053 i arg3 arg4 arg7 X3 X4 k f7 = _ := mid_m i arg3 arg4 arg7 X3 X4 k f7 4
  have m5 : trip_k0_t1.sl.v1067 i arg3 arg4 arg7 X3 X4 k f7 = _ := mid_m i arg3 arg4 arg7 X3 X4 k f7 5
  have m6 : trip_k0_t1.sl.v1081 i arg3 arg4 arg7 X3 X4 k f7 = _ := mid_m i arg3 arg4 arg7 X3 X4 k f7 6
  have m7 : trip_k0_t1.sl.v1095 i arg3 arg4 arg7 X3 X4 k f7 = _ := mid_m i arg3 arg4 arg7 X3 X4 k f7 7
  have a0 : trip_k0_t1.sl.v1112 i arg3 arg4 arg5 arg7 arg8 X3 X4 X5 k f7 f8 = _ := mid_a i arg3 arg4 arg5 arg7 arg8 X3 X4 X5 k f7 f8 0
  have a1 : trip_k0_t1.sl.v1125 i arg3 arg4 arg5 arg7 arg8 X3 X4 X5 k f7 f8 = _ := mid_a i arg3 arg4 arg5 arg7 arg8 X3 X4 X5 k f7 f8 1
  have a2 : trip_k0_t1.sl.v1138 i arg3 arg4 arg5 arg7 arg8 X3 X4 X5 k f7 f8 = _ := mid_a i arg3 arg4 arg5 arg7 arg8 X3 X4 X5 k f7 f8 2
  have a3 : trip_k0_t1.sl.v1151 i arg3 arg4 arg5 arg7 arg8 X3 X4 X5 k f7 f8 = _ := mid_a i arg3 arg4 arg5 arg7 arg8 X3 X4 X5 k f7 f8 3
  have a4 : trip_k0_t1.sl.v1164 i arg3 arg4 arg5 arg7 arg8 X3 X4 X5 k f7 f8 = _ := mid_a i arg3 arg4 arg5 arg7 arg8 X3 X4 X5 k f7 f8 4
  have a5 : trip_k0_t1.sl.v1177 i arg3 arg4 arg5 arg7 arg8 X3 X4 X5 k f7 f8 = _ := mid_a i arg3 arg4 arg5 arg7 arg8 X3 X4 X5 k f7 f8 5
  have a6 : trip_k0_t1.sl.v1190 i arg3 arg4 arg5 arg7 arg8 X3 X4 X5 k f7 f8 = _ := mid_a i arg3 arg4 arg5 arg7 arg8 X3 X4 X5 k f7 f8 6
  have a7 : trip_k0_t1.sl.v1203 i arg3 arg4 arg5 arg7 arg8 X3 X4 X5 k f7 f8 = _ := mid_a i arg3 arg4 arg5 arg7 arg8 X3 X4 X5 k f7 f8 7
  unfold tripL_k0_t1 trip_k0_t1
  dsimp only
  fin_cases h
  all_goals
    unfold aRow
    simp only [trip_k0_t1.sl.HW_arg8_15, trip_k0_t1.sl.HW_arg8_14, trip_k0_t1.sl.HW_arg8_13, trip_k0_t1.sl.HW_arg8_12, trip_k0_t1.sl.HW_arg8_11,
      trip_k0_t1.sl.HW_arg8_10, trip_k0_t1.sl.HW_arg8_9, trip_k0_t1.sl.HW_arg8_8]
    repeat first
      | rw [load_same]
      | rw [load_skip (a := (0 : Fin 3)) (h := by decide)]
    simp only [trip_k0_t1.sl.v758, trip_k0_t1.sl.r_19, trip_k0_t1.sl.r_64, trip_k0_t1.sl.v744, trip_k0_t1.sl.r_17, trip_k0_t1.sl.r_32, trip_k0_t1.sl.r_56,
      trip_k0_t1.sl.v814, trip_k0_t1.sl.r_4, trip_k0_t1.sl.v897, trip_k0_t1.sl.v871, trip_k0_t1.sl.r_44, trip_k0_t1.sl.r_7,
      trip_k0_t1.sl.r_16, trip_k0_t1.sl.r_24, trip_k0_t1.sl.r_11, trip_k0_t1.sl.v772, trip_k0_t1.sl.r_57, trip_k0_t1.sl.r_29,
      trip_k0_t1.sl.r_14, trip_k0_t1.sl.r_33, trip_k0_t1.sl.r_20, trip_k0_t1.sl.r_58, trip_k0_t1.sl.r_31, trip_k0_t1.sl.r_8,
      trip_k0_t1.sl.r_48, trip_k0_t1.sl.r_46, trip_k0_t1.sl.r_50, trip_k0_t1.sl.r_63, trip_k0_t1.sl.r_47, trip_k0_t1.sl.v828,
      trip_k0_t1.sl.r_12, trip_k0_t1.sl.r_6, trip_k0_t1.sl.r_49, trip_k0_t1.sl.r_53, trip_k0_t1.sl.r_13, trip_k0_t1.sl.r_60,
      trip_k0_t1.sl.r_30, trip_k0_t1.sl.r_69, trip_k0_t1.sl.r_3, trip_k0_t1.sl.r_39, trip_k0_t1.sl.r_26, trip_k0_t1.sl.r_1,
      trip_k0_t1.sl.r_15, trip_k0_t1.sl.r, trip_k0_t1.sl.r_22, trip_k0_t1.sl.r_37, trip_k0_t1.sl.r_25, trip_k0_t1.sl.r_41,
      trip_k0_t1.sl.r_54, trip_k0_t1.sl.r_34, trip_k0_t1.sl.r_42, trip_k0_t1.sl.v910, trip_k0_t1.sl.r_21, trip_k0_t1.sl.r_55,
      trip_k0_t1.sl.r_35, trip_k0_t1.sl.v923, trip_k0_t1.sl.v936, trip_k0_t1.sl.r_66, trip_k0_t1.sl.r_45, trip_k0_t1.sl.r_51,
      trip_k0_t1.sl.r_68, trip_k0_t1.sl.r_18, trip_k0_t1.sl.r_2, trip_k0_t1.sl.v884, trip_k0_t1.sl.v800, trip_k0_t1.sl.r_40,
      trip_k0_t1.sl.r_23, trip_k0_t1.sl.r_10, trip_k0_t1.sl.r_5, trip_k0_t1.sl.r_62, trip_k0_t1.sl.v858, trip_k0_t1.sl.r_59,
      trip_k0_t1.sl.r_36, trip_k0_t1.sl.r_52, trip_k0_t1.sl.r_27, trip_k0_t1.sl.v786, trip_k0_t1.sl.r_67, trip_k0_t1.sl.r_65,
      trip_k0_t1.sl.r_9, trip_k0_t1.sl.r_28, trip_k0_t1.sl.r_43, trip_k0_t1.sl.r_38, trip_k0_t1.sl.r_61, m0, m1, m2, m3, m4, m5, m6, m7, a0, a1, a2, a3, a4, a5, a6, a7]
    rfl
end Cert.KernelIdeal.Rows
-- ==== Proof.Last.lean ====
module
public import proofs.«01_k».proof.Proof.Trip
@[expose] public section
set_option maxRecDepth 16384
noncomputable section
namespace Cert.KernelIdeal.Rows
open Cert.KernelIdeal Cert.KernelIdeal.Gen
open Idealize.ShloMosaic Idealize.ShloMosaic.TcCoe Idealize.SL.Sem
variable {F : FTy → Type} [FloatOps F]
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x72x512 .f32) (harg8 : arg8.IsWhole)
  (x0 : Vec F S512x1024 .bf16) (x1 : Vec F S4096x1024 .bf16) (x2 : Vec F S4096x1024 .bf16)

/-- The stores of the maxima made before the last tile. -/
def base7 : List (View.Piece (Elt F) S8x1x512 .f32) := ((pb_k0_t2 Variants.none c none i arg3 harg3 arg4 harg4 arg5 harg5 arg6 harg6 arg7 harg7 arg8 harg8 (kernelRun0_A.sl.v12 i) (harg3.unread x0) (harg4.unread x1) (harg5.unread x2)
        (arg7.view.writes (Elt F) arg7.view.junk
          ((pb_k0_t1 Variants.none c none i arg3 harg3 arg4 harg4 arg5 harg5 arg6 harg6 arg7 harg7 arg8 harg8 (harg3.unread x0) (harg4.unread x1) (harg5.unread x2)
                (arg7.view.writes (Elt F) arg7.view.junk kernelRun0_A.sl.HS0_1) (arg8.view.writes (Elt F) arg8.view.junk kernelRun0_A.sl.HS1_1)
                (Scf.trips (k0_t1_loop i).lb (k0_t1_loop i).ub (k0_t1_loop i).st)).1 ++
            kernelRun0_A.sl.HS0_1))
        (arg8.view.writes (Elt F) arg8.view.junk
          ((pb_k0_t1 Variants.none c none i arg3 harg3 arg4 harg4 arg5 harg5 arg6 harg6 arg7 harg7 arg8 harg8 (harg3.unread x0) (harg4.unread x1) (harg5.unread x2)
                (arg7.view.writes (Elt F) arg7.view.junk kernelRun0_A.sl.HS0_1) (arg8.view.writes (Elt F) arg8.view.junk kernelRun0_A.sl.HS1_1)
                (Scf.trips (k0_t1_loop i).lb (k0_t1_loop i).ub (k0_t1_loop i).st)).2 ++
            kernelRun0_A.sl.HS1_1))
        (Scf.trips (k0_t2_loop i).lb (k0_t2_loop i).ub (k0_t2_loop i).st)).1 ++
    ((pb_k0_t1 Variants.none c none i arg3 harg3 arg4 harg4 arg5 harg5 arg6 harg6 arg7 harg7 arg8 harg8 (harg3.unread x0) (harg4.unread x1) (harg5.unread x2)
          (arg7.view.writes (Elt F) arg7.view.junk kernelRun0_A.sl.HS0_1) (arg8.view.writes (Elt F) arg8.view.junk kernelRun0_A.sl.HS1_1)
          (Scf.trips (k0_t1_loop i).lb (k0_t1_loop i).ub (k0_t1_loop i).st)).1 ++
      kernelRun0_A.sl.HS0_1))
/-- The stores of the sums made before the last tile. -/
def base8 : List (View.Piece (Elt F) S8x72x512 .f32) := ((pb_k0_t2 Variants.none c none i arg3 harg3 arg4 harg4 arg5 harg5 arg6 harg6 arg7 harg7 arg8 harg8 (kernelRun0_A.sl.v12 i) (harg3.unread x0) (harg4.unread x1) (harg5.unread x2)
        (arg7.view.writes (Elt F) arg7.view.junk
          ((pb_k0_t1 Variants.none c none i arg3 harg3 arg4 harg4 arg5 harg5 arg6 harg6 arg7 harg7 arg8 harg8 (harg3.unread x0) (harg4.unread x1) (harg5.unread x2)
                (arg7.view.writes (Elt F) arg7.view.junk kernelRun0_A.sl.HS0_1) (arg8.view.writes (Elt F) arg8.view.junk kernelRun0_A.sl.HS1_1)
                (Scf.trips (k0_t1_loop i).lb (k0_t1_loop i).ub (k0_t1_loop i).st)).1 ++
            kernelRun0_A.sl.HS0_1))
        (arg8.view.writes (Elt F) arg8.view.junk
          ((pb_k0_t1 Variants.none c none i arg3 harg3 arg4 harg4 arg5 harg5 arg6 harg6 arg7 harg7 arg8 harg8 (harg3.unread x0) (harg4.unread x1) (harg5.unread x2)
                (arg7.view.writes (Elt F) arg7.view.junk kernelRun0_A.sl.HS0_1) (arg8.view.writes (Elt F) arg8.view.junk kernelRun0_A.sl.HS1_1)
                (Scf.trips (k0_t1_loop i).lb (k0_t1_loop i).ub (k0_t1_loop i).st)).2 ++
            kernelRun0_A.sl.HS1_1))
        (Scf.trips (k0_t2_loop i).lb (k0_t2_loop i).ub (k0_t2_loop i).st)).2 ++
    ((pb_k0_t1 Variants.none c none i arg3 harg3 arg4 harg4 arg5 harg5 arg6 harg6 arg7 harg7 arg8 harg8 (harg3.unread x0) (harg4.unread x1) (harg5.unread x2)
          (arg7.view.writes (Elt F) arg7.view.junk kernelRun0_A.sl.HS0_1) (arg8.view.writes (Elt F) arg8.view.junk kernelRun0_A.sl.HS1_1)
          (Scf.trips (k0_t1_loop i).lb (k0_t1_loop i).ub (k0_t1_loop i).st)).2 ++
      kernelRun0_A.sl.HS1_1))
/-- The maxima before the last tile, -/
def m7 (h : Fin 8) : Vec F S1x1x512 .f32 := mRow arg7 (arg7.view.writes (Elt F) arg7.view.junk (base7 c i arg3 harg3 arg4 harg4 arg5 harg5 arg6 harg6 arg7 harg7 arg8 harg8 x0 x1 x2)) h
/-- and the sums. -/
def a8 (h : Fin 8) : Vec F S1x72x512 .f32 := aRow arg8 (arg8.view.writes (Elt F) arg8.view.junk (base8 c i arg3 harg3 arg4 harg4 arg5 harg5 arg6 harg6 arg7 harg7 arg8 harg8 x0 x1 x2)) h

/-- Where the keys of head `h` begin in the last tile. -/
def dOff (w : BitVec 32) : Fin 8 → Fin 2 → ℕ :=
  ![k0_off17 i w, k0_off18 i w, k0_off19 i w, k0_off20 i w, k0_off21 i w, k0_off22 i w, k0_off23 i w, k0_off24 i w]

theorem dOff_eq (r : Fin 2) (h : Fin 8) : dOff i (BitVec.ofNat 32 (256 * r.val)) h = ![512 * (i 2).val + 256 * r.val, 128 * h.val] := by
  fin_cases h
  · exact k0_off17_eq i r
  · exact k0_off18_eq i r
  · exact k0_off19_eq i r
  · exact k0_off20_eq i r
  · exact k0_off21_eq i r
  · exact k0_off22_eq i r
  · exact k0_off23_eq i r
  · exact k0_off24_eq i r

theorem dOff_inb (r : Fin 2) (h : Fin 8) : ∀ a, dOff i (BitVec.ofNat 32 (256 * r.val)) h a + S256x128.size a ≤ S4096x1024.size a := by
  rw [dOff_eq]
  have : (i 2).val < 8 := (i 2).isLt
  have := h.isLt
  have := r.isLt
  refine Fin.forall_fin_two.mpr ⟨?_, ?_⟩
  · show 512 * (i 2).val + 256 * r.val + 256 ≤ 4096
    omega
  · show 128 * h.val + 128 ≤ 1024
    omega

/-- Head `h`'s key (or value) rows in half `r` of the last tile. -/
def dBlk (X : arg4.view.ty.Contents (Elt F)) (r : Fin 2) (h : Fin 8) : Vec F S256x128 .bf16 :=
  View.readAt (Elt F) arg4.view (Rect.unit (s := S4096x1024) (dOff i (BitVec.ofNat 32 (256 * r.val)) h) S256x128.size (dOff_inb i r h)).toLoadRect X

theorem qInb2 (h : Fin 8) : ∀ a, (![256, 128 * h.val] : Fin 2 → ℕ) a + S256x128.size a ≤ S512x1024.size a :=
  Fin.forall_fin_two.mpr ⟨by decide +revert, by revert h; decide⟩

/-- Head `h`'s later 256 queries. -/
def qBlk2 (X : arg3.view.ty.Contents (Elt F)) (h : Fin 8) : Vec F S256x128 .bf16 :=
  View.readAt (Elt F) arg3.view (Rect.unit (s := S512x1024) ![256, 128 * h.val] S256x128.size (qInb2 h)).toLoadRect X

/-- The masked scores of the last tile's first half, -/
def dSc0 (h : Fin 8) : FVec F S256x512 .f32 :=
  k0_pay268 (k0_pay2 (dBlk i arg4 (harg4.unread x1) 0 h) (qBlk arg3 (harg3.unread x0) h))
/-- and the scores of its second half, for the later queries. -/
def dSc1 (h : Fin 8) : FVec F S256x256 .f32 := k0_pay323 (dBlk i arg4 (harg4.unread x1) 1 h) (qBlk2 arg3 (harg3.unread x0) h)

/-- The maxima after the first half. -/
def m0n (h : Fin 8) : Vec F S1x1x512 .f32 := mNew (dSc0 i arg3 harg3 arg4 harg4 x0 x1 h) (m7 c i arg3 harg3 arg4 harg4 arg5 harg5 arg6 harg6 arg7 harg7 arg8 harg8 x0 x1 x2 h)
/-- The sums after the first half. -/
def a0n (h : Fin 8) : Vec F S1x72x512 .f32 :=
  aNew (dSc0 i arg3 harg3 arg4 harg4 x0 x1 h) (m7 c i arg3 harg3 arg4 harg4 arg5 harg5 arg6 harg6 arg7 harg7 arg8 harg8 x0 x1 x2 h) (dBlk i arg5 (harg5.unread x2) 0 h) (a8 c i arg3 harg3 arg4 harg4 arg5 harg5 arg6 harg6 arg7 harg7 arg8 harg8 x0 x1 x2 h)

/-- The columns of the later 256 queries. -/
def hiM (m : Vec F S1x1x512 .f32) : Vec F S1x1x256 .f32 := fun y => m (ix3 0 0 ⟨256 + (y 2).val, by have : (y 2).val < 256 := (y 2).isLt; omega⟩)
def hiA (m : Vec F S1x72x512 .f32) : Vec F S1x72x256 .f32 := fun y => m (ix3 0 ⟨(y 1).val, (y 1).isLt⟩ ⟨256 + (y 2).val, by have : (y 2).val < 256 := (y 2).isLt; omega⟩)

theorem load_hiM (v : View sig .tc .vmem S8x1x512 .f32) (f : v.ty.Contents (Elt F)) {h : ℕ} (inb : ∀ a, (![h, 0, 256] : Fin 3 → ℕ) a + (![1, 1, 256] : Fin 3 → ℕ) a ≤ S8x1x512.size a)
    (inb' : ∀ a, (![h, 0, 0] : Fin 3 → ℕ) a + (![1, 1, 512] : Fin 3 → ℕ) a ≤ S8x1x512.size a) (w : Vec F S1x1x512 .f32) (L : List (View.Piece (Elt F) S8x1x512 .f32)) :
    v.readAt (Elt F) (Rect.unit ![h, 0, 256] ![1, 1, 256] inb).toLoadRect (v.writes (Elt F) f (⟨Rect.unit ![h, 0, 0] ![1, 1, 512] inb', w⟩ :: L)) = hiM w := by
  funext y
  refine load_within v f inb inb' w L y (ix3 0 0 ⟨256 + (y 2).val, by have : (y 2).val < 256 := (y 2).isLt; omega⟩) fun a => ?_
  have h0 : (y 0).val < 1 := (y 0).isLt
  have h1 : (y 1).val < 1 := (y 1).isLt
  fin_cases a
  · show h + (y 0).val = h + 0
    omega
  · show 0 + (y 1).val = 0 + 0
    omega
  · show 256 + (y 2).val = 0 + (256 + (y 2).val)
    omega

theorem load_hiA (v : View sig .tc .vmem S8x72x512 .f32) (f : v.ty.Contents (Elt F)) {h : ℕ} (inb : ∀ a, (![h, 0, 256] : Fin 3 → ℕ) a + (![1, 72, 256] : Fin 3 → ℕ) a ≤ S8x72x512.size a)
    (inb' : ∀ a, (![h, 0, 0] : Fin 3 → ℕ) a + (![1, 72, 512] : Fin 3 → ℕ) a ≤ S8x72x512.size a) (w : Vec F S1x72x512 .f32) (L : List (View.Piece (Elt F) S8x72x512 .f32)) :
    v.readAt (Elt F) (Rect.unit ![h, 0, 256] ![1, 72, 256] inb).toLoadRect (v.writes (Elt F) f (⟨Rect.unit ![h, 0, 0] ![1, 72, 512] inb', w⟩ :: L)) = hiA w := by
  funext y
  refine load_within v f inb inb' w L y (ix3 0 ⟨(y 1).val, (y 1).isLt⟩ ⟨256 + (y 2).val, by have : (y 2).val < 256 := (y 2).isLt; omega⟩) fun a => ?_
  have h0 : (y 0).val < 1 := (y 0).isLt
  fin_cases a
  · show h + (y 0).val = h + 0
    omega
  · rfl
  · show 256 + (y 2).val = 0 + (256 + (y 2).val)
    omega

/-- The later queries' sums after the masked scores `s` and the values `v`. -/
def aNew2 (s : FVec F S256x256 .f32) (m : Vec F S1x1x256 .f32) (v : Vec F S256x128 .bf16) (a : Vec F S1x72x256 .f32) :
    Vec F S1x72x256 .f32 := k0_pay386 (k0_pay336 s m) (k0_pay338 s m) v a

/-- The sums of the later queries after the second half. -/
def a1n (h : Fin 8) : Vec F S1x72x256 .f32 :=
  aNew2 (dSc1 i arg3 harg3 arg4 harg4 x0 x1 h) (hiM (m0n c i arg3 harg3 arg4 harg4 arg5 harg5 arg6 harg6 arg7 harg7 arg8 harg8 x0 x1 x2 h)) (dBlk i arg5 (harg5.unread x2) 1 h) (hiA (a0n c i arg3 harg3 arg4 harg4 arg5 harg5 arg6 harg6 arg7 harg7 arg8 harg8 x0 x1 x2 h))

/-- Every head's sums after the last tile. -/
def fin8 (h : Fin 8) : Vec F S1x72x512 .f32 := fun y =>
  if hy : (y 2).val < 256 then a0n c i arg3 harg3 arg4 harg4 arg5 harg5 arg6 harg6 arg7 harg7 arg8 harg8 x0 x1 x2 h y
  else a1n c i arg3 harg3 arg4 harg4 arg5 harg5 arg6 harg6 arg7 harg7 arg8 harg8 x0 x1 x2 h (ix3 0 ⟨(y 1).val, (y 1).isLt⟩ ⟨(y 2).val - 256, by have : (y 2).val < 512 := (y 2).isLt; omega⟩)

set_option maxHeartbeats 800000 in
/-- The maxima the first half starts from. -/
theorem last_m7 (h : Fin 8) :
    (![kernelRun0_A.sl.v69 c i arg3 harg3 arg4 harg4 arg5 harg5 arg6 harg6 arg7 harg7 arg8 harg8 x0 x1 x2, kernelRun0_A.sl.v88 c i arg3 harg3 arg4 harg4 arg5 harg5 arg6 harg6 arg7 harg7 arg8 harg8 x0 x1 x2, kernelRun0_A.sl.v107 c i arg3 harg3 arg4 harg4 arg5 harg5 arg6 harg6 arg7 harg7 arg8 harg8 x0 x1 x2, kernelRun0_A.sl.v126 c i arg3 harg3 arg4 harg4 arg5 harg5 arg6 harg6 arg7 harg7 arg8 harg8 x0 x1 x2, kernelRun0_A.sl.v145 c i arg3 harg3 arg4 harg4 arg5 harg5 arg6 harg6 arg7 harg7 arg8 harg8 x0 x1 x2, kernelRun0_A.sl.v164 c i arg3 harg3 arg4 harg4 arg5 harg5 arg6 harg6 arg7 harg7 arg8 harg8 x0 x1 x2, kernelRun0_A.sl.v183 c i arg3 harg3 arg4 harg4 arg5 harg5 arg6 harg6 arg7 harg7 arg8 harg8 x0 x1 x2, kernelRun0_A.sl.v202 c i arg3 harg3 arg4 harg4 arg5 harg5 arg6 harg6 arg7 harg7 arg8 harg8 x0 x1 x2] : Fin 8 → Vec F S1x1x512 .f32) h = m7 c i arg3 harg3 arg4 harg4 arg5 harg5 arg6 harg6 arg7 harg7 arg8 harg8 x0 x1 x2 h := by
  fin_cases h
  on_goal 1 => show kernelRun0_A.sl.v69 c i arg3 harg3 arg4 harg4 arg5 harg5 arg6 harg6 arg7 harg7 arg8 harg8 x0 x1 x2 = m7 c i arg3 harg3 arg4 harg4 arg5 harg5 arg6 harg6 arg7 harg7 arg8 harg8 x0 x1 x2 (0 : Fin 8)
  on_goal 2 => show kernelRun0_A.sl.v88 c i arg3 harg3 arg4 harg4 arg5 harg5 arg6 harg6 arg7 harg7 arg8 harg8 x0 x1 x2 = m7 c i arg3 harg3 arg4 harg4 arg5 harg5 arg6 harg6 arg7 harg7 arg8 harg8 x0 x1 x2 (1 : Fin 8)
  on_goal 3 => show kernelRun0_A.sl.v107 c i arg3 harg3 arg4 harg4 arg5 harg5 arg6 harg6 arg7 harg7 arg8 harg8 x0 x1 x2 = m7 c i arg3 harg3 arg4 harg4 arg5 harg5 arg6 harg6 arg7 harg7 arg8 harg8 x0 x1 x2 (2 : Fin 8)
  on_goal 4 => show kernelRun0_A.sl.v126 c i arg3 harg3 arg4 harg4 arg5 harg5 arg6 harg6 arg7 harg7 arg8 harg8 x0 x1 x2 = m7 c i arg3 harg3 arg4 harg4 arg5 harg5 arg6 harg6 arg7 harg7 arg8 harg8 x0 x1 x2 (3 : Fin 8)
  on_goal 5 => show kernelRun0_A.sl.v145 c i arg3 harg3 arg4 harg4 arg5 harg5 arg6 harg6 arg7 harg7 arg8 harg8 x0 x1 x2 = m7 c i arg3 harg3 arg4 harg4 arg5 harg5 arg6 harg6 arg7 harg7 arg8 harg8 x0 x1 x2 (4 : Fin 8)
  on_goal 6 => show kernelRun0_A.sl.v164 c i arg3 harg3 arg4 harg4 arg5 harg5 arg6 harg6 arg7 harg7 arg8 harg8 x0 x1 x2 = m7 c i arg3 harg3 arg4 harg4 arg5 harg5 arg6 harg6 arg7 harg7 arg8 harg8 x0 x1 x2 (5 : Fin 8)
  on_goal 7 => show kernelRun0_A.sl.v183 c i arg3 harg3 arg4 harg4 arg5 harg5 arg6 harg6 arg7 harg7 arg8 harg8 x0 x1 x2 = m7 c i arg3 harg3 arg4 harg4 arg5 harg5 arg6 harg6 arg7 harg7 arg8 harg8 x0 x1 x2 (6 : Fin 8)
  on_goal 8 => show kernelRun0_A.sl.v202 c i arg3 harg3 arg4 harg4 arg5 harg5 arg6 harg6 arg7 harg7 arg8 harg8 x0 x1 x2 = m7 c i arg3 harg3 arg4 harg4 arg5 harg5 arg6 harg6 arg7 harg7 arg8 harg8 x0 x1 x2 (7 : Fin 8)
  all_goals
    simp only [kernelRun0_A.sl.v69, kernelRun0_A.sl.v88, kernelRun0_A.sl.v107, kernelRun0_A.sl.v126, kernelRun0_A.sl.v145, kernelRun0_A.sl.v164,
      kernelRun0_A.sl.v183, kernelRun0_A.sl.v202]
    unfold View.readCov
    try simp only [kernelRun0_A.sl.HS0_15, kernelRun0_A.sl.HS0_14, kernelRun0_A.sl.HS0_13, kernelRun0_A.sl.HS0_12, kernelRun0_A.sl.HS0_11,
      kernelRun0_A.sl.HS0_10, kernelRun0_A.sl.HS0_9, kernelRun0_A.sl.HS0_8, kernelRun0_A.sl.HS0_7, kernelRun0_A.sl.HS0_6,
      kernelRun0_A.sl.HS0_5, kernelRun0_A.sl.HS0_4, kernelRun0_A.sl.HS0_3, kernelRun0_A.sl.HS0_2, kernelRun0_A.sl.HS0_1_1]
    repeat first
      | rw [load_same]
      | rw [load_skip (a := (0 : Fin 3)) (h := by decide)]
    rfl

set_option maxHeartbeats 800000 in
/-- The sums the first half starts from. -/
theorem last_a8 (h : Fin 8) :
    (![kernelRun0_A.sl.v219 c i arg3 harg3 arg4 harg4 arg5 harg5 arg6 harg6 arg7 harg7 arg8 harg8 x0 x1 x2, kernelRun0_A.sl.v232 c i arg3 harg3 arg4 harg4 arg5 harg5 arg6 harg6 arg7 harg7 arg8 harg8 x0 x1 x2, kernelRun0_A.sl.v245 c i arg3 harg3 arg4 harg4 arg5 harg5 arg6 harg6 arg7 harg7 arg8 harg8 x0 x1 x2, kernelRun0_A.sl.v258 c i arg3 harg3 arg4 harg4 arg5 harg5 arg6 harg6 arg7 harg7 arg8 harg8 x0 x1 x2, kernelRun0_A.sl.v271 c i arg3 harg3 arg4 harg4 arg5 harg5 arg6 harg6 arg7 harg7 arg8 harg8 x0 x1 x2, kernelRun0_A.sl.v284 c i arg3 harg3 arg4 harg4 arg5 harg5 arg6 harg6 arg7 harg7 arg8 harg8 x0 x1 x2, kernelRun0_A.sl.v297 c i arg3 harg3 arg4 harg4 arg5 harg5 arg6 harg6 arg7 harg7 arg8 harg8 x0 x1 x2, kernelRun0_A.sl.v310 c i arg3 harg3 arg4 harg4 arg5 harg5 arg6 harg6 arg7 harg7 arg8 harg8 x0 x1 x2] : Fin 8 → Vec F S1x72x512 .f32) h = a8 c i arg3 harg3 arg4 harg4 arg5 harg5 arg6 harg6 arg7 harg7 arg8 harg8 x0 x1 x2 h := by
  fin_cases h
  on_goal 1 => show kernelRun0_A.sl.v219 c i arg3 harg3 arg4 harg4 arg5 harg5 arg6 harg6 arg7 harg7 arg8 harg8 x0 x1 x2 = a8 c i arg3 harg3 arg4 harg4 arg5 harg5 arg6 harg6 arg7 harg7 arg8 harg8 x0 x1 x2 (0 : Fin 8)
  on_goal 2 => show kernelRun0_A.sl.v232 c i arg3 harg3 arg4 harg4 arg5 harg5 arg6 harg6 arg7 harg7 arg8 harg8 x0 x1 x2 = a8 c i arg3 harg3 arg4 harg4 arg5 harg5 arg6 harg6 arg7 harg7 arg8 harg8 x0 x1 x2 (1 : Fin 8)
  on_goal 3 => show kernelRun0_A.sl.v245 c i arg3 harg3 arg4 harg4 arg5 harg5 arg6 harg6 arg7 harg7 arg8 harg8 x0 x1 x2 = a8 c i arg3 harg3 arg4 harg4 arg5 harg5 arg6 harg6 arg7 harg7 arg8 harg8 x0 x1 x2 (2 : Fin 8)
  on_goal 4 => show kernelRun0_A.sl.v258 c i arg3 harg3 arg4 harg4 arg5 harg5 arg6 harg6 arg7 harg7 arg8 harg8 x0 x1 x2 = a8 c i arg3 harg3 arg4 harg4 arg5 harg5 arg6 harg6 arg7 harg7 arg8 harg8 x0 x1 x2 (3 : Fin 8)
  on_goal 5 => show kernelRun0_A.sl.v271 c i arg3 harg3 arg4 harg4 arg5 harg5 arg6 harg6 arg7 harg7 arg8 harg8 x0 x1 x2 = a8 c i arg3 harg3 arg4 harg4 arg5 harg5 arg6 harg6 arg7 harg7 arg8 harg8 x0 x1 x2 (4 : Fin 8)
  on_goal 6 => show kernelRun0_A.sl.v284 c i arg3 harg3 arg4 harg4 arg5 harg5 arg6 harg6 arg7 harg7 arg8 harg8 x0 x1 x2 = a8 c i arg3 harg3 arg4 harg4 arg5 harg5 arg6 harg6 arg7 harg7 arg8 harg8 x0 x1 x2 (5 : Fin 8)
  on_goal 7 => show kernelRun0_A.sl.v297 c i arg3 harg3 arg4 harg4 arg5 harg5 arg6 harg6 arg7 harg7 arg8 harg8 x0 x1 x2 = a8 c i arg3 harg3 arg4 harg4 arg5 harg5 arg6 harg6 arg7 harg7 arg8 harg8 x0 x1 x2 (6 : Fin 8)
  on_goal 8 => show kernelRun0_A.sl.v310 c i arg3 harg3 arg4 harg4 arg5 harg5 arg6 harg6 arg7 harg7 arg8 harg8 x0 x1 x2 = a8 c i arg3 harg3 arg4 harg4 arg5 harg5 arg6 harg6 arg7 harg7 arg8 harg8 x0 x1 x2 (7 : Fin 8)
  all_goals
    simp only [kernelRun0_A.sl.v219, kernelRun0_A.sl.v232, kernelRun0_A.sl.v245, kernelRun0_A.sl.v258, kernelRun0_A.sl.v271, kernelRun0_A.sl.v284,
      kernelRun0_A.sl.v297, kernelRun0_A.sl.v310]
    unfold View.readCov
    try simp only [kernelRun0_A.sl.HS1_16, kernelRun0_A.sl.HS1_15, kernelRun0_A.sl.HS1_14, kernelRun0_A.sl.HS1_13, kernelRun0_A.sl.HS1_12,
      kernelRun0_A.sl.HS1_11, kernelRun0_A.sl.HS1_10, kernelRun0_A.sl.HS1_9, kernelRun0_A.sl.HS1_8, kernelRun0_A.sl.HS1_7,
      kernelRun0_A.sl.HS1_6, kernelRun0_A.sl.HS1_5, kernelRun0_A.sl.HS1_4, kernelRun0_A.sl.HS1_3, kernelRun0_A.sl.HS1_2,
      kernelRun0_A.sl.HS1_1_1]
    repeat first
      | rw [load_same]
      | rw [load_skip (a := (0 : Fin 3)) (h := by decide)]
    rfl

set_option maxHeartbeats 1600000 in
/-- The maxima the second half starts from. -/
theorem last_m1 (h : Fin 8) :
    (![kernelRun0_A.sl.v376 c i arg3 harg3 arg4 harg4 arg5 harg5 arg6 harg6 arg7 harg7 arg8 harg8 x0 x1 x2, kernelRun0_A.sl.v395 c i arg3 harg3 arg4 harg4 arg5 harg5 arg6 harg6 arg7 harg7 arg8 harg8 x0 x1 x2, kernelRun0_A.sl.v414 c i arg3 harg3 arg4 harg4 arg5 harg5 arg6 harg6 arg7 harg7 arg8 harg8 x0 x1 x2, kernelRun0_A.sl.v433 c i arg3 harg3 arg4 harg4 arg5 harg5 arg6 harg6 arg7 harg7 arg8 harg8 x0 x1 x2, kernelRun0_A.sl.v452 c i arg3 harg3 arg4 harg4 arg5 harg5 arg6 harg6 arg7 harg7 arg8 harg8 x0 x1 x2, kernelRun0_A.sl.v471 c i arg3 harg3 arg4 harg4 arg5 harg5 arg6 harg6 arg7 harg7 arg8 harg8 x0 x1 x2, kernelRun0_A.sl.v490 c i arg3 harg3 arg4 harg4 arg5 harg5 arg6 harg6 arg7 harg7 arg8 harg8 x0 x1 x2, kernelRun0_A.sl.v509 c i arg3 harg3 arg4 harg4 arg5 harg5 arg6 harg6 arg7 harg7 arg8 harg8 x0 x1 x2] : Fin 8 → Vec F S1x1x256 .f32) h = hiM (m0n c i arg3 harg3 arg4 harg4 arg5 harg5 arg6 harg6 arg7 harg7 arg8 harg8 x0 x1 x2 h) := by
  have m0 : kernelRun0_A.sl.v69 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 0
  have m1 : kernelRun0_A.sl.v88 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 1
  have m2 : kernelRun0_A.sl.v107 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 2
  have m3 : kernelRun0_A.sl.v126 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 3
  have m4 : kernelRun0_A.sl.v145 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 4
  have m5 : kernelRun0_A.sl.v164 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 5
  have m6 : kernelRun0_A.sl.v183 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 6
  have m7 : kernelRun0_A.sl.v202 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 7
  fin_cases h
  on_goal 1 => show kernelRun0_A.sl.v376 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (0 : Fin 8))
  on_goal 2 => show kernelRun0_A.sl.v395 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (1 : Fin 8))
  on_goal 3 => show kernelRun0_A.sl.v414 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (2 : Fin 8))
  on_goal 4 => show kernelRun0_A.sl.v433 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (3 : Fin 8))
  on_goal 5 => show kernelRun0_A.sl.v452 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (4 : Fin 8))
  on_goal 6 => show kernelRun0_A.sl.v471 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (5 : Fin 8))
  on_goal 7 => show kernelRun0_A.sl.v490 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (6 : Fin 8))
  on_goal 8 => show kernelRun0_A.sl.v509 c i arg3 harg3 arg4 harg4 arg5 harg5 arg6 harg6 arg7 harg7 arg8 harg8 x0 x1 x2 = hiM (m0n c i arg3 harg3 arg4 harg4 arg5 harg5 arg6 harg6 arg7 harg7 arg8 harg8 x0 x1 x2 (7 : Fin 8))
  all_goals
    simp only [kernelRun0_A.sl.v376, kernelRun0_A.sl.v395, kernelRun0_A.sl.v414, kernelRun0_A.sl.v433, kernelRun0_A.sl.v452, kernelRun0_A.sl.v471,
      kernelRun0_A.sl.v490, kernelRun0_A.sl.v509]
    unfold View.readCov
    try simp only [kernelRun0_A.sl.HS0_15, kernelRun0_A.sl.HS0_14, kernelRun0_A.sl.HS0_13, kernelRun0_A.sl.HS0_12, kernelRun0_A.sl.HS0_11,
      kernelRun0_A.sl.HS0_10, kernelRun0_A.sl.HS0_9, kernelRun0_A.sl.HS0_8, kernelRun0_A.sl.HS0_7, kernelRun0_A.sl.HS0_6,
      kernelRun0_A.sl.HS0_5, kernelRun0_A.sl.HS0_4, kernelRun0_A.sl.HS0_3, kernelRun0_A.sl.HS0_2, kernelRun0_A.sl.HS0_1_1]
    repeat first
      | rw [load_same]
      | rw [load_skip (a := (0 : Fin 3)) (h := by decide)]
    rw [load_hiM]
    simp only [kernelRun0_A.sl.r_10, kernelRun0_A.sl.v409, kernelRun0_A.sl.r_72, kernelRun0_A.sl.r_24, kernelRun0_A.sl.r_45, kernelRun0_A.sl.r_69,
      kernelRun0_A.sl.r_3, kernelRun0_A.sl.r_32, kernelRun0_A.sl.r_52, kernelRun0_A.sl.r_56, kernelRun0_A.sl.r_65, kernelRun0_A.sl.r_26,
      kernelRun0_A.sl.r_64, kernelRun0_A.sl.r_2, kernelRun0_A.sl.r, kernelRun0_A.sl.r_67, kernelRun0_A.sl.r_11, kernelRun0_A.sl.r_66,
      kernelRun0_A.sl.v65, kernelRun0_A.sl.r_28, kernelRun0_A.sl.r_15, kernelRun0_A.sl.r_19, kernelRun0_A.sl.r_8, kernelRun0_A.sl.r_50,
      kernelRun0_A.sl.r_40, kernelRun0_A.sl.r_30, kernelRun0_A.sl.r_4, kernelRun0_A.sl.r_34, kernelRun0_A.sl.r_9, kernelRun0_A.sl.r_46,
      kernelRun0_A.sl.r_55, kernelRun0_A.sl.r_13, kernelRun0_A.sl.r_43, kernelRun0_A.sl.r_7, kernelRun0_A.sl.r_25, kernelRun0_A.sl.r_17,
      kernelRun0_A.sl.r_57, kernelRun0_A.sl.r_6, kernelRun0_A.sl.r_12, kernelRun0_A.sl.r_42, kernelRun0_A.sl.r_29, kernelRun0_A.sl.r_5,
      kernelRun0_A.sl.r_54, kernelRun0_A.sl.r_61, kernelRun0_A.sl.r_68, kernelRun0_A.sl.r_36, kernelRun0_A.sl.r_20, kernelRun0_A.sl.r_23,
      kernelRun0_A.sl.r_51, kernelRun0_A.sl.r_44, kernelRun0_A.sl.r_27, kernelRun0_A.sl.r_41, kernelRun0_A.sl.r_35, kernelRun0_A.sl.r_62,
      kernelRun0_A.sl.r_49, kernelRun0_A.sl.r_48, kernelRun0_A.sl.r_21, kernelRun0_A.sl.r_33, kernelRun0_A.sl.r_70, kernelRun0_A.sl.r_53,
      kernelRun0_A.sl.r_47, kernelRun0_A.sl.r_18, kernelRun0_A.sl.r_59, kernelRun0_A.sl.r_58, kernelRun0_A.sl.r_71, kernelRun0_A.sl.r_60,
      kernelRun0_A.sl.v64, kernelRun0_A.sl.r_16, kernelRun0_A.sl.r_22, kernelRun0_A.sl.r_38, kernelRun0_A.sl.r_39, kernelRun0_A.sl.cst_120,
      kernelRun0_A.sl.r_14, kernelRun0_A.sl.r_63, kernelRun0_A.sl.r_1, kernelRun0_A.sl.r_37, kernelRun0_A.sl.r_31, m0, m1, m2, m3, m4, m5, m6, m7]
    exact congrArg hiM rfl

set_option maxHeartbeats 1600000 in
/-- The sums the second half starts from. -/
theorem last_a1 (h : Fin 8) :
    (![kernelRun0_A.sl.v526 c i arg3 harg3 arg4 harg4 arg5 harg5 arg6 harg6 arg7 harg7 arg8 harg8 x0 x1 x2, kernelRun0_A.sl.v539 c i arg3 harg3 arg4 harg4 arg5 harg5 arg6 harg6 arg7 harg7 arg8 harg8 x0 x1 x2, kernelRun0_A.sl.v552 c i arg3 harg3 arg4 harg4 arg5 harg5 arg6 harg6 arg7 harg7 arg8 harg8 x0 x1 x2, kernelRun0_A.sl.v565 c i arg3 harg3 arg4 harg4 arg5 harg5 arg6 harg6 arg7 harg7 arg8 harg8 x0 x1 x2, kernelRun0_A.sl.v578 c i arg3 harg3 arg4 harg4 arg5 harg5 arg6 harg6 arg7 harg7 arg8 harg8 x0 x1 x2, kernelRun0_A.sl.v591 c i arg3 harg3 arg4 harg4 arg5 harg5 arg6 harg6 arg7 harg7 arg8 harg8 x0 x1 x2, kernelRun0_A.sl.v604 c i arg3 harg3 arg4 harg4 arg5 harg5 arg6 harg6 arg7 harg7 arg8 harg8 x0 x1 x2, kernelRun0_A.sl.v617 c i arg3 harg3 arg4 harg4 arg5 harg5 arg6 harg6 arg7 harg7 arg8 harg8 x0 x1 x2] : Fin 8 → Vec F S1x72x256 .f32) h = hiA (a0n c i arg3 harg3 arg4 harg4 arg5 harg5 arg6 harg6 arg7 harg7 arg8 harg8 x0 x1 x2 h) := by
  have m0 : kernelRun0_A.sl.v69 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 0
  have m1 : kernelRun0_A.sl.v88 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 1
  have m2 : kernelRun0_A.sl.v107 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 2
  have m3 : kernelRun0_A.sl.v126 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 3
  have m4 : kernelRun0_A.sl.v145 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 4
  have m5 : kernelRun0_A.sl.v164 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 5
  have m6 : kernelRun0_A.sl.v183 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 6
  have m7 : kernelRun0_A.sl.v202 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 7
  have a0 : kernelRun0_A.sl.v219 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 0
  have a1 : kernelRun0_A.sl.v232 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 1
  have a2 : kernelRun0_A.sl.v245 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 2
  have a3 : kernelRun0_A.sl.v258 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 3
  have a4 : kernelRun0_A.sl.v271 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 4
  have a5 : kernelRun0_A.sl.v284 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 5
  have a6 : kernelRun0_A.sl.v297 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 6
  have a7 : kernelRun0_A.sl.v310 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 7
  fin_cases h
  on_goal 1 => show kernelRun0_A.sl.v526 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (0 : Fin 8))
  on_goal 2 => show kernelRun0_A.sl.v539 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (1 : Fin 8))
  on_goal 3 => show kernelRun0_A.sl.v552 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (2 : Fin 8))
  on_goal 4 => show kernelRun0_A.sl.v565 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (3 : Fin 8))
  on_goal 5 => show kernelRun0_A.sl.v578 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (4 : Fin 8))
  on_goal 6 => show kernelRun0_A.sl.v591 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (5 : Fin 8))
  on_goal 7 => show kernelRun0_A.sl.v604 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (6 : Fin 8))
  on_goal 8 => show kernelRun0_A.sl.v617 c i arg3 harg3 arg4 harg4 arg5 harg5 arg6 harg6 arg7 harg7 arg8 harg8 x0 x1 x2 = hiA (a0n c i arg3 harg3 arg4 harg4 arg5 harg5 arg6 harg6 arg7 harg7 arg8 harg8 x0 x1 x2 (7 : Fin 8))
  all_goals
    simp only [kernelRun0_A.sl.v526, kernelRun0_A.sl.v539, kernelRun0_A.sl.v552, kernelRun0_A.sl.v565, kernelRun0_A.sl.v578, kernelRun0_A.sl.v591,
      kernelRun0_A.sl.v604, kernelRun0_A.sl.v617]
    unfold View.readCov
    try simp only [kernelRun0_A.sl.HS1_16, kernelRun0_A.sl.HS1_15, kernelRun0_A.sl.HS1_14, kernelRun0_A.sl.HS1_13, kernelRun0_A.sl.HS1_12,
      kernelRun0_A.sl.HS1_11, kernelRun0_A.sl.HS1_10, kernelRun0_A.sl.HS1_9, kernelRun0_A.sl.HS1_8, kernelRun0_A.sl.HS1_7,
      kernelRun0_A.sl.HS1_6, kernelRun0_A.sl.HS1_5, kernelRun0_A.sl.HS1_4, kernelRun0_A.sl.HS1_3, kernelRun0_A.sl.HS1_2,
      kernelRun0_A.sl.HS1_1_1]
    repeat first
      | rw [load_same]
      | rw [load_skip (a := (0 : Fin 3)) (h := by decide)]
    rw [load_hiA]
    simp only [kernelRun0_A.sl.r_10, kernelRun0_A.sl.v409, kernelRun0_A.sl.r_72, kernelRun0_A.sl.r_24, kernelRun0_A.sl.r_45, kernelRun0_A.sl.r_69,
      kernelRun0_A.sl.r_3, kernelRun0_A.sl.r_32, kernelRun0_A.sl.r_52, kernelRun0_A.sl.r_56, kernelRun0_A.sl.r_65, kernelRun0_A.sl.r_26,
      kernelRun0_A.sl.r_64, kernelRun0_A.sl.r_2, kernelRun0_A.sl.r, kernelRun0_A.sl.r_67, kernelRun0_A.sl.r_11, kernelRun0_A.sl.r_66,
      kernelRun0_A.sl.v65, kernelRun0_A.sl.r_28, kernelRun0_A.sl.r_15, kernelRun0_A.sl.r_19, kernelRun0_A.sl.r_8, kernelRun0_A.sl.r_50,
      kernelRun0_A.sl.r_40, kernelRun0_A.sl.r_30, kernelRun0_A.sl.r_4, kernelRun0_A.sl.r_34, kernelRun0_A.sl.r_9, kernelRun0_A.sl.r_46,
      kernelRun0_A.sl.r_55, kernelRun0_A.sl.r_13, kernelRun0_A.sl.r_43, kernelRun0_A.sl.r_7, kernelRun0_A.sl.r_25, kernelRun0_A.sl.r_17,
      kernelRun0_A.sl.r_57, kernelRun0_A.sl.r_6, kernelRun0_A.sl.r_12, kernelRun0_A.sl.r_42, kernelRun0_A.sl.r_29, kernelRun0_A.sl.r_5,
      kernelRun0_A.sl.r_54, kernelRun0_A.sl.r_61, kernelRun0_A.sl.r_68, kernelRun0_A.sl.r_36, kernelRun0_A.sl.r_20, kernelRun0_A.sl.r_23,
      kernelRun0_A.sl.r_51, kernelRun0_A.sl.r_44, kernelRun0_A.sl.r_27, kernelRun0_A.sl.r_41, kernelRun0_A.sl.r_35, kernelRun0_A.sl.r_62,
      kernelRun0_A.sl.r_49, kernelRun0_A.sl.r_48, kernelRun0_A.sl.r_21, kernelRun0_A.sl.r_33, kernelRun0_A.sl.r_70, kernelRun0_A.sl.r_53,
      kernelRun0_A.sl.r_47, kernelRun0_A.sl.r_18, kernelRun0_A.sl.r_59, kernelRun0_A.sl.r_58, kernelRun0_A.sl.r_71, kernelRun0_A.sl.r_60,
      kernelRun0_A.sl.v64, kernelRun0_A.sl.r_16, kernelRun0_A.sl.r_22, kernelRun0_A.sl.r_38, kernelRun0_A.sl.r_39, kernelRun0_A.sl.cst_120,
      kernelRun0_A.sl.r_14, kernelRun0_A.sl.r_63, kernelRun0_A.sl.r_1, kernelRun0_A.sl.r_37, kernelRun0_A.sl.r_31, m0, m1, m2, m3, m4, m5, m6, m7, a0, a1, a2, a3, a4, a5, a6, a7]
    exact congrArg hiA rfl
end Cert.KernelIdeal.Rows
-- ==== Proof.Close.lean ====
module
public import proofs.«01_k».proof.Proof.Last
@[expose] public section
set_option maxRecDepth 16384
noncomputable section
namespace Cert.KernelIdeal.Rows
open Cert.KernelIdeal Cert.KernelIdeal.Gen
open Idealize.ShloMosaic Idealize.ShloMosaic.TcCoe Idealize.SL.Sem
variable {F : FTy → Type} [FloatOps F]
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x72x512 .f32) (harg8 : arg8.IsWhole)
  (x0 : Vec F S512x1024 .bf16) (x1 : Vec F S4096x1024 .bf16) (x2 : Vec F S4096x1024 .bf16)

/-- Rows `r` on of the sums `a`, with the later queries' columns taken from `w`. -/
def mgN (a : Vec F S1x64x512 .f32) (w : Vec F S1x72x256 .f32) : Vec F S1x64x512 .f32 := fun y =>
  if hy : (y 2).val < 256 then a y
  else w (ix3 0 ⟨(y 1).val, by have : (y 1).val < 64 := (y 1).isLt; omega⟩ ⟨(y 2).val - 256, by have : (y 2).val < 512 := (y 2).isLt; omega⟩)
/-- The same for the one row of denominators, row 64. -/
def mgD (a : Vec F S1x1x512 .f32) (w : Vec F S1x72x256 .f32) : Vec F S1x1x512 .f32 := fun y =>
  if hy : (y 2).val < 256 then a y
  else w (ix3 0 ⟨64, by omega⟩ ⟨(y 2).val - 256, by have : (y 2).val < 512 := (y 2).isLt; omega⟩)
/-- The first 64 rows of the sums, -/
def rwN (a : Vec F S1x72x512 .f32) : Vec F S1x64x512 .f32 := fun y =>
  a (ix3 0 ⟨(y 1).val, by have : (y 1).val < 64 := (y 1).isLt; omega⟩ ⟨(y 2).val, (y 2).isLt⟩)
/-- and the row of denominators. -/
def rwD (a : Vec F S1x72x512 .f32) : Vec F S1x1x512 .f32 := fun y => a (ix3 0 ⟨64, by omega⟩ ⟨(y 2).val, (y 2).isLt⟩)

theorem load_mgN (v : View sig .tc .vmem S8x72x512 .f32) (f : v.ty.Contents (Elt F)) {h : ℕ} (inb : ∀ a, (![h, 0, 0] : Fin 3 → ℕ) a + (![1, 64, 512] : Fin 3 → ℕ) a ≤ S8x72x512.size a)
    (inb' : ∀ a, (![h, 0, 256] : Fin 3 → ℕ) a + (![1, 72, 256] : Fin 3 → ℕ) a ≤ S8x72x512.size a) (w : Vec F S1x72x256 .f32) (L : List (View.Piece (Elt F) S8x72x512 .f32)) :
    v.readAt (Elt F) (Rect.unit ![h, 0, 0] ![1, 64, 512] inb).toLoadRect (v.writes (Elt F) f (⟨Rect.unit ![h, 0, 256] ![1, 72, 256] inb', w⟩ :: L))
      = mgN (v.readAt (Elt F) (Rect.unit ![h, 0, 0] ![1, 64, 512] inb).toLoadRect (v.writes (Elt F) f L)) w := by
  funext y
  have h0 : (y 0).val < 1 := (y 0).isLt
  have h2 : (y 2).val < 512 := (y 2).isLt
  unfold mgN
  split
  · rename_i hy
    refine View.read_writes_cons_unit_of_not_mem v f inb' w L _ rfl 2 ?_
    left
    show 0 + 1 * (y 2).val < 256
    omega
  · rename_i hy
    refine load_within v f inb inb' w L y (ix3 0 ⟨(y 1).val, by have : (y 1).val < 64 := (y 1).isLt; omega⟩ ⟨(y 2).val - 256, by omega⟩) fun a => ?_
    fin_cases a
    · show h + (y 0).val = h + 0
      omega
    · rfl
    · show 0 + (y 2).val = 256 + ((y 2).val - 256)
      omega

theorem load_mgD (v : View sig .tc .vmem S8x72x512 .f32) (f : v.ty.Contents (Elt F)) {h : ℕ} (inb : ∀ a, (![h, 64, 0] : Fin 3 → ℕ) a + (![1, 1, 512] : Fin 3 → ℕ) a ≤ S8x72x512.size a)
    (inb' : ∀ a, (![h, 0, 256] : Fin 3 → ℕ) a + (![1, 72, 256] : Fin 3 → ℕ) a ≤ S8x72x512.size a) (w : Vec F S1x72x256 .f32) (L : List (View.Piece (Elt F) S8x72x512 .f32)) :
    v.readAt (Elt F) (Rect.unit ![h, 64, 0] ![1, 1, 512] inb).toLoadRect (v.writes (Elt F) f (⟨Rect.unit ![h, 0, 256] ![1, 72, 256] inb', w⟩ :: L))
      = mgD (v.readAt (Elt F) (Rect.unit ![h, 64, 0] ![1, 1, 512] inb).toLoadRect (v.writes (Elt F) f L)) w := by
  funext y
  have h0 : (y 0).val < 1 := (y 0).isLt
  have h1 : (y 1).val < 1 := (y 1).isLt
  have h2 : (y 2).val < 512 := (y 2).isLt
  unfold mgD
  split
  · rename_i hy
    refine View.read_writes_cons_unit_of_not_mem v f inb' w L _ rfl 2 ?_
    left
    show 0 + 1 * (y 2).val < 256
    omega
  · rename_i hy
    refine load_within v f inb inb' w L y (ix3 0 ⟨64, by omega⟩ ⟨(y 2).val - 256, by omega⟩) fun a => ?_
    fin_cases a
    · show h + (y 0).val = h + 0
      omega
    · show 64 + (y 1).val = 0 + 64
      omega
    · show 0 + (y 2).val = 256 + ((y 2).val - 256)
      omega

theorem load_rwN (v : View sig .tc .vmem S8x72x512 .f32) (f : v.ty.Contents (Elt F)) {h : ℕ} (inb : ∀ a, (![h, 0, 0] : Fin 3 → ℕ) a + (![1, 64, 512] : Fin 3 → ℕ) a ≤ S8x72x512.size a)
    (inb' : ∀ a, (![h, 0, 0] : Fin 3 → ℕ) a + (![1, 72, 512] : Fin 3 → ℕ) a ≤ S8x72x512.size a) (w : Vec F S1x72x512 .f32) (L : List (View.Piece (Elt F) S8x72x512 .f32)) :
    v.readAt (Elt F) (Rect.unit ![h, 0, 0] ![1, 64, 512] inb).toLoadRect (v.writes (Elt F) f (⟨Rect.unit ![h, 0, 0] ![1, 72, 512] inb', w⟩ :: L)) = rwN w := by
  funext y
  have h0 : (y 0).val < 1 := (y 0).isLt
  refine load_within v f inb inb' w L y (ix3 0 ⟨(y 1).val, by have : (y 1).val < 64 := (y 1).isLt; omega⟩ ⟨(y 2).val, (y 2).isLt⟩) fun a => ?_
  fin_cases a
  · show h + (y 0).val = h + 0
    omega
  · rfl
  · rfl

theorem load_rwD (v : View sig .tc .vmem S8x72x512 .f32) (f : v.ty.Contents (Elt F)) {h : ℕ} (inb : ∀ a, (![h, 64, 0] : Fin 3 → ℕ) a + (![1, 1, 512] : Fin 3 → ℕ) a ≤ S8x72x512.size a)
    (inb' : ∀ a, (![h, 0, 0] : Fin 3 → ℕ) a + (![1, 72, 512] : Fin 3 → ℕ) a ≤ S8x72x512.size a) (w : Vec F S1x72x512 .f32) (L : List (View.Piece (Elt F) S8x72x512 .f32)) :
    v.readAt (Elt F) (Rect.unit ![h, 64, 0] ![1, 1, 512] inb).toLoadRect (v.writes (Elt F) f (⟨Rect.unit ![h, 0, 0] ![1, 72, 512] inb', w⟩ :: L)) = rwD w := by
  funext y
  have h0 : (y 0).val < 1 := (y 0).isLt
  have h1 : (y 1).val < 1 := (y 1).isLt
  refine load_within v f inb inb' w L y (ix3 0 ⟨64, by omega⟩ ⟨(y 2).val, (y 2).isLt⟩) fun a => ?_
  fin_cases a
  · show h + (y 0).val = h + 0
    omega
  · show 64 + (y 1).val = 0 + 64
    omega
  · rfl

/-- The numerators the kernel ends with, -/
def fN (h : Fin 8) : Vec F S1x64x512 .f32 := mgN (rwN (a0n c i arg3 harg3 arg4 harg4 arg5 harg5 arg6 harg6 arg7 harg7 arg8 harg8 x0 x1 x2 h)) (a1n c i arg3 harg3 arg4 harg4 arg5 harg5 arg6 harg6 arg7 harg7 arg8 harg8 x0 x1 x2 h)
/-- and the denominators. -/
def fD (h : Fin 8) : Vec F S1x1x512 .f32 := mgD (rwD (a0n c i arg3 harg3 arg4 harg4 arg5 harg5 arg6 harg6 arg7 harg7 arg8 harg8 x0 x1 x2 h)) (a1n c i arg3 harg3 arg4 harg4 arg5 harg5 arg6 harg6 arg7 harg7 arg8 harg8 x0 x1 x2 h)

theorem mgN_eq {a a' : Vec F S1x72x512 .f32} {w w' : Vec F S1x72x256 .f32} (h : a = a') (h' : w = w') : mgN (rwN a) w = mgN (rwN a') w' := by
  rw [h, h']
theorem mgD_eq {a a' : Vec F S1x72x512 .f32} {w w' : Vec F S1x72x256 .f32} (h : a = a') (h' : w = w') : mgD (rwD a) w = mgD (rwD a') w' := by
  rw [h, h']

set_option maxHeartbeats 1600000 in
/-- What the last loads of the numerators see. -/
theorem last_N (h : Fin 8) :
    (![kernelRun0_A.sl.v627 c i arg3 harg3 arg4 harg4 arg5 harg5 arg6 harg6 arg7 harg7 arg8 harg8 x0 x1 x2, kernelRun0_A.sl.v633 c i arg3 harg3 arg4 harg4 arg5 harg5 arg6 harg6 arg7 harg7 arg8 harg8 x0 x1 x2, kernelRun0_A.sl.v639 c i arg3 harg3 arg4 harg4 arg5 harg5 arg6 harg6 arg7 harg7 arg8 harg8 x0 x1 x2, kernelRun0_A.sl.v645 c i arg3 harg3 arg4 harg4 arg5 harg5 arg6 harg6 arg7 harg7 arg8 harg8 x0 x1 x2, kernelRun0_A.sl.v651 c i arg3 harg3 arg4 harg4 arg5 harg5 arg6 harg6 arg7 harg7 arg8 harg8 x0 x1 x2, kernelRun0_A.sl.v657 c i arg3 harg3 arg4 harg4 arg5 harg5 arg6 harg6 arg7 harg7 arg8 harg8 x0 x1 x2, kernelRun0_A.sl.v663 c i arg3 harg3 arg4 harg4 arg5 harg5 arg6 harg6 arg7 harg7 arg8 harg8 x0 x1 x2, kernelRun0_A.sl.v669 c i arg3 harg3 arg4 harg4 arg5 harg5 arg6 harg6 arg7 harg7 arg8 harg8 x0 x1 x2] : Fin 8 → Vec F S1x64x512 .f32) h = fN c i arg3 harg3 arg4 harg4 arg5 harg5 arg6 harg6 arg7 harg7 arg8 harg8 x0 x1 x2 h := by
  have m0 : kernelRun0_A.sl.v69 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 0
  have m1 : kernelRun0_A.sl.v88 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 1
  have m2 : kernelRun0_A.sl.v107 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 2
  have m3 : kernelRun0_A.sl.v126 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 3
  have m4 : kernelRun0_A.sl.v145 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 4
  have m5 : kernelRun0_A.sl.v164 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 5
  have m6 : kernelRun0_A.sl.v183 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 6
  have m7 : kernelRun0_A.sl.v202 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 7
  have a0 : kernelRun0_A.sl.v219 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 0
  have a1 : kernelRun0_A.sl.v232 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 1
  have a2 : kernelRun0_A.sl.v245 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 2
  have a3 : kernelRun0_A.sl.v258 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 3
  have a4 : kernelRun0_A.sl.v271 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 4
  have a5 : kernelRun0_A.sl.v284 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 5
  have a6 : kernelRun0_A.sl.v297 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 6
  have a7 : kernelRun0_A.sl.v310 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 7
  have n0 : kernelRun0_A.sl.v376 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 0
  have n1 : kernelRun0_A.sl.v395 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 1
  have n2 : kernelRun0_A.sl.v414 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 2
  have n3 : kernelRun0_A.sl.v433 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 3
  have n4 : kernelRun0_A.sl.v452 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 4
  have n5 : kernelRun0_A.sl.v471 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 5
  have n6 : kernelRun0_A.sl.v490 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 6
  have n7 : kernelRun0_A.sl.v509 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 7
  have b0 : kernelRun0_A.sl.v526 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 0
  have b1 : kernelRun0_A.sl.v539 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 1
  have b2 : kernelRun0_A.sl.v552 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 2
  have b3 : kernelRun0_A.sl.v565 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 3
  have b4 : kernelRun0_A.sl.v578 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 4
  have b5 : kernelRun0_A.sl.v591 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 5
  have b6 : kernelRun0_A.sl.v604 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 6
  have b7 : kernelRun0_A.sl.v617 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 7
  fin_cases h
  on_goal 1 => show kernelRun0_A.sl.v627 c i arg3 harg3 arg4 harg4 arg5 harg5 arg6 harg6 arg7 harg7 arg8 harg8 x0 x1 x2 = fN c i arg3 harg3 arg4 harg4 arg5 harg5 arg6 harg6 arg7 harg7 arg8 harg8 x0 x1 x2 (0 : Fin 8)
  on_goal 2 => show kernelRun0_A.sl.v633 c i arg3 harg3 arg4 harg4 arg5 harg5 arg6 harg6 arg7 harg7 arg8 harg8 x0 x1 x2 = fN c i arg3 harg3 arg4 harg4 arg5 harg5 arg6 harg6 arg7 harg7 arg8 harg8 x0 x1 x2 (1 : Fin 8)
  on_goal 3 => show kernelRun0_A.sl.v639 c i arg3 harg3 arg4 harg4 arg5 harg5 arg6 harg6 arg7 harg7 arg8 harg8 x0 x1 x2 = fN c i arg3 harg3 arg4 harg4 arg5 harg5 arg6 harg6 arg7 harg7 arg8 harg8 x0 x1 x2 (2 : Fin 8)
  on_goal 4 => show kernelRun0_A.sl.v645 c i arg3 harg3 arg4 harg4 arg5 harg5 arg6 harg6 arg7 harg7 arg8 harg8 x0 x1 x2 = fN c i arg3 harg3 arg4 harg4 arg5 harg5 arg6 harg6 arg7 harg7 arg8 harg8 x0 x1 x2 (3 : Fin 8)
  on_goal 5 => show kernelRun0_A.sl.v651 c i arg3 harg3 arg4 harg4 arg5 harg5 arg6 harg6 arg7 harg7 arg8 harg8 x0 x1 x2 = fN c i arg3 harg3 arg4 harg4 arg5 harg5 arg6 harg6 arg7 harg7 arg8 harg8 x0 x1 x2 (4 : Fin 8)
  on_goal 6 => show kernelRun0_A.sl.v657 c i arg3 harg3 arg4 harg4 arg5 harg5 arg6 harg6 arg7 harg7 arg8 harg8 x0 x1 x2 = fN c i arg3 harg3 arg4 harg4 arg5 harg5 arg6 harg6 arg7 harg7 arg8 harg8 x0 x1 x2 (5 : Fin 8)
  on_goal 7 => show kernelRun0_A.sl.v663 c i arg3 harg3 arg4 harg4 arg5 harg5 arg6 harg6 arg7 harg7 arg8 harg8 x0 x1 x2 = fN c i arg3 harg3 arg4 harg4 arg5 harg5 arg6 harg6 arg7 harg7 arg8 harg8 x0 x1 x2 (6 : Fin 8)
  on_goal 8 => show kernelRun0_A.sl.v669 c i arg3 harg3 arg4 harg4 arg5 harg5 arg6 harg6 arg7 harg7 arg8 harg8 x0 x1 x2 = fN c i arg3 harg3 arg4 harg4 arg5 harg5 arg6 harg6 arg7 harg7 arg8 harg8 x0 x1 x2 (7 : Fin 8)
  all_goals
    simp only [kernelRun0_A.sl.v627, kernelRun0_A.sl.v633, kernelRun0_A.sl.v639, kernelRun0_A.sl.v645, kernelRun0_A.sl.v651, kernelRun0_A.sl.v657,
      kernelRun0_A.sl.v663, kernelRun0_A.sl.v669]
    unfold View.readCov
    simp only [kernelRun0_A.sl.HS1_16, kernelRun0_A.sl.HS1_15, kernelRun0_A.sl.HS1_14, kernelRun0_A.sl.HS1_13, kernelRun0_A.sl.HS1_12,
      kernelRun0_A.sl.HS1_11, kernelRun0_A.sl.HS1_10, kernelRun0_A.sl.HS1_9, kernelRun0_A.sl.HS1_8, kernelRun0_A.sl.HS1_7,
      kernelRun0_A.sl.HS1_6, kernelRun0_A.sl.HS1_5, kernelRun0_A.sl.HS1_4, kernelRun0_A.sl.HS1_3, kernelRun0_A.sl.HS1_2,
      kernelRun0_A.sl.HS1_1_1]
    repeat rw [load_skip (a := (0 : Fin 3)) (h := by decide)]
    rw [load_mgN]
    repeat rw [load_skip (a := (0 : Fin 3)) (h := by decide)]
    rw [load_rwN]
    simp only [kernelRun0_A.sl.r_10, kernelRun0_A.sl.v409, kernelRun0_A.sl.r_72, kernelRun0_A.sl.r_24, kernelRun0_A.sl.r_45, kernelRun0_A.sl.r_69,
      kernelRun0_A.sl.r_3, kernelRun0_A.sl.r_32, kernelRun0_A.sl.r_52, kernelRun0_A.sl.r_56, kernelRun0_A.sl.r_65, kernelRun0_A.sl.r_26,
      kernelRun0_A.sl.r_64, kernelRun0_A.sl.r_2, kernelRun0_A.sl.r, kernelRun0_A.sl.r_67, kernelRun0_A.sl.r_11, kernelRun0_A.sl.r_66,
      kernelRun0_A.sl.v65, kernelRun0_A.sl.r_28, kernelRun0_A.sl.r_15, kernelRun0_A.sl.r_19, kernelRun0_A.sl.r_8, kernelRun0_A.sl.r_50,
      kernelRun0_A.sl.r_40, kernelRun0_A.sl.r_30, kernelRun0_A.sl.r_4, kernelRun0_A.sl.r_34, kernelRun0_A.sl.r_9, kernelRun0_A.sl.r_46,
      kernelRun0_A.sl.r_55, kernelRun0_A.sl.r_13, kernelRun0_A.sl.r_43, kernelRun0_A.sl.r_7, kernelRun0_A.sl.r_25, kernelRun0_A.sl.r_17,
      kernelRun0_A.sl.r_57, kernelRun0_A.sl.r_6, kernelRun0_A.sl.r_12, kernelRun0_A.sl.r_42, kernelRun0_A.sl.r_29, kernelRun0_A.sl.r_5,
      kernelRun0_A.sl.r_54, kernelRun0_A.sl.r_61, kernelRun0_A.sl.r_68, kernelRun0_A.sl.r_36, kernelRun0_A.sl.r_20, kernelRun0_A.sl.r_23,
      kernelRun0_A.sl.r_51, kernelRun0_A.sl.r_44, kernelRun0_A.sl.r_27, kernelRun0_A.sl.r_41, kernelRun0_A.sl.r_35, kernelRun0_A.sl.r_62,
      kernelRun0_A.sl.r_49, kernelRun0_A.sl.r_48, kernelRun0_A.sl.r_21, kernelRun0_A.sl.r_33, kernelRun0_A.sl.r_70, kernelRun0_A.sl.r_53,
      kernelRun0_A.sl.r_47, kernelRun0_A.sl.r_18, kernelRun0_A.sl.r_59, kernelRun0_A.sl.r_58, kernelRun0_A.sl.r_71, kernelRun0_A.sl.r_60,
      kernelRun0_A.sl.v64, kernelRun0_A.sl.r_16, kernelRun0_A.sl.r_22, kernelRun0_A.sl.r_38, kernelRun0_A.sl.r_39, kernelRun0_A.sl.cst_120,
      kernelRun0_A.sl.r_14, kernelRun0_A.sl.r_63, kernelRun0_A.sl.r_1, kernelRun0_A.sl.r_37, kernelRun0_A.sl.r_31, m0, m1, m2, m3, m4, m5, m6, m7, a0, a1, a2, a3, a4, a5, a6, a7, n0, n1, n2, n3, n4, n5, n6, n7, b0, b1, b2, b3, b4, b5, b6, b7]
    exact mgN_eq rfl rfl

set_option maxHeartbeats 1600000 in
/-- What the last loads of the denominators see. -/
theorem last_D (h : Fin 8) :
    (![kernelRun0_A.sl.v629 c i arg3 harg3 arg4 harg4 arg5 harg5 arg6 harg6 arg7 harg7 arg8 harg8 x0 x1 x2, kernelRun0_A.sl.v635 c i arg3 harg3 arg4 harg4 arg5 harg5 arg6 harg6 arg7 harg7 arg8 harg8 x0 x1 x2, kernelRun0_A.sl.v641 c i arg3 harg3 arg4 harg4 arg5 harg5 arg6 harg6 arg7 harg7 arg8 harg8 x0 x1 x2, kernelRun0_A.sl.v647 c i arg3 harg3 arg4 harg4 arg5 harg5 arg6 harg6 arg7 harg7 arg8 harg8 x0 x1 x2, kernelRun0_A.sl.v653 c i arg3 harg3 arg4 harg4 arg5 harg5 arg6 harg6 arg7 harg7 arg8 harg8 x0 x1 x2, kernelRun0_A.sl.v659 c i arg3 harg3 arg4 harg4 arg5 harg5 arg6 harg6 arg7 harg7 arg8 harg8 x0 x1 x2, kernelRun0_A.sl.v665 c i arg3 harg3 arg4 harg4 arg5 harg5 arg6 harg6 arg7 harg7 arg8 harg8 x0 x1 x2, kernelRun0_A.sl.v671 c i arg3 harg3 arg4 harg4 arg5 harg5 arg6 harg6 arg7 harg7 arg8 harg8 x0 x1 x2] : Fin 8 → Vec F S1x1x512 .f32) h = fD c i arg3 harg3 arg4 harg4 arg5 harg5 arg6 harg6 arg7 harg7 arg8 harg8 x0 x1 x2 h := by
  have m0 : kernelRun0_A.sl.v69 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 0
  have m1 : kernelRun0_A.sl.v88 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 1
  have m2 : kernelRun0_A.sl.v107 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 2
  have m3 : kernelRun0_A.sl.v126 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 3
  have m4 : kernelRun0_A.sl.v145 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 4
  have m5 : kernelRun0_A.sl.v164 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 5
  have m6 : kernelRun0_A.sl.v183 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 6
  have m7 : kernelRun0_A.sl.v202 c i arg3 harg3 arg4 harg4 arg5 harg5 arg6 harg6 arg7 harg7 arg8 harg8 x0 x1 x2 = _ := last_m7 c i arg3 harg3 arg4 harg4 arg5 harg5 arg6 harg6 arg7 harg7 arg8 harg8 x0 x1 x2 7
  have a0 : kernelRun0_A.sl.v219 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 0
  have a1 : kernelRun0_A.sl.v232 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 1
  have a2 : kernelRun0_A.sl.v245 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 2
  have a3 : kernelRun0_A.sl.v258 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 3
  have a4 : kernelRun0_A.sl.v271 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 4
  have a5 : kernelRun0_A.sl.v284 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 5
  have a6 : kernelRun0_A.sl.v297 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 6
  have a7 : kernelRun0_A.sl.v310 c i arg3 harg3 arg4 harg4 arg5 harg5 arg6 harg6 arg7 harg7 arg8 harg8 x0 x1 x2 = _ := last_a8 c i arg3 harg3 arg4 harg4 arg5 harg5 arg6 harg6 arg7 harg7 arg8 harg8 x0 x1 x2 7
  have n0 : kernelRun0_A.sl.v376 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 0
  have n1 : kernelRun0_A.sl.v395 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 1
  have n2 : kernelRun0_A.sl.v414 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 2
  have n3 : kernelRun0_A.sl.v433 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 3
  have n4 : kernelRun0_A.sl.v452 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 4
  have n5 : kernelRun0_A.sl.v471 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 5
  have n6 : kernelRun0_A.sl.v490 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 6
  have n7 : kernelRun0_A.sl.v509 c i arg3 harg3 arg4 harg4 arg5 harg5 arg6 harg6 arg7 harg7 arg8 harg8 x0 x1 x2 = _ := last_m1 c i arg3 harg3 arg4 harg4 arg5 harg5 arg6 harg6 arg7 harg7 arg8 harg8 x0 x1 x2 7
  have b0 : kernelRun0_A.sl.v526 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 0
  have b1 : kernelRun0_A.sl.v539 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 1
  have b2 : kernelRun0_A.sl.v552 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 2
  have b3 : kernelRun0_A.sl.v565 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 3
  have b4 : kernelRun0_A.sl.v578 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 4
  have b5 : kernelRun0_A.sl.v591 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 5
  have b6 : kernelRun0_A.sl.v604 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 6
  have b7 : kernelRun0_A.sl.v617 c i arg3 harg3 arg4 harg4 arg5 harg5 arg6 harg6 arg7 harg7 arg8 harg8 x0 x1 x2 = _ := last_a1 c i arg3 harg3 arg4 harg4 arg5 harg5 arg6 harg6 arg7 harg7 arg8 harg8 x0 x1 x2 7
  fin_cases h
  on_goal 1 => show kernelRun0_A.sl.v629 c i arg3 harg3 arg4 harg4 arg5 harg5 arg6 harg6 arg7 harg7 arg8 harg8 x0 x1 x2 = fD c i arg3 harg3 arg4 harg4 arg5 harg5 arg6 harg6 arg7 harg7 arg8 harg8 x0 x1 x2 (0 : Fin 8)
  on_goal 2 => show kernelRun0_A.sl.v635 c i arg3 harg3 arg4 harg4 arg5 harg5 arg6 harg6 arg7 harg7 arg8 harg8 x0 x1 x2 = fD c i arg3 harg3 arg4 harg4 arg5 harg5 arg6 harg6 arg7 harg7 arg8 harg8 x0 x1 x2 (1 : Fin 8)
  on_goal 3 => show kernelRun0_A.sl.v641 c i arg3 harg3 arg4 harg4 arg5 harg5 arg6 harg6 arg7 harg7 arg8 harg8 x0 x1 x2 = fD c i arg3 harg3 arg4 harg4 arg5 harg5 arg6 harg6 arg7 harg7 arg8 harg8 x0 x1 x2 (2 : Fin 8)
  on_goal 4 => show kernelRun0_A.sl.v647 c i arg3 harg3 arg4 harg4 arg5 harg5 arg6 harg6 arg7 harg7 arg8 harg8 x0 x1 x2 = fD c i arg3 harg3 arg4 harg4 arg5 harg5 arg6 harg6 arg7 harg7 arg8 harg8 x0 x1 x2 (3 : Fin 8)
  on_goal 5 => show kernelRun0_A.sl.v653 c i arg3 harg3 arg4 harg4 arg5 harg5 arg6 harg6 arg7 harg7 arg8 harg8 x0 x1 x2 = fD c i arg3 harg3 arg4 harg4 arg5 harg5 arg6 harg6 arg7 harg7 arg8 harg8 x0 x1 x2 (4 : Fin 8)
  on_goal 6 => show kernelRun0_A.sl.v659 c i arg3 harg3 arg4 harg4 arg5 harg5 arg6 harg6 arg7 harg7 arg8 harg8 x0 x1 x2 = fD c i arg3 harg3 arg4 harg4 arg5 harg5 arg6 harg6 arg7 harg7 arg8 harg8 x0 x1 x2 (5 : Fin 8)
  on_goal 7 => show kernelRun0_A.sl.v665 c i arg3 harg3 arg4 harg4 arg5 harg5 arg6 harg6 arg7 harg7 arg8 harg8 x0 x1 x2 = fD c i arg3 harg3 arg4 harg4 arg5 harg5 arg6 harg6 arg7 harg7 arg8 harg8 x0 x1 x2 (6 : Fin 8)
  on_goal 8 => show kernelRun0_A.sl.v671 c i arg3 harg3 arg4 harg4 arg5 harg5 arg6 harg6 arg7 harg7 arg8 harg8 x0 x1 x2 = fD c i arg3 harg3 arg4 harg4 arg5 harg5 arg6 harg6 arg7 harg7 arg8 harg8 x0 x1 x2 (7 : Fin 8)
  all_goals
    simp only [kernelRun0_A.sl.v629, kernelRun0_A.sl.v635, kernelRun0_A.sl.v641, kernelRun0_A.sl.v647, kernelRun0_A.sl.v653, kernelRun0_A.sl.v659,
      kernelRun0_A.sl.v665, kernelRun0_A.sl.v671]
    unfold View.readCov
    simp only [kernelRun0_A.sl.HS1_16, kernelRun0_A.sl.HS1_15, kernelRun0_A.sl.HS1_14, kernelRun0_A.sl.HS1_13, kernelRun0_A.sl.HS1_12,
      kernelRun0_A.sl.HS1_11, kernelRun0_A.sl.HS1_10, kernelRun0_A.sl.HS1_9, kernelRun0_A.sl.HS1_8, kernelRun0_A.sl.HS1_7,
      kernelRun0_A.sl.HS1_6, kernelRun0_A.sl.HS1_5, kernelRun0_A.sl.HS1_4, kernelRun0_A.sl.HS1_3, kernelRun0_A.sl.HS1_2,
      kernelRun0_A.sl.HS1_1_1]
    repeat rw [load_skip (a := (0 : Fin 3)) (h := by decide)]
    rw [load_mgD]
    repeat rw [load_skip (a := (0 : Fin 3)) (h := by decide)]
    rw [load_rwD]
    simp only [kernelRun0_A.sl.r_10, kernelRun0_A.sl.v409, kernelRun0_A.sl.r_72, kernelRun0_A.sl.r_24, kernelRun0_A.sl.r_45, kernelRun0_A.sl.r_69,
      kernelRun0_A.sl.r_3, kernelRun0_A.sl.r_32, kernelRun0_A.sl.r_52, kernelRun0_A.sl.r_56, kernelRun0_A.sl.r_65, kernelRun0_A.sl.r_26,
      kernelRun0_A.sl.r_64, kernelRun0_A.sl.r_2, kernelRun0_A.sl.r, kernelRun0_A.sl.r_67, kernelRun0_A.sl.r_11, kernelRun0_A.sl.r_66,
      kernelRun0_A.sl.v65, kernelRun0_A.sl.r_28, kernelRun0_A.sl.r_15, kernelRun0_A.sl.r_19, kernelRun0_A.sl.r_8, kernelRun0_A.sl.r_50,
      kernelRun0_A.sl.r_40, kernelRun0_A.sl.r_30, kernelRun0_A.sl.r_4, kernelRun0_A.sl.r_34, kernelRun0_A.sl.r_9, kernelRun0_A.sl.r_46,
      kernelRun0_A.sl.r_55, kernelRun0_A.sl.r_13, kernelRun0_A.sl.r_43, kernelRun0_A.sl.r_7, kernelRun0_A.sl.r_25, kernelRun0_A.sl.r_17,
      kernelRun0_A.sl.r_57, kernelRun0_A.sl.r_6, kernelRun0_A.sl.r_12, kernelRun0_A.sl.r_42, kernelRun0_A.sl.r_29, kernelRun0_A.sl.r_5,
      kernelRun0_A.sl.r_54, kernelRun0_A.sl.r_61, kernelRun0_A.sl.r_68, kernelRun0_A.sl.r_36, kernelRun0_A.sl.r_20, kernelRun0_A.sl.r_23,
      kernelRun0_A.sl.r_51, kernelRun0_A.sl.r_44, kernelRun0_A.sl.r_27, kernelRun0_A.sl.r_41, kernelRun0_A.sl.r_35, kernelRun0_A.sl.r_62,
      kernelRun0_A.sl.r_49, kernelRun0_A.sl.r_48, kernelRun0_A.sl.r_21, kernelRun0_A.sl.r_33, kernelRun0_A.sl.r_70, kernelRun0_A.sl.r_53,
      kernelRun0_A.sl.r_47, kernelRun0_A.sl.r_18, kernelRun0_A.sl.r_59, kernelRun0_A.sl.r_58, kernelRun0_A.sl.r_71, kernelRun0_A.sl.r_60,
      kernelRun0_A.sl.v64, kernelRun0_A.sl.r_16, kernelRun0_A.sl.r_22, kernelRun0_A.sl.r_38, kernelRun0_A.sl.r_39, kernelRun0_A.sl.cst_120,
      kernelRun0_A.sl.r_14, kernelRun0_A.sl.r_63, kernelRun0_A.sl.r_1, kernelRun0_A.sl.r_37, kernelRun0_A.sl.r_31, m0, m1, m2, m3, m4, m5, m6, m7, a0, a1, a2, a3, a4, a5, a6, a7, n0, n1, n2, n3, n4, n5, n6, n7, b0, b1, b2, b3, b4, b5, b6, b7]
    exact mgD_eq rfl rfl

/-- The block the kernel writes, from every head's numerators `n` and denominators `d`. -/
def outPay (n : Fin 8 → Vec F S1x64x512 .f32) (d : Fin 8 → Vec F S1x1x512 .f32) : FVec F S512x512 .bf16 :=
  k0_pay1 (k0_pay394 (n 0) (d 0)) (k0_pay394 (n 1) (d 1)) (k0_pay394 (n 2) (d 2)) (k0_pay394 (n 3) (d 3)) (k0_pay394 (n 4) (d 4))
    (k0_pay394 (n 5) (d 5)) (k0_pay401 (n 6)) (d 6) (n 7) (d 7)

/-- What one point leaves in its output block. -/
theorem out_eq : out0_A_3 c i arg3 harg3 arg4 harg4 arg5 harg5 arg6 harg6 arg7 harg7 arg8 harg8 x0 x1 x2 = outPay (fN c i arg3 harg3 arg4 harg4 arg5 harg5 arg6 harg6 arg7 harg7 arg8 harg8 x0 x1 x2) (fD c i arg3 harg3 arg4 harg4 arg5 harg5 arg6 harg6 arg7 harg7 arg8 harg8 x0 x1 x2) := by
  have n0 : kernelRun0_A.sl.v627 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 0
  have n1 : kernelRun0_A.sl.v633 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 1
  have n2 : kernelRun0_A.sl.v639 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 2
  have n3 : kernelRun0_A.sl.v645 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 3
  have n4 : kernelRun0_A.sl.v651 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 4
  have n5 : kernelRun0_A.sl.v657 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 5
  have n6 : kernelRun0_A.sl.v663 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 6
  have n7 : kernelRun0_A.sl.v669 c i arg3 harg3 arg4 harg4 arg5 harg5 arg6 harg6 arg7 harg7 arg8 harg8 x0 x1 x2 = _ := last_N c i arg3 harg3 arg4 harg4 arg5 harg5 arg6 harg6 arg7 harg7 arg8 harg8 x0 x1 x2 7
  have d0 : kernelRun0_A.sl.v629 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 0
  have d1 : kernelRun0_A.sl.v635 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 1
  have d2 : kernelRun0_A.sl.v641 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 2
  have d3 : kernelRun0_A.sl.v647 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 3
  have d4 : kernelRun0_A.sl.v653 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 4
  have d5 : kernelRun0_A.sl.v659 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 5
  have d6 : kernelRun0_A.sl.v665 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 6
  have d7 : kernelRun0_A.sl.v671 c i arg3 harg3 arg4 harg4 arg5 harg5 arg6 harg6 arg7 harg7 arg8 harg8 x0 x1 x2 = _ := last_D c i arg3 harg3 arg4 harg4 arg5 harg5 arg6 harg6 arg7 harg7 arg8 harg8 x0 x1 x2 7
  unfold out0_A_3
  funext y
  refine (View.read_writes_cons_unit_of_mem VO0_3 _ inb_S512x512_S512x512_0_0 _ [] y y rfl (fun a => by
    fin_cases a
    · show (y 0).val = 0 + (y 0).val
      omega
    · show (y 1).val = 0 + (y 1).val
      omega)).trans ?_
  simp only [kernelRun0_A.sl.r_72, kernelRun0_A.sl.r_69, kernelRun0_A.sl.r_65, kernelRun0_A.sl.r_67, kernelRun0_A.sl.r_66, kernelRun0_A.sl.r_68,
      kernelRun0_A.sl.r_70, kernelRun0_A.sl.r_71, n0, n1, n2, n3, n4, n5, n6, n7, d0, d1, d2, d3, d4, d5, d6, d7]
  rfl
end Cert.KernelIdeal.Rows
-- ==== Proof.Induct.lean ====
module
public import proofs.«01_k».proof.Proof.Close
@[expose] public section
set_option maxRecDepth 16384
noncomputable section
namespace Cert.KernelIdeal.Rows
open Cert.KernelIdeal Cert.KernelIdeal.Gen
open Idealize.ShloMosaic Idealize.ShloMosaic.TcCoe Idealize.SL.Sem
variable {F : FTy → Type} [FloatOps F]
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x72x512 .f32) (harg8 : arg8.IsWhole)
  (x0 : Vec F S512x1024 .bf16) (x1 : Vec F S4096x1024 .bf16) (x2 : Vec F S4096x1024 .bf16)

/-- The first loop takes one trip for each earlier tile of keys, -/
theorem trips1 : (k0_t1_loop i).trips = (i 2).val :=
  (by decide +kernel : ∀ j : Fin 8, Scf.trips (0#32) (Scalar.addi (0#32) (Scalar.muli (Scalar.divsi (Scalar.subi (BitVec.ofNat 32 j.val) 0#32) 1#32) 1#32)) (1#32) = j.val) (i 2)

/-- and the second none. -/
theorem trips2 : (k0_t2_loop i).trips = 0 :=
  (by decide +kernel : ∀ j : Fin 8, Scf.trips (Scalar.addi (0#32) (Scalar.muli (Scalar.divsi (Scalar.subi (BitVec.ofNat 32 j.val) 0#32) 1#32) 1#32)) (Scalar.addi (0#32) (Scalar.subi (BitVec.ofNat 32 j.val) 0#32)) (1#32) = 0) (i 2)

/-- The contents the first loop starts from. -/
def g7 : arg7.view.ty.Contents (Elt F) := arg7.view.writes (Elt F) arg7.view.junk kernelRun0_A.sl.HS0_1
def g8 : arg8.view.ty.Contents (Elt F) := arg8.view.writes (Elt F) arg8.view.junk kernelRun0_A.sl.HS1_1

/-- The stores of the first `n` trips. -/
def pbn (n : ℕ) : List (View.Piece (Elt F) S8x1x512 .f32) × List (View.Piece (Elt F) S8x72x512 .f32) :=
  pb_k0_t1 Variants.none c none i arg3 harg3 arg4 harg4 arg5 harg5 arg6 harg6 arg7 harg7 arg8 harg8 (harg3.unread x0) (harg4.unread x1) (harg5.unread x2) (g7 arg7) (g8 arg8) n

/-- The maxima after `n` trips, -/
def mS (n : ℕ) (h : Fin 8) : Vec F S1x1x512 .f32 := mRow arg7 (arg7.view.writes (Elt F) (g7 arg7) (pbn c i arg3 harg3 arg4 harg4 arg5 harg5 arg6 harg6 arg7 harg7 arg8 harg8 x0 x1 x2 n).1) h
/-- and the sums. -/
def aS (n : ℕ) (h : Fin 8) : Vec F S1x72x512 .f32 := aRow arg8 (arg8.view.writes (Elt F) (g8 arg8) (pbn c i arg3 harg3 arg4 harg4 arg5 harg5 arg6 harg6 arg7 harg7 arg8 harg8 x0 x1 x2 n).2) h

theorem pay248_apply (x : S8x1x512.Idx) : (k0_pay248 (F := F)) x = FloatOps.ofBits .f32 0xFF800000#32 := rfl

theorem row_zerom (v : View sig .tc .vmem S8x1x512 .f32) (f : v.ty.Contents (Elt F)) (w : Vec F S8x1x512 .f32) (h : Fin 8) (inb : ∀ a, (![h.val, 0, 0] : Fin 3 → ℕ) a + S1x1x512.size a ≤ S8x1x512.size a) (y : S1x1x512.Idx) :
    v.readAt (Elt F) (Rect.unit (s := S8x1x512) ![h.val, 0, 0] S1x1x512.size inb).toLoadRect (v.writes (Elt F) f [⟨Rect.unit ![0, 0, 0] S8x1x512.size inb_S8x1x512_S8x1x512_0_0_0, w⟩]) y
      = w (ix3 h ⟨(y 1).val, (y 1).isLt⟩ ⟨(y 2).val, (y 2).isLt⟩) := by
  have h0 : (y 0).val < 1 := (y 0).isLt
  refine load_within v f inb inb_S8x1x512_S8x1x512_0_0_0 w [] y (ix3 h ⟨(y 1).val, (y 1).isLt⟩ ⟨(y 2).val, (y 2).isLt⟩) ?_
  intro a
  fin_cases a
  · show h.val + (y 0).val = 0 + h.val
    omega
  · rfl
  · rfl

theorem mS_zero (h : Fin 8) (y : S1x1x512.Idx) : mS c i arg3 harg3 arg4 harg4 arg5 harg5 arg6 harg6 arg7 harg7 arg8 harg8 x0 x1 x2 0 h y = FloatOps.ofBits .f32 0xFF800000#32 := by
  unfold mS pbn
  simp only [pb_k0_t1]
  unfold mRow g7 kernelRun0_A.sl.HS0_1
  rw [View.writes_nil]
  exact (row_zerom arg7.view arg7.view.junk k0_pay248 h _ y).trans (pay248_apply _)

theorem pay249_apply (x : S8x72x512.Idx) : (k0_pay249 (F := F)) x = FloatOps.ofBits .f32 0x00000000#32 := rfl

theorem row_zeroa (v : View sig .tc .vmem S8x72x512 .f32) (f : v.ty.Contents (Elt F)) (w : Vec F S8x72x512 .f32) (h : Fin 8) (inb : ∀ a, (![h.val, 0, 0] : Fin 3 → ℕ) a + S1x72x512.size a ≤ S8x72x512.size a) (y : S1x72x512.Idx) :
    v.readAt (Elt F) (Rect.unit (s := S8x72x512) ![h.val, 0, 0] S1x72x512.size inb).toLoadRect (v.writes (Elt F) f [⟨Rect.unit ![0, 0, 0] S8x72x512.size inb_S8x72x512_S8x72x512_0_0_0, w⟩]) y
      = w (ix3 h ⟨(y 1).val, (y 1).isLt⟩ ⟨(y 2).val, (y 2).isLt⟩) := by
  have h0 : (y 0).val < 1 := (y 0).isLt
  refine load_within v f inb inb_S8x72x512_S8x72x512_0_0_0 w [] y (ix3 h ⟨(y 1).val, (y 1).isLt⟩ ⟨(y 2).val, (y 2).isLt⟩) ?_
  intro a
  fin_cases a
  · show h.val + (y 0).val = 0 + h.val
    omega
  · rfl
  · rfl

theorem aS_zero (h : Fin 8) (y : S1x72x512.Idx) : aS c i arg3 harg3 arg4 harg4 arg5 harg5 arg6 harg6 arg7 harg7 arg8 harg8 x0 x1 x2 0 h y = FloatOps.ofBits .f32 0x00000000#32 := by
  unfold aS pbn
  simp only [pb_k0_t1]
  unfold aRow g8 kernelRun0_A.sl.HS1_1
  rw [View.writes_nil]
  exact (row_zeroa arg8.view arg8.view.junk k0_pay249 h _ y).trans (pay249_apply _)

theorem mS_succ (k : Fin (k0_t1_loop i).trips) (h : Fin 8) :
    mS c i arg3 harg3 arg4 harg4 arg5 harg5 arg6 harg6 arg7 harg7 arg8 harg8 x0 x1 x2 (k.val + 1) h = mNew (tSc i arg3 arg4 (harg3.unread x0) (harg4.unread x1) k 1 h) (mNew (tSc i arg3 arg4 (harg3.unread x0) (harg4.unread x1) k 0 h) (mS c i arg3 harg3 arg4 harg4 arg5 harg5 arg6 harg6 arg7 harg7 arg8 harg8 x0 x1 x2 k.val h)) := by
  refine Eq.trans ?_ (trip_m Variants.none c none i arg3 harg3 arg4 harg4 arg5 harg5 arg6 harg6 arg7 harg7 arg8 harg8 (harg3.unread x0) (harg4.unread x1) (harg5.unread x2) k (arg7.view.writes (Elt F) (g7 arg7) (pbn c i arg3 harg3 arg4 harg4 arg5 harg5 arg6 harg6 arg7 harg7 arg8 harg8 x0 x1 x2 k.val).1) (arg8.view.writes (Elt F) (g8 arg8) (pbn c i arg3 harg3 arg4 harg4 arg5 harg5 arg6 harg6 arg7 harg7 arg8 harg8 x0 x1 x2 k.val).2) h)
  unfold mS
  rw [show pbn c i arg3 harg3 arg4 harg4 arg5 harg5 arg6 harg6 arg7 harg7 arg8 harg8 x0 x1 x2 (k.val + 1) = _ from pb_k0_t1_succ Variants.none c none i arg3 harg3 arg4 harg4 arg5 harg5 arg6 harg6 arg7 harg7 arg8 harg8 (harg3.unread x0) (harg4.unread x1) (harg5.unread x2) (g7 arg7) (g8 arg8) k]
  rw [View.writes_append]
  rfl

theorem aS_succ (k : Fin (k0_t1_loop i).trips) (h : Fin 8) :
    aS c i arg3 harg3 arg4 harg4 arg5 harg5 arg6 harg6 arg7 harg7 arg8 harg8 x0 x1 x2 (k.val + 1) h = aNew (tSc i arg3 arg4 (harg3.unread x0) (harg4.unread x1) k 1 h) (mNew (tSc i arg3 arg4 (harg3.unread x0) (harg4.unread x1) k 0 h) (mS c i arg3 harg3 arg4 harg4 arg5 harg5 arg6 harg6 arg7 harg7 arg8 harg8 x0 x1 x2 k.val h))
      (tBlk i k arg5 (harg5.unread x2) 1 h)
      (aNew (tSc i arg3 arg4 (harg3.unread x0) (harg4.unread x1) k 0 h) (mS c i arg3 harg3 arg4 harg4 arg5 harg5 arg6 harg6 arg7 harg7 arg8 harg8 x0 x1 x2 k.val h) (tBlk i k arg5 (harg5.unread x2) 0 h) (aS c i arg3 harg3 arg4 harg4 arg5 harg5 arg6 harg6 arg7 harg7 arg8 harg8 x0 x1 x2 k.val h)) := by
  refine Eq.trans ?_ (trip_a Variants.none c none i arg3 harg3 arg4 harg4 arg5 harg5 arg6 harg6 arg7 harg7 arg8 harg8 (harg3.unread x0) (harg4.unread x1) (harg5.unread x2) k (arg7.view.writes (Elt F) (g7 arg7) (pbn c i arg3 harg3 arg4 harg4 arg5 harg5 arg6 harg6 arg7 harg7 arg8 harg8 x0 x1 x2 k.val).1) (arg8.view.writes (Elt F) (g8 arg8) (pbn c i arg3 harg3 arg4 harg4 arg5 harg5 arg6 harg6 arg7 harg7 arg8 harg8 x0 x1 x2 k.val).2) h)
  unfold aS
  rw [show pbn c i arg3 harg3 arg4 harg4 arg5 harg5 arg6 harg6 arg7 harg7 arg8 harg8 x0 x1 x2 (k.val + 1) = _ from pb_k0_t1_succ Variants.none c none i arg3 harg3 arg4 harg4 arg5 harg5 arg6 harg6 arg7 harg7 arg8 harg8 (harg3.unread x0) (harg4.unread x1) (harg5.unread x2) (g7 arg7) (g8 arg8) k]
  rw [View.writes_append]
  rfl

/-- The stores before the last tile are those of the first loop's trips. -/
theorem base7_eq : base7 c i arg3 harg3 arg4 harg4 arg5 harg5 arg6 harg6 arg7 harg7 arg8 harg8 x0 x1 x2 = (pbn c i arg3 harg3 arg4 harg4 arg5 harg5 arg6 harg6 arg7 harg7 arg8 harg8 x0 x1 x2 (i 2).val).1 ++ kernelRun0_A.sl.HS0_1 := by
  rw [← trips1 i]
  unfold base7
  rw [show Scf.trips (k0_t2_loop i).lb (k0_t2_loop i).ub (k0_t2_loop i).st = 0 from trips2 i]
  rfl
theorem base8_eq : base8 c i arg3 harg3 arg4 harg4 arg5 harg5 arg6 harg6 arg7 harg7 arg8 harg8 x0 x1 x2 = (pbn c i arg3 harg3 arg4 harg4 arg5 harg5 arg6 harg6 arg7 harg7 arg8 harg8 x0 x1 x2 (i 2).val).2 ++ kernelRun0_A.sl.HS1_1 := by
  rw [← trips1 i]
  unfold base8
  rw [show Scf.trips (k0_t2_loop i).lb (k0_t2_loop i).ub (k0_t2_loop i).st = 0 from trips2 i]
  rfl

theorem m7_eq (h : Fin 8) : m7 c i arg3 harg3 arg4 harg4 arg5 harg5 arg6 harg6 arg7 harg7 arg8 harg8 x0 x1 x2 h = mS c i arg3 harg3 arg4 harg4 arg5 harg5 arg6 harg6 arg7 harg7 arg8 harg8 x0 x1 x2 (i 2).val h := by
  unfold m7 mS
  rw [base7_eq, View.writes_append]
  rfl
theorem a8_eq (h : Fin 8) : a8 c i arg3 harg3 arg4 harg4 arg5 harg5 arg6 harg6 arg7 harg7 arg8 harg8 x0 x1 x2 h = aS c i arg3 harg3 arg4 harg4 arg5 harg5 arg6 harg6 arg7 harg7 arg8 harg8 x0 x1 x2 (i 2).val h := by
  unfold a8 aS
  rw [base8_eq, View.writes_append]
  rfl
end Cert.KernelIdeal.Rows
-- ==== Proof.Online.lean ====
module
public import Idealize.ShloMosaic.PureOps
public import Idealize.ShloMosaic.Lib.Pointwise
@[expose] public section
noncomputable section
namespace Cert.Online
open Idealize.ShloMosaic

/-! # Softmax taken a tile of keys at a time

One query meets keys `0, 1, …` with real scores `s` and values `w`. The kernel keeps a running maximum `M` and a
running sum `A` of `w k · 2 ^ (s k - M)`, and rescales the sum whenever the maximum grows. -/

theorem exp2_coe (r : ℝ) : Ideal.exp2 (r : EReal) = ((2 : ℝ) ^ r : ℝ) := rfl
theorem exp2_bot : Ideal.exp2 ⊥ = 0 := rfl

/-- After the first `n` keys: nothing yet, or the maximum is a real `μ` and the sum is taken relative to it. -/
def Inv (s w : ℕ → ℝ) (n : ℕ) (M A : EReal) : Prop :=
  (n = 0 ∧ M = ⊥ ∧ A = 0) ∨ ∃ μ : ℝ, M = μ ∧ A = ((∑ k ∈ Finset.range n, w k * (2 : ℝ) ^ (s k - μ) : ℝ) : EReal)

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A maximum over entries that are real or `-∞`, one of them real, is real. -/
theorem fold_real {n : ℕ} (S : Fin n → EReal) (hS : ∀ r, S r = ⊥ ∨ ∃ x : ℝ, S r = x) (r₀ : Fin n) (h₀ : ∃ x : ℝ, S r₀ = x) :
    ∃ σ : ℝ, Finset.univ.fold max ⊥ S = σ := by
  have key : Finset.univ.fold max ⊥ S = Finset.univ.sup S := rfl
  rw [key]
  obtain ⟨i, -, hi⟩ := Finset.exists_mem_eq_sup Finset.univ ⟨r₀, Finset.mem_univ _⟩ S
  rcases hS i with h | h
  · exfalso
    obtain ⟨x, hx⟩ := h₀
    have : S r₀ ≤ ⊥ := by
      rw [← h, ← hi]
      exact Finset.le_sup (Finset.mem_univ r₀)
    rw [hx] at this
    exact absurd this (by simp)
  · rwa [hi]

/-- The sum of a tile's first `c` terms. -/
theorem tile_sum {N : ℕ} (c : ℕ) (hc : c ≤ N) (f : ℕ → ℝ) :
    (∑ r : Fin N, if r.val < c then f r.val else 0) = ∑ r ∈ Finset.range c, f r := by
  rw [Fin.sum_univ_eq_sum_range (fun r => if r < c then f r else 0) N, ← Finset.sum_filter]
  congr 1
  ext r
  simp only [Finset.mem_filter, Finset.mem_range]
  omega

/-- One tile of `N` keys, of which the first `c` are kept. -/
theorem Inv.step {s w : ℕ → ℝ} {n : ℕ} {M A : EReal} (h : Inv s w n M A) {N : ℕ} (c : ℕ) (hc0 : 0 < c) (hc : c ≤ N)
    (S W : Fin N → EReal) (hS : ∀ r, S r = if r.val < c then ((s (n + r.val) : ℝ) : EReal) else ⊥)
    (hW : ∀ r, W r = ((w (n + r.val) : ℝ) : EReal)) :
    Inv s w (n + c) (max M (Finset.univ.fold max ⊥ S))
      (Ideal.exp2 (M - max M (Finset.univ.fold max ⊥ S)) * A + ∑ r, W r * Ideal.exp2 (S r - max M (Finset.univ.fold max ⊥ S))) := by
  obtain ⟨σ, hσ⟩ := fold_real S (fun r => by
    rw [hS]
    split
    · exact Or.inr ⟨_, rfl⟩
    · exact Or.inl rfl) ⟨0, by omega⟩ ⟨s (n + 0), by rw [hS, if_pos hc0]⟩
  rw [hσ]
  have hM : ∃ μ : ℝ, max M (σ : EReal) = μ := by
    rcases h with ⟨-, hM, -⟩ | ⟨μ, hM, -⟩
    · exact ⟨σ, by rw [hM, max_eq_right bot_le]⟩
    · exact ⟨max μ σ, by rw [hM]; exact (EReal.coe_strictMono.monotone.map_max).symm⟩
  obtain ⟨μ', hμ'⟩ := hM
  rw [hμ']
  refine Or.inr ⟨μ', rfl, ?_⟩
  have hsum : (∑ r, W r * Ideal.exp2 (S r - (μ' : EReal)))
      = ((∑ r ∈ Finset.range c, w (n + r) * (2 : ℝ) ^ (s (n + r) - μ') : ℝ) : EReal) := by
    rw [← tile_sum c hc (fun r => w (n + r) * (2 : ℝ) ^ (s (n + r) - μ')), coe_sum]
    refine Finset.sum_congr rfl fun r _ => ?_
    rw [hS, hW]
    split
    · rw [← EReal.coe_sub, exp2_coe, ← EReal.coe_mul]
    · rw [EReal.bot_sub, exp2_bot, mul_zero, EReal.coe_zero]
  have hold : Ideal.exp2 (M - (μ' : EReal)) * A = ((∑ k ∈ Finset.range n, w k * (2 : ℝ) ^ (s k - μ') : ℝ) : EReal) := by
    rcases h with ⟨hn, hM, hA⟩ | ⟨μ, hM, hA⟩
    · rw [hn, hA, mul_zero, Finset.range_zero, Finset.sum_empty, EReal.coe_zero]
    · rw [hM, hA, ← EReal.coe_sub, exp2_coe, ← EReal.coe_mul, Finset.mul_sum]
      congr 1
      refine Finset.sum_congr rfl fun k _ => ?_
      rw [mul_left_comm, ← Real.rpow_add two_pos]
      congr 2
      ring
  rw [hsum, hold, ← EReal.coe_add, ← Finset.sum_range_add]

/-- A quotient of two such sums no longer depends on the maximum. -/
theorem Inv.quot {s w : ℕ → ℝ} {n : ℕ} {M A B : EReal} (hn : 0 < n) (h : Inv s w n M A) (h' : Inv s (fun _ => 1) n M B) :
    Ideal.div A B = (((∑ k ∈ Finset.range n, w k * (2 : ℝ) ^ s k) / (∑ k ∈ Finset.range n, (2 : ℝ) ^ s k) : ℝ) : EReal) := by
  rcases h with ⟨h0, -, -⟩ | ⟨μ, hM, hA⟩
  · omega
  rcases h' with ⟨h0, -, -⟩ | ⟨μ', hM', hB⟩
  · omega
  have : μ = μ' := EReal.coe_injective (hM.symm.trans hM')
  subst this
  have hpos : 0 < ∑ k ∈ Finset.range n, (1 : ℝ) * (2 : ℝ) ^ (s k - μ) :=
    Finset.sum_pos (fun k _ => by positivity) ⟨0, Finset.mem_range.mpr hn⟩
  have hpos' : 0 < ∑ k ∈ Finset.range n, (2 : ℝ) ^ s k :=
    Finset.sum_pos (fun k _ => by positivity) ⟨0, Finset.mem_range.mpr hn⟩
  unfold Ideal.div
  rw [hA, hB, if_neg (by
    intro h
    exact hpos.ne' (EReal.coe_injective h)), ← EReal.coe_inv, ← EReal.coe_mul]
  congr 1
  have e : ∀ u : ℕ → ℝ, ∑ k ∈ Finset.range n, u k * (2 : ℝ) ^ (s k - μ) = (∑ k ∈ Finset.range n, u k * (2 : ℝ) ^ s k) * (2 : ℝ) ^ (-μ) := by
    intro u
    rw [Finset.sum_mul]
    refine Finset.sum_congr rfl fun k _ => ?_
    rw [sub_eq_add_neg, Real.rpow_add two_pos, mul_assoc]
  rw [e w, e (fun _ => 1), ← div_eq_mul_inv]
  simp only [one_mul]
  rw [mul_div_mul_right _ _ (by positivity)]

/-- The plain softmax of one query: its scores `t` kept where `k < n`, `-∞` after, divided by their sum and summed
    against the values `w`. -/
theorem softmax_plain {N : ℕ} (n : ℕ) (hn0 : 0 < n) (hn : n ≤ N) (t w : ℕ → ℝ) (T W : Fin N → EReal)
    (hT : ∀ k, T k = if k.val < n then ((t k.val : ℝ) : EReal) else ⊥) (hW : ∀ k, W k = ((w k.val : ℝ) : EReal)) :
    ∑ k, W k * Ideal.div (Ideal.exp (T k - max ⊥ (Finset.univ.fold max ⊥ T)))
        (0 + ∑ j, Ideal.exp (T j - max ⊥ (Finset.univ.fold max ⊥ T)))
      = (((∑ k ∈ Finset.range n, w k * Real.exp (t k)) / (∑ k ∈ Finset.range n, Real.exp (t k)) : ℝ) : EReal) := by
  obtain ⟨σ, hσ⟩ := fold_real T (fun r => by
    rw [hT]
    split
    · exact Or.inr ⟨_, rfl⟩
    · exact Or.inl rfl) ⟨0, by omega⟩ ⟨t 0, by rw [hT, if_pos hn0]⟩
  rw [hσ, max_eq_right bot_le, zero_add]
  have hexp : ∀ k, Ideal.exp (T k - (σ : EReal)) = ((if k.val < n then Real.exp (t k.val - σ) else 0 : ℝ) : EReal) := by
    intro k
    rw [hT]
    split
    · rw [← EReal.coe_sub]
      rfl
    · rw [EReal.bot_sub]
      rfl
  simp only [hexp]
  rw [← coe_sum, tile_sum n hn (fun k => Real.exp (t k - σ))]
  have e : ∀ u : ℕ → ℝ, ∑ k ∈ Finset.range n, u k * Real.exp (t k - σ) = (∑ k ∈ Finset.range n, u k * Real.exp (t k)) * Real.exp (-σ) := by
    intro u
    rw [Finset.sum_mul]
    refine Finset.sum_congr rfl fun k _ => ?_
    rw [sub_eq_add_neg, Real.exp_add, mul_assoc]
  have hpos : 0 < ∑ k ∈ Finset.range n, Real.exp (t k - σ) :=
    Finset.sum_pos (fun k _ => Real.exp_pos _) ⟨0, Finset.mem_range.mpr hn0⟩
  have hne : ((∑ k ∈ Finset.range n, Real.exp (t k - σ) : ℝ) : EReal) ≠ 0 := fun h => hpos.ne' (EReal.coe_injective h)
  simp only [Ideal.div, if_neg hne, hW, ← EReal.coe_inv, ← EReal.coe_mul]
  rw [← coe_sum]
  congr 1
  have : ∀ k : Fin N, w k.val * ((if k.val < n then Real.exp (t k.val - σ) else 0) * (∑ k ∈ Finset.range n, Real.exp (t k - σ))⁻¹)
      = if k.val < n then w k.val * Real.exp (t k.val - σ) * (∑ k ∈ Finset.range n, Real.exp (t k - σ))⁻¹ else 0 := by
    intro k
    split
    · rw [mul_assoc]
    · rw [zero_mul, mul_zero]
  simp only [this]
  rw [tile_sum n hn (fun k => w k * Real.exp (t k - σ) * (∑ k ∈ Finset.range n, Real.exp (t k - σ))⁻¹), ← Finset.sum_mul, ← div_eq_mul_inv, e w]
  have e1 := e (fun _ => 1)
  simp only [one_mul] at e1
  rw [e1, mul_div_mul_right _ _ (Real.exp_pos _).ne']
end Cert.Online
-- ==== Proof.Host.lean ====
module
public import proofs.«01_k».proof.Proof.Gen.KernelIdeal.Value
public import Idealize.ShloMosaic.Lib.Pipeline.ValueKit
public import Idealize.ShloMosaic.Lib.Pointwise
@[expose] public section
set_option maxRecDepth 16384
noncomputable section
namespace Cert.KernelIdeal.Rows
open Cert.KernelIdeal Cert.KernelIdeal.Gen
open Idealize.ShloMosaic Idealize.ShloMosaic.TcCoe Idealize.SL.Sem

/-! # What the kernel's three operands hold, as reals -/

variable (m : (ℓ : Loc nD τ sig) → Buf (Elt Ideal) ℓ) (c : Dev nD)

/-- The queries as reals, zero past the last lane; -/
def rq (b : Fin 8) (Q : ℕ) (h : Fin 8) (l : ℕ) : ℝ :=
  if hh : Q < 4096 ∧ l < 96 then EReal.toReal (m ((c : Thread nD τ).loc main_arg0) (ix4 b ⟨Q, hh.1⟩ h ⟨l, hh.2⟩)) else 0
/-- the keys; -/
def rk (b : Fin 8) (Q : ℕ) (h : Fin 8) (l : ℕ) : ℝ :=
  if hh : Q < 4096 ∧ l < 96 then EReal.toReal (m ((c : Thread nD τ).loc main_arg1) (ix4 b ⟨Q, hh.1⟩ h ⟨l, hh.2⟩)) else 0
/-- the values, with ones in lane 64. -/
def rv (b : Fin 8) (Q : ℕ) (h : Fin 8) (l : ℕ) : ℝ :=
  if l = 64 then 1 else
  if hh : Q < 4096 ∧ l < 64 then EReal.toReal (m ((c : Thread nD τ).loc main_arg2) (ix4 b ⟨Q, hh.1⟩ h ⟨l, hh.2⟩)) else 0

/-- Every entry of the arguments is a real. -/
def AllReal : Prop :=
  (∀ x : S8x4096x8x96.Idx, ∃ r : ℝ, m ((c : Thread nD τ).loc main_arg0) x = (r : EReal)) ∧
  (∀ x : S8x4096x8x96.Idx, ∃ r : ℝ, m ((c : Thread nD τ).loc main_arg1) x = (r : EReal)) ∧
  (∀ x : S8x4096x8x64.Idx, ∃ r : ℝ, m ((c : Thread nD τ).loc main_arg2) x = (r : EReal))

/-- The factor the queries are scaled by. -/
def scl : ℝ := 1 / (Real.sqrt 96 * Real.log 2)

theorem lit96 : Ideal.ofBits .f32 1119879168#32 = ((96 : ℝ) : EReal) := by
  simp [Ideal.ofBits, Ideal.ieee]
  rw [← EReal.coe_mul]
  norm_num
theorem lit2 : Ideal.ofBits .f32 1073741824#32 = ((2 : ℝ) : EReal) := by
  simp [Ideal.ofBits, Ideal.ieee]
  rw [← EReal.coe_mul]
  norm_num
theorem litInf : Ideal.ofBits .f32 4286578688#32 = ⊥ := by
  simp [Ideal.ofBits, Ideal.ieee]

theorem sqrt96 : Ideal.sqrt (Ideal.ofBits .f32 1119879168#32) = ((Real.sqrt 96 : ℝ) : EReal) := by
  rw [lit96]
  exact if_neg (by norm_num)

theorem div_real (a b : ℝ) (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

theorem scale_eq : Ideal.div 1 (Ideal.sqrt (Ideal.ofBits FTy.f32 1119879168#32) * Ideal.log (Ideal.ofBits FTy.f32 1073741824#32)) = ((scl : ℝ) : EReal) := by
  have hl : Ideal.log (Ideal.ofBits FTy.f32 1073741824#32) = ((Real.log 2 : ℝ) : EReal) := by
    rw [lit2]
    exact if_neg (by norm_num)
  have h2 : Real.log 2 ≠ 0 := (Real.log_pos one_lt_two).ne'
  have h3 : Real.sqrt 96 ≠ 0 := (Real.sqrt_pos.mpr (by norm_num)).ne'
  rw [sqrt96, hl, ← EReal.coe_mul, ← EReal.coe_one, div_real _ _ (mul_ne_zero h3 h2)]
  rfl

theorem pad0 : FloatOps.sitofp (F := Ideal) FTy.f32 0#32 = (0 : EReal) := by
  show (((0#32 : BitVec 32).toInt : ℝ) : EReal) = 0
  simp

theorem toReal_of {x : EReal} (h : ∃ r : ℝ, x = r) : x = ((EReal.toReal x : ℝ) : EReal) := by
  obtain ⟨r, rfl⟩ := h
  rfl

/-- A read that may fall outside the array, where a zero stands, as a real. -/
theorem lane_real {P P' : Prop} [Decidable P] [Decidable P'] {ι : Type} (hP : P ↔ P') {X : ι → EReal} (hX : ∀ x, ∃ r : ℝ, X x = (r : EReal))
    (f : P → ι) (g : P' → ι) (hfg : ∀ p p', f p = g p') {z : EReal} (hz : z = 0) :
    (if h : P then X (f h) else z) = ((if h : P' then EReal.toReal (X (g h)) else 0 : ℝ) : EReal) := by
  by_cases p : P
  · have p' := hP.mp p
    rw [dif_pos p, dif_pos p', hfg p p']
    exact toReal_of (hX _)
  · have p' : ¬ P' := fun h => p (hP.mpr h)
    rw [dif_neg p, dif_neg p', hz]
    rfl

theorem ix4_eq {n0 n1 n2 n3 : ℕ} {a a' b b' c c' d d' : ℕ} (ha : a = a') (hb : b = b') (hc : c = c') (hd : d = d')
    (pa : a < n0) (pb : b < n1) (pc : c < n2) (pd : d < n3) (pa' : a' < n0) (pb' : b' < n1) (pc' : c' < n2) (pd' : d' < n3) :
    ix4 (⟨a, pa⟩ : Fin n0) (⟨b, pb⟩ : Fin n1) (⟨c, pc⟩ : Fin n2) (⟨d, pd⟩ : Fin n3) = ix4 ⟨a', pa'⟩ ⟨b', pb'⟩ ⟨c', pc'⟩ ⟨d', pd'⟩ := by
  subst ha hb hc hd
  rfl

/-- The queries' operand, from the queries; -/
def hostQ (X : FVec Ideal S8x4096x8x96 .f32) : FVec Ideal S32768x1024 .bf16 :=
  truncf .bf16 (mulf (shapeCast S32768x1024 (pad S8x4096x8x128 ![0, 0, 0, 0] ![0, 0, 0, 32] ![0, 0, 0, 0] X
    (sitofp .f32 (constantI S_ 32 0#32)) pads_S8x4096x8x96_S8x4096x8x128_000_000_000_0320 h_S_) shapeCasts_S8x4096x8x128_S32768x1024)
    (broadcastInDim S32768x1024 ![] bcast_S_S32768x1024 (Host.divf (constant S_ .f32 0x3F800000#32)
      (mulf (Host.sqrt (constant S_ .f32 0x42C00000#32)) (Host.log (constant S_ .f32 0x40000000#32)))))) bitsLt_bf16_f32
/-- the keys' operand; -/
def hostK (X : FVec Ideal S8x4096x8x96 .f32) : FVec Ideal S32768x1024 .bf16 :=
  truncf .bf16 (shapeCast S32768x1024 (pad S8x4096x8x128 ![0, 0, 0, 0] ![0, 0, 0, 32] ![0, 0, 0, 0] X
    (sitofp .f32 (constantI S_ 32 0#32)) pads_S8x4096x8x96_S8x4096x8x128_000_000_000_0320 h_S_) shapeCasts_S8x4096x8x128_S32768x1024) bitsLt_bf16_f32
/-- the values' operand. -/
def hostV (X : FVec Ideal S8x4096x8x64 .f32) : FVec Ideal S32768x1024 .bf16 :=
  truncf .bf16 (select (broadcastInDim S32768x1024 ![0, 1] bcast_S1x1024_S32768x1024_0_1
      (cmpi .eq (andi (iotaInDim S1x1024 32 1) (broadcastInDim S1x1024 ![] bcast_S_S1x1024 (constantI S_ 32 127#32)))
        (broadcastInDim S1x1024 ![] bcast_S_S1x1024 (constantI S_ 32 64#32))))
    (broadcastInDim S32768x1024 ![] bcast_S_S32768x1024 (id (constant S_ .f32 0x3F800000#32)))
    (shapeCast S32768x1024 (pad S8x4096x8x128 ![0, 0, 0, 0] ![0, 0, 0, 64] ![0, 0, 0, 0] X
      (sitofp .f32 (constantI S_ 32 0#32)) pads_S8x4096x8x64_S8x4096x8x128_000_000_000_0640 h_S_) shapeCasts_S8x4096x8x128_S32768x1024)) bitsLt_bf16_f32

theorem V_Q : V m c main_v8 = hostQ (m ((c : Thread nD τ).loc main_arg0)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

theorem V_K : V m c main_v11 = hostK (m ((c : Thread nD τ).loc main_arg1)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

theorem V_V : V m c main_v20 = hostV (m ((c : Thread nD τ).loc main_arg2)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

theorem host_idx {R e : ℕ} {b h : Fin 8} {Q l : ℕ} (hl : l < 128) (hQ : Q < 4096) (hR : R = 4096 * b.val + Q) (he : e = 128 * h.val + l) :
    R / 4096 = b.val ∧ R % 4096 = Q ∧ e / 128 = h.val ∧ e % 128 = l := by
  omega

theorem hostQ_apply (X : FVec Ideal S8x4096x8x96 .f32) (hX : ∀ x, ∃ r : ℝ, X x = (r : EReal)) (R : Fin 32768) (e : Fin 1024) (b h : Fin 8) (Q l : ℕ) (hl : l < 128) (hQ : Q < 4096)
    (hR : R.val = 4096 * b.val + Q) (he : e.val = 128 * h.val + l) :
    hostQ X (ix2 R e) = ((((if hh : Q < 4096 ∧ l < 96 then EReal.toReal (X (ix4 b ⟨Q, hh.1⟩ h ⟨l, hh.2⟩)) else 0 : ℝ) : ℝ) * scl : ℝ) : EReal) := by
  obtain ⟨e1, e2, e3, e4⟩ := host_idx hl hQ hR he
  have hb := b.isLt
  have hh := h.isLt
  pointwise [hostQ]
  rw [EReal.coe_mul]
  refine congrArg₂ (fun x y : EReal => x * y) ?_ scale_eq
  refine lane_real ?_ hX _ _ ?_ pad0
  · omega
  · intro p p'
    exact ix4_eq e1 e2 e3 e4 _ _ _ _ _ _ _ _

theorem hostK_apply (X : FVec Ideal S8x4096x8x96 .f32) (hX : ∀ x, ∃ r : ℝ, X x = (r : EReal)) (R : Fin 32768) (e : Fin 1024) (b h : Fin 8) (Q l : ℕ) (hl : l < 128) (hQ : Q < 4096)
    (hR : R.val = 4096 * b.val + Q) (he : e.val = 128 * h.val + l) :
    hostK X (ix2 R e) = ((if hh : Q < 4096 ∧ l < 96 then EReal.toReal (X (ix4 b ⟨Q, hh.1⟩ h ⟨l, hh.2⟩)) else 0 : ℝ) : EReal) := by
  obtain ⟨e1, e2, e3, e4⟩ := host_idx hl hQ hR he
  have hb := b.isLt
  have hh := h.isLt
  pointwise [hostK]

  refine lane_real ?_ hX _ _ ?_ pad0
  · omega
  · intro p p'
    exact ix4_eq e1 e2 e3 e4 _ _ _ _ _ _ _ _

/-- A lane is the ones lane when its last seven bits are 64. -/
theorem lane64 (e : Fin 1024) : IntOp.cmpi CmpIPredicate.eq (IntOp.andi (BitVec.ofNat 32 e.val) 127#32) 64#32 = if e.val % 128 = 64 then 1#1 else 0#1 := by
  revert e
  decide +kernel

theorem hostV_apply (X : FVec Ideal S8x4096x8x64 .f32) (hX : ∀ x, ∃ r : ℝ, X x = (r : EReal)) (R : Fin 32768) (e : Fin 1024) (b h : Fin 8) (Q l : ℕ) (hl : l < 128) (hQ : Q < 4096)
    (hR : R.val = 4096 * b.val + Q) (he : e.val = 128 * h.val + l) :
    hostV X (ix2 R e) = ((if l = 64 then 1 else (if hh : Q < 4096 ∧ l < 64 then EReal.toReal (X (ix4 b ⟨Q, hh.1⟩ h ⟨l, hh.2⟩)) else 0 : ℝ) : ℝ) : EReal) := by
  obtain ⟨e1, e2, e3, e4⟩ := host_idx hl hQ hR he
  have hb := b.isLt
  have hh := h.isLt
  pointwise [hostV]
  rw [lane64]
  simp only [e4]
  by_cases h64 : l = 64
  · simp only [if_pos h64]
    show Ideal.ofBits .f32 1065353216#32 = ((1 : ℝ) : EReal)
    simp [Ideal.ofBits, Ideal.ieee]
    rw [← EReal.coe_mul, ← EReal.coe_one]
    norm_num
  simp only [if_neg h64]
  refine Eq.trans (if_neg (by decide)) ?_
  refine lane_real ?_ hX _ _ ?_ pad0
  · omega
  · intro p p'
    exact ix4_eq e1 e2 e3 rfl _ _ _ _ _ _ _ _

theorem Vq (hr : AllReal m c) (R : Fin 32768) (e : Fin 1024) (b h : Fin 8) (Q l : ℕ) (hl : l < 128) (hQ : Q < 4096)
    (hR : R.val = 4096 * b.val + Q) (he : e.val = 128 * h.val + l) :
    V m c main_v8 (ix2 R e) = ((rq m c b Q h l * scl : ℝ) : EReal) := by
  rw [V_Q]
  exact hostQ_apply _ hr.1 R e b h Q l hl hQ hR he

theorem Vk (hr : AllReal m c) (R : Fin 32768) (e : Fin 1024) (b h : Fin 8) (Q l : ℕ) (hl : l < 128) (hQ : Q < 4096)
    (hR : R.val = 4096 * b.val + Q) (he : e.val = 128 * h.val + l) :
    V m c main_v11 (ix2 R e) = ((rk m c b Q h l : ℝ) : EReal) := by
  rw [V_K]
  exact hostK_apply _ hr.2.1 R e b h Q l hl hQ hR he

theorem Vv (hr : AllReal m c) (R : Fin 32768) (e : Fin 1024) (b h : Fin 8) (Q l : ℕ) (hl : l < 128) (hQ : Q < 4096)
    (hR : R.val = 4096 * b.val + Q) (he : e.val = 128 * h.val + l) :
    V m c main_v20 (ix2 R e) = ((rv m c b Q h l : ℝ) : EReal) := by
  rw [V_V]
  exact hostV_apply _ hr.2.2 R e b h Q l hl hQ hR he

/-- Where each window sits at a grid point. -/
theorem widx : ∀ t : Fin cfg0.N, win0_0.index t = ![(grid0.coords t 0).val * 8 + (grid0.coords t 2).val, 0] ∧
    win0_1.index t = ![(grid0.coords t 0).val, 0] ∧ win0_2.index t = ![(grid0.coords t 0).val, 0] ∧
    win0_3.index t = ![(grid0.coords t 0).val * 8 + (grid0.coords t 2).val, 0] :=
  (by decide +kernel : ∀ t : Fin grid0.N, _)

theorem bq (hr : AllReal m c) (t : Fin cfg0.N) (r : Fin 512) (e : Fin 1024) (h : Fin 8) (l : ℕ) (hl : l < 128) (he : e.val = 128 * h.val + l) :
    iblk m c 0 t (ix2 r e) = ((rq m c (grid0.coords t 0) (512 * (grid0.coords t 2).val + r.val) h l * scl : ℝ) : EReal) := by
  have h0 : (grid0.coords t 0).val < 8 := (grid0.coords t 0).isLt
  have h2 : (grid0.coords t 2).val < 8 := (grid0.coords t 2).isLt
  have hr2 := r.isLt
  refine Eq.trans ?_ (Vq m c hr ⟨4096 * (grid0.coords t 0).val + (512 * (grid0.coords t 2).val + r.val), by omega⟩ e (grid0.coords t 0) h _ l hl (by omega) rfl he)
  blk_ext [iblk, widx t]

theorem bk (hr : AllReal m c) (t : Fin cfg0.N) (r : Fin 4096) (e : Fin 1024) (h : Fin 8) (l : ℕ) (hl : l < 128) (he : e.val = 128 * h.val + l) :
    iblk m c 1 t (ix2 r e) = ((rk m c (grid0.coords t 0) r.val h l : ℝ) : EReal) := by
  have h0 : (grid0.coords t 0).val < 8 := (grid0.coords t 0).isLt
  have hr2 := r.isLt
  refine Eq.trans ?_ (Vk m c hr ⟨4096 * (grid0.coords t 0).val + r.val, by omega⟩ e (grid0.coords t 0) h _ l hl (by omega) rfl he)
  blk_ext [iblk, widx t]

theorem bv (hr : AllReal m c) (t : Fin cfg0.N) (r : Fin 4096) (e : Fin 1024) (h : Fin 8) (l : ℕ) (hl : l < 128) (he : e.val = 128 * h.val + l) :
    iblk m c 2 t (ix2 r e) = ((rv m c (grid0.coords t 0) r.val h l : ℝ) : EReal) := by
  have h0 : (grid0.coords t 0).val < 8 := (grid0.coords t 0).isLt
  have hr2 := r.isLt
  refine Eq.trans ?_ (Vv m c hr ⟨4096 * (grid0.coords t 0).val + r.val, by omega⟩ e (grid0.coords t 0) h _ l hl (by omega) rfl he)
  blk_ext [iblk, widx t]
end Cert.KernelIdeal.Rows
-- ==== Proof.Entries.lean ====
module
public import proofs.«01_k».proof.Proof.Induct
public import proofs.«01_k».proof.Proof.Online
public import proofs.«01_k».proof.Proof.Host
@[expose] public section
set_option maxRecDepth 16384
noncomputable section
namespace Cert.KernelIdeal.Rows
open Cert.KernelIdeal Cert.KernelIdeal.Gen
open Idealize.ShloMosaic Idealize.ShloMosaic.TcCoe Idealize.SL.Sem

/-- A score is a key's product with a query. -/
theorem pay2_apply (kb : FVec Ideal S256x128 .bf16) (qb : FVec Ideal S512x128 .bf16) (r : Fin 256) (q : Fin 512) :
    (k0_pay2 (F := Ideal) kb qb (ix2 r q) : EReal) = ∑ x : Fin 128, (kb (ix2 r x) : EReal) * qb (ix2 q x) := by
  pointwise [k0_pay2]

theorem pay323_apply (kb : FVec Ideal S256x128 .bf16) (qb : FVec Ideal S256x128 .bf16) (r : Fin 256) (q : Fin 256) :
    (k0_pay323 (F := Ideal) kb qb (ix2 r q) : EReal) = ∑ x : Fin 128, (kb (ix2 r x) : EReal) * qb (ix2 q x) := by
  pointwise [k0_pay323]

theorem mNew_apply (s : FVec Ideal S256x512 .f32) (m : FVec Ideal S1x1x512 .f32) (q : Fin 512) :
    mNew s m (ix3 0 0 q) = max (m (ix3 0 0 q)) (Finset.fold max ⊥ (fun x : Fin 256 => s (ix2 x q)) Finset.univ) := by
  rw [← litInf]
  pointwise [mNew, k0_pay14, k0_pay12, k0_pay11]

theorem aNew_apply (s : FVec Ideal S256x512 .f32) (m : FVec Ideal S1x1x512 .f32) (v : FVec Ideal S256x128 .bf16) (a : FVec Ideal S1x72x512 .f32) (d : Fin 72) (q : Fin 512) :
    aNew s m v a (ix3 0 d q) = Ideal.exp2 (m (ix3 0 0 q) - max (m (ix3 0 0 q)) (Finset.fold max ⊥ (fun x : Fin 256 => s (ix2 x q)) Finset.univ)) * a (ix3 0 d q)
      + ∑ x : Fin 256, v (ix2 x ⟨d.val, by omega⟩) * Ideal.exp2 (s (ix2 x q) - max (m (ix3 0 0 q)) (Finset.fold max ⊥ (fun x : Fin 256 => s (ix2 x q)) Finset.univ)) := by
  rw [← litInf]
  pointwise [aNew, k0_pay52, k0_pay13, k0_pay15, k0_pay12, k0_pay11]
  rfl

/-- A comparison of a query's place with a key's. -/
theorem cmp_lit : ∀ q : Fin 512, ∀ r : Fin 256, IntOp.cmpi CmpIPredicate.sge (BitVec.ofNat 32 q.val) (BitVec.ofNat 32 r.val) = if r.val < q.val + 1 then 1#1 else 0#1 := by
  intro q r
  have h : ((BitVec.ofNat 32 q.val).toInt = q.val) := by
    have := q.isLt
    rw [BitVec.toInt_eq_toNat_cond, BitVec.toNat_ofNat]
    omega
  have h' : ((BitVec.ofNat 32 r.val).toInt = r.val) := by
    have := r.isLt
    rw [BitVec.toInt_eq_toNat_cond, BitVec.toNat_ofNat]
    omega
  simp only [IntOp.cmpi, BitVec.sle, h, h']
  by_cases hc : r.val < q.val + 1
  · have h2 : (r.val : ℤ) ≤ q.val := by omega
    rw [if_pos hc, decide_eq_true h2]
    rfl
  · have h2 : ¬ (r.val : ℤ) ≤ q.val := by omega
    rw [if_neg hc, decide_eq_false h2]
    rfl

theorem select_lit {α : Type} (p : Prop) [Decidable p] (a b : α) : Scalar.select (if p then 1#1 else 0#1) a b = if p then a else b := by
  by_cases h : p
  · rw [if_pos h, if_pos h]
    exact if_pos rfl
  · rw [if_neg h, if_neg h]
    exact if_neg (by decide)

theorem pay268_apply (s : FVec Ideal S256x512 .f32) (r : Fin 256) (q : Fin 512) :
    k0_pay268 s (ix2 r q) = if r.val < q.val + 1 then s (ix2 r q) else ⊥ := by
  rw [← select_lit, ← cmp_lit, ← litInf]
  pointwise [k0_pay268]

/-- The second half's scores, with the keys after the query masked. -/
def msk (s : FVec Ideal S256x256 .f32) (q : Fin 256) (r : Fin 256) : EReal := if r.val < q.val + 1 then s (ix2 r q) else ⊥

theorem aNew2_apply (s : FVec Ideal S256x256 .f32) (m : FVec Ideal S1x1x256 .f32) (v : FVec Ideal S256x128 .bf16) (a : FVec Ideal S1x72x256 .f32) (d : Fin 72) (q : Fin 256) :
    aNew2 s m v a (ix3 0 d q) = Ideal.exp2 (m (ix3 0 0 q) - max (m (ix3 0 0 q)) (Finset.fold max ⊥ (msk s q) Finset.univ)) * a (ix3 0 d q)
      + ∑ x : Fin 256, v (ix2 x ⟨d.val, by omega⟩) * Ideal.exp2 (msk s q x - max (m (ix3 0 0 q)) (Finset.fold max ⊥ (msk s q) Finset.univ)) := by
  have e : msk s q = fun r => Scalar.select (IntOp.cmpi CmpIPredicate.sge (BitVec.ofNat 32 q.val) (BitVec.ofNat 32 r.val)) (s (ix2 r q)) (Ideal.ofBits .f32 4286578688#32) := by
    funext r
    rw [litInf]
    rw [cmp_lit ⟨q.val, by omega⟩ r, select_lit]
    rfl
  rw [e, ← litInf]
  pointwise [aNew2, k0_pay386, k0_pay336, k0_pay338, k0_pay335, k0_pay334, k0_pay333]
  rfl

theorem quo_eq (n : Fin 8 → FVec Ideal S1x64x512 .f32) (d : Fin 8 → FVec Ideal S1x1x512 .f32) (q : Fin 512) (h : Fin 8) (l : Fin 64) {a : ℕ} (e : a = l.val) (ha : a < 64) :
    (Ideal.div (n h (ix3 0 ⟨a, ha⟩ q)) (d h (ix3 0 0 q)) : EReal) = Ideal.div (n h (ix3 0 l q)) (d h (ix3 0 0 q)) := by
  subst e
  rfl

/-- The quotient a column of the block holds. -/
theorem outPay_apply (n : Fin 8 → FVec Ideal S1x64x512 .f32) (d : Fin 8 → FVec Ideal S1x1x512 .f32) (q : Fin 512) (e : Fin 512) (h : Fin 8) (l : Fin 64) (he : e.val = 64 * h.val + l.val) :
    (outPay (F := Ideal) n d (ix2 q e) : EReal) = Ideal.div (n h (ix3 0 l q)) (d h (ix3 0 0 q)) := by
  have hl := l.isLt
  pointwise [outPay, k0_pay1, k0_pay394, k0_pay401]
  match h, he with
  | 0, he =>
    replace he : e.val = 64 * 0 + l.val := he
    refine (dif_pos (by omega)).trans ?_
    exact quo_eq n d q 0 l (by omega) _
  | 1, he =>
    replace he : e.val = 64 * 1 + l.val := he
    refine (dif_neg (by omega)).trans ?_
    refine (dif_pos (by omega)).trans ?_
    exact quo_eq n d q 1 l (by omega) _
  | 2, he =>
    replace he : e.val = 64 * 2 + l.val := he
    refine (dif_neg (by omega)).trans ?_
    refine (dif_neg (by omega)).trans ?_
    refine (dif_pos (by omega)).trans ?_
    exact quo_eq n d q 2 l (by omega) _
  | 3, he =>
    replace he : e.val = 64 * 3 + l.val := he
    refine (dif_neg (by omega)).trans ?_
    refine (dif_neg (by omega)).trans ?_
    refine (dif_neg (by omega)).trans ?_
    refine (dif_pos (by omega)).trans ?_
    exact quo_eq n d q 3 l (by omega) _
  | 4, he =>
    replace he : e.val = 64 * 4 + l.val := he
    refine (dif_neg (by omega)).trans ?_
    refine (dif_neg (by omega)).trans ?_
    refine (dif_neg (by omega)).trans ?_
    refine (dif_neg (by omega)).trans ?_
    refine (dif_pos (by omega)).trans ?_
    exact quo_eq n d q 4 l (by omega) _
  | 5, he =>
    replace he : e.val = 64 * 5 + l.val := he
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact quo_eq n d q 5 l (by omega) _
  | 6, he =>
    replace he : e.val = 64 * 6 + l.val := he
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact quo_eq n d q 6 l (by omega) _
  | 7, he =>
    replace he : e.val = 64 * 7 + l.val := he
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    exact quo_eq n d q 7 l (by omega) _
end Cert.KernelIdeal.Rows
-- ==== Proof.Soft.lean ====
module
public import proofs.«01_k».proof.Proof.Gen.ReferenceIdeal.Run
public import proofs.«01_k».proof.Proof.Entries
public import Idealize.ShloMosaic.Lib.Pointwise
@[expose] public section
set_option maxRecDepth 16384
noncomputable section
namespace Cert.ReferenceIdeal.Soft
open Cert.ReferenceIdeal Cert.ReferenceIdeal.Gen
open Idealize.ShloMosaic Idealize.ShloMosaic.TcCoe Idealize.SL.Sem

/-! # The reference's attention, read at an index -/

/-- The masked scores, -/
def scores (Q K : FVec Ideal S8x4096x8x96 .f32) : FVec Ideal S8x8x4096x4096 .f32 :=
  select (broadcastInDim S8x8x4096x4096 ![2, 3] bcast_S4096x4096_S8x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
    (Host.divf (Host.dotGeneral dot_S8x4096x8x96_S8x4096x8x96_S8x8x4096x4096_3_3_1_1_02_02 none Q K) (broadcastInDim S8x8x4096x4096 ![] bcast_S_S8x8x4096x4096 (Host.sqrt (constant S_ .f32 0x42C00000#32))))
    (broadcastInDim S8x8x4096x4096 ![] bcast_S_S8x8x4096x4096 (id (constant S_ .f32 0xFF800000#32)))
/-- each row's maximum, -/
def rmax (S : FVec Ideal S8x8x4096x4096 .f32) : FVec Ideal S8x8x4096 .f32 :=
  Host.reduce FloatOps.maximumf S (constant S_ .f32 0xFF800000#32) reducesTo_S8x8x4096x4096_S8x8x4096_d3 h_S_
/-- the exponentials, each row's maximum taken away, -/
def expo (S : FVec Ideal S8x8x4096x4096 .f32) (M : FVec Ideal S8x8x4096 .f32) : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) M))))
/-- the probabilities, -/
def probs (E : FVec Ideal S8x8x4096x4096 .f32) : FVec Ideal S8x8x4096x4096 .f32 :=
  Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd E (constant S_ .f32 0x00000000#32) reducesTo_S8x8x4096x4096_S8x8x4096_d3 h_S_)))
/-- and the values weighed by them. -/
def mix (V : FVec Ideal S8x4096x8x64 .f32) (P : FVec Ideal S8x8x4096x4096 .f32) : FVec Ideal S32768x512 .bf16 :=
  truncf .bf16 (shapeCast S32768x512 (transpose S8x4096x8x64 [0, 3, 1, 2] (Host.dotGeneral dot_S8x4096x8x64_S8x8x4096x4096_S8x8x64x4096_1_3_3_2_02_01 none V P) transposes_S8x8x64x4096_S8x4096x8x64_0_3_1_2) shapeCasts_S8x4096x8x64_S32768x512) bitsLt_bf16_f32

theorem res_eq (m : (ℓ : Loc nD τ sig) → Buf (Elt Ideal) ℓ) (c : Dev nD) :
    Cert.ReferenceIdeal.Value.res_main_v26 m c = mix (m ((c.tc : Thread nD τ).loc main_arg2)) (probs (expo (scores (m ((c.tc : Thread nD τ).loc main_arg0)) (m ((c.tc : Thread nD τ).loc main_arg1))) (rmax (scores (m ((c.tc : Thread nD τ).loc main_arg0)) (m ((c.tc : Thread nD τ).loc main_arg1)))))) := by
  unfold Cert.ReferenceIdeal.Value.res_main_v26
  rfl

theorem cmp_big : ∀ q r : Fin 4096, IntOp.cmpi CmpIPredicate.sge (BitVec.ofNat 32 q.val) (BitVec.ofNat 32 r.val) = if r.val < q.val + 1 then 1#1 else 0#1 := by
  intro q r
  have h : ((BitVec.ofNat 32 q.val).toInt = q.val) := by
    have := q.isLt
    rw [BitVec.toInt_eq_toNat_cond, BitVec.toNat_ofNat]
    omega
  have h' : ((BitVec.ofNat 32 r.val).toInt = r.val) := by
    have := r.isLt
    rw [BitVec.toInt_eq_toNat_cond, BitVec.toNat_ofNat]
    omega
  simp only [IntOp.cmpi, BitVec.sle, h, h']
  by_cases hc : r.val < q.val + 1
  · have h2 : (r.val : ℤ) ≤ q.val := by omega
    rw [if_pos hc, decide_eq_true h2]
    rfl
  · have h2 : ¬ (r.val : ℤ) ≤ q.val := by omega
    rw [if_neg hc, decide_eq_false h2]
    rfl

theorem scores_apply (Q K : FVec Ideal S8x4096x8x96 .f32) (b h : Fin 8) (q k : Fin 4096) :
    (scores Q K (ix4 b h q k) : EReal) = if k.val < q.val + 1 then Ideal.div (∑ l : Fin 96, (Q (ix4 b q h l) : EReal) * K (ix4 b k h l)) (Ideal.sqrt (Ideal.ofBits .f32 0x42C00000#32)) else ⊥ := by
  rw [← Cert.KernelIdeal.Rows.select_lit, ← cmp_big, ← Cert.KernelIdeal.Rows.litInf]
  pointwise [scores]
  rfl

theorem fold_last {n0 n1 n2 n3 : ℕ} {t u : Shape} (S : FVec Ideal ⟨4, ![n0, n1, n2, n3]⟩ .f32) (c : FVec Ideal u .f32)
    (h : (⟨4, ![n0, n1, n2, n3]⟩ : Shape).ReducesTo [3] t) (hu : 0 < u.numel) (j : t.Idx) :
    (Host.reduce (FloatOps.maximumf (F := Ideal) (φ := .f32)) S c h hu j : EReal)
      = Finset.univ.fold max (c (Shape.Idx.first hu) : EReal) fun k : Fin n3 => S (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k) := by
  simp only [pointwise]

theorem rmax_apply (S : FVec Ideal S8x8x4096x4096 .f32) (b h : Fin 8) (q : Fin 4096) :
    (rmax S (ix3 b h q) : EReal) = Finset.univ.fold max ⊥ fun j : Fin 4096 => (S (ix4 b h q j) : EReal) := by
  rw [← Cert.KernelIdeal.Rows.litInf]
  exact fold_last S _ reducesTo_S8x8x4096x4096_S8x8x4096_d3 h_S_ (ix3 b h q)

theorem expo_apply (S : FVec Ideal S8x8x4096x4096 .f32) (M : FVec Ideal S8x8x4096 .f32) (b h : Fin 8) (q k : Fin 4096) :
    (expo S M (ix4 b h q k) : EReal) = Ideal.exp (S (ix4 b h q k) - max ⊥ (M (ix3 b h q))) := by
  rw [← Cert.KernelIdeal.Rows.litInf]
  pointwise [expo]

theorem probs_apply (E : FVec Ideal S8x8x4096x4096 .f32) (b h : Fin 8) (q k : Fin 4096) :
    (probs E (ix4 b h q k) : EReal) = Ideal.div (E (ix4 b h q k)) (0 + ∑ j : Fin 4096, (E (ix4 b h q j) : EReal)) := by
  pointwise [probs]

theorem mix_apply (V : FVec Ideal S8x4096x8x64 .f32) (P : FVec Ideal S8x8x4096x4096 .f32) (R : Fin 32768) (e : Fin 512) (b h : Fin 8) (q : Fin 4096) (l : Fin 64)
    (hR : R.val = 4096 * b.val + q.val) (he : e.val = 64 * h.val + l.val) :
    (mix V P (ix2 R e) : EReal) = ∑ k : Fin 4096, (V (ix4 b k h l) : EReal) * P (ix4 b h q k) := by
  have hb := b.isLt
  have hq := q.isLt
  have hl := l.isLt
  have e1 : (⟨R.val / 4096, by omega⟩ : Fin 8) = b := Fin.ext (by show R.val / 4096 = b.val; omega)
  have e2 : (⟨R.val % 4096, by omega⟩ : Fin 4096) = q := Fin.ext (by show R.val % 4096 = q.val; omega)
  have e3 : (⟨e.val / 64, by omega⟩ : Fin 8) = h := Fin.ext (by show e.val / 64 = h.val; omega)
  have e4 : (⟨e.val % 64, by omega⟩ : Fin 64) = l := Fin.ext (by show e.val % 64 = l.val; omega)
  pointwise [mix]
  simp only [e1, e2, e3, e4]
end Cert.ReferenceIdeal.Soft
-- ==== Proof.Scores.lean ====
module
public import proofs.«01_k».proof.Proof.Entries
public import Idealize.ShloMosaic.Lib.WholeRead
@[expose] public section
set_option maxRecDepth 16384
noncomputable section
namespace Cert.KernelIdeal.Rows
open Cert.KernelIdeal Cert.KernelIdeal.Gen
open Idealize.ShloMosaic Idealize.ShloMosaic.TcCoe Idealize.SL.Sem
open Cert.Online

/-! # The running maxima and sums, as reals -/
section Blocks
variable {F : FTy → Type} [FloatOps F]
variable (i : grid0.Coords) (arg3 : Memref sig .tc .vmem S512x1024 .bf16) (harg3 : arg3.IsWhole) (arg4 : Memref sig .tc .vmem S4096x1024 .bf16) (harg4 : arg4.IsWhole)
  (x0 : Vec F S512x1024 .bf16) (x1 : Vec F S4096x1024 .bf16)

theorem idx2_eq {n0 n1 : ℕ} (x : Shape.Idx ⟨2, ![n0, n1]⟩) (R : Fin n0) (e : Fin n1) (h0 : (x 0).val = R.val) (h1 : (x 1).val = e.val) : x = ix2 R e := by
  funext a
  fin_cases a
  · exact Fin.ext h0
  · exact Fin.ext h1

theorem tBlk_at (k : Fin (k0_t1_loop i).trips) (r : Fin 2) (h : Fin 8) (x : Fin 256) (y : Fin 128) (R : Fin 4096) (e : Fin 1024)
    (hR : R.val = 512 * k.val + 256 * r.val + x.val) (he : e.val = 128 * h.val + y.val) :
    tBlk i k arg4 (harg4.unread x1) r h (ix2 x y) = x1 (ix2 R e) := by
  have o := tOff_eq i k r h
  refine (Memref.IsWhole.readAt_unread harg4 x1 (Rect.unit (s := S4096x1024) (tOff i k (BitVec.ofNat 32 (256 * r.val)) h) S256x128.size (tOff_inb i k r h)).toLoadRect (ix2 x y)).trans (congrArg x1 (idx2_eq _ R e ?_ ?_))
  · show tOff i k (BitVec.ofNat 32 (256 * r.val)) h 0 + 1 * x.val = R.val
    rw [congrFun o 0, hR, one_mul]
    rfl
  · show tOff i k (BitVec.ofNat 32 (256 * r.val)) h 1 + 1 * y.val = e.val
    rw [congrFun o 1, he, one_mul]
    rfl

theorem dBlk_at (r : Fin 2) (h : Fin 8) (x : Fin 256) (y : Fin 128) (R : Fin 4096) (e : Fin 1024)
    (hR : R.val = 512 * (i 2).val + 256 * r.val + x.val) (he : e.val = 128 * h.val + y.val) :
    dBlk i arg4 (harg4.unread x1) r h (ix2 x y) = x1 (ix2 R e) := by
  have o := dOff_eq i r h
  refine (Memref.IsWhole.readAt_unread harg4 x1 (Rect.unit (s := S4096x1024) (dOff i (BitVec.ofNat 32 (256 * r.val)) h) S256x128.size (dOff_inb i r h)).toLoadRect (ix2 x y)).trans (congrArg x1 (idx2_eq _ R e ?_ ?_))
  · show dOff i (BitVec.ofNat 32 (256 * r.val)) h 0 + 1 * x.val = R.val
    rw [congrFun o 0, hR, one_mul]
    rfl
  · show dOff i (BitVec.ofNat 32 (256 * r.val)) h 1 + 1 * y.val = e.val
    rw [congrFun o 1, he, one_mul]
    rfl

theorem qBlk_at (h : Fin 8) (x : Fin 512) (y : Fin 128) (e : Fin 1024) (he : e.val = 128 * h.val + y.val) :
    qBlk arg3 (harg3.unread x0) h (ix2 x y) = x0 (ix2 x e) := by
  refine (Memref.IsWhole.readAt_unread harg3 x0 (Rect.unit (s := S512x1024) ![0, 128 * h.val] S512x128.size (qInb h)).toLoadRect (ix2 x y)).trans (congrArg x0 (idx2_eq _ x e ?_ ?_))
  · show 0 + 1 * x.val = x.val
    omega
  · show 128 * h.val + 1 * y.val = e.val
    omega

theorem qBlk2_at (h : Fin 8) (x : Fin 256) (y : Fin 128) (R : Fin 512) (e : Fin 1024) (hR : R.val = 256 + x.val) (he : e.val = 128 * h.val + y.val) :
    qBlk2 arg3 (harg3.unread x0) h (ix2 x y) = x0 (ix2 R e) := by
  refine (Memref.IsWhole.readAt_unread harg3 x0 (Rect.unit (s := S512x1024) ![256, 128 * h.val] S256x128.size (qInb2 h)).toLoadRect (ix2 x y)).trans (congrArg x0 (idx2_eq _ R e ?_ ?_))
  · show 256 + 1 * x.val = R.val
    omega
  · show 128 * h.val + 1 * y.val = e.val
    omega
end Blocks

/-- A block of queries whose entries are reals, the row and the head and lane apart; -/
def RealQ (x0 : FVec Ideal S512x1024 .bf16) (Q : ℕ → Fin 8 → ℕ → ℝ) : Prop :=
  ∀ (r : Fin 512) (e : Fin 1024) (h : Fin 8) (l : ℕ), l < 128 → e.val = 128 * h.val + l → (x0 (ix2 r e) : EReal) = ((Q r.val h l : ℝ) : EReal)
/-- and the same of the keys or the values. -/
def RealK (x1 : FVec Ideal S4096x1024 .bf16) (K : ℕ → Fin 8 → ℕ → ℝ) : Prop :=
  ∀ (r : Fin 4096) (e : Fin 1024) (h : Fin 8) (l : ℕ), l < 128 → e.val = 128 * h.val + l → (x1 (ix2 r e) : EReal) = ((K r.val h l : ℝ) : EReal)

/-- A query's score against a key. -/
def sc (Q K : ℕ → Fin 8 → ℕ → ℝ) (h : Fin 8) (q k : ℕ) : ℝ := ∑ l : Fin 128, K k h l.val * Q q h l.val

variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S512x512 .bf16) (harg6 : arg6.IsWhole) (arg7 : Memref sig .tc .vmem S8x1x512 .f32) (harg7 : arg7.IsWhole) (arg8 : Memref sig .tc .vmem S8x72x512 .f32) (harg8 : arg8.IsWhole)
  (x0 : FVec Ideal S512x1024 .bf16) (x1 : FVec Ideal S4096x1024 .bf16) (x2 : FVec Ideal S4096x1024 .bf16)
  {Q K W : ℕ → Fin 8 → ℕ → ℝ}

theorem prod_real {n : ℕ} (a b : Fin n → EReal) (u v : Fin n → ℝ) (ha : ∀ x, a x = (u x : EReal)) (hb : ∀ x, b x = (v x : EReal)) :
    ∑ x, a x * b x = ((∑ x, u x * v x : ℝ) : EReal) := by
  rw [coe_sum]
  exact Finset.sum_congr rfl fun x _ => by rw [ha, hb, EReal.coe_mul]

theorem tSc_real (hQ : RealQ x0 Q) (hK : RealK x1 K) (k : Fin (k0_t1_loop i).trips) (r : Fin 2) (h : Fin 8) (x : Fin 256) (q : Fin 512) :
    (tSc (F := Ideal) i arg3 arg4 (harg3.unread x0) (harg4.unread x1) k r h (ix2 x q) : EReal) = ((sc Q K h q.val (512 * k.val + 256 * r.val + x.val) : ℝ) : EReal) := by
  have hk := trip_lt i k
  refine (pay2_apply _ _ x q).trans (prod_real _ _ _ _ (fun y => ?_) (fun y => ?_))
  · refine (tBlk_at (F := Ideal) i arg4 harg4 x1 k r h x y ⟨512 * k.val + 256 * r.val + x.val, by omega⟩ ⟨128 * h.val + y.val, by omega⟩ rfl rfl).trans ?_
    exact hK _ _ h y.val y.isLt rfl
  · refine (qBlk_at (F := Ideal) arg3 harg3 x0 h q y ⟨128 * h.val + y.val, by omega⟩ rfl).trans ?_
    exact hQ _ _ h y.val y.isLt rfl

theorem tV_real (hW : RealK x2 W) (k : Fin (k0_t1_loop i).trips) (r : Fin 2) (h : Fin 8) (x : Fin 256) (d : Fin 72) :
    (tBlk (F := Ideal) i k arg5 (harg5.unread x2) r h (ix2 x ⟨d.val, by omega⟩) : EReal) = ((W (512 * k.val + 256 * r.val + x.val) h d.val : ℝ) : EReal) := by
  have hk := trip_lt i k
  refine (tBlk_at (F := Ideal) i arg5 harg5 x2 k r h x ⟨d.val, by omega⟩ ⟨512 * k.val + 256 * r.val + x.val, by omega⟩ ⟨128 * h.val + d.val, by omega⟩ rfl rfl).trans ?_
  exact hW _ _ h d.val (by omega) rfl

theorem dV_real (hW : RealK x2 W) (r : Fin 2) (h : Fin 8) (x : Fin 256) (d : Fin 72) :
    (dBlk (F := Ideal) i arg5 (harg5.unread x2) r h (ix2 x ⟨d.val, by omega⟩) : EReal) = ((W (512 * (i 2).val + 256 * r.val + x.val) h d.val : ℝ) : EReal) := by
  have hi : (i 2).val < 8 := (i 2).isLt
  refine (dBlk_at (F := Ideal) i arg5 harg5 x2 r h x ⟨d.val, by omega⟩ ⟨512 * (i 2).val + 256 * r.val + x.val, by omega⟩ ⟨128 * h.val + d.val, by omega⟩ rfl rfl).trans ?_
  exact hW _ _ h d.val (by omega) rfl

theorem dSc0_real (hQ : RealQ x0 Q) (hK : RealK x1 K) (h : Fin 8) (x : Fin 256) (q : Fin 512) :
    (dSc0 (F := Ideal) i arg3 harg3 arg4 harg4 x0 x1 h (ix2 x q) : EReal) = if x.val < q.val + 1 then ((sc Q K h q.val (512 * (i 2).val + x.val) : ℝ) : EReal) else ⊥ := by
  have hi : (i 2).val < 8 := (i 2).isLt
  refine (pay268_apply _ x q).trans ?_
  refine if_congr Iff.rfl ?_ rfl
  refine (pay2_apply _ _ x q).trans (prod_real _ _ _ _ (fun y => ?_) (fun y => ?_))
  · refine (dBlk_at (F := Ideal) i arg4 harg4 x1 0 h x y ⟨512 * (i 2).val + x.val, by omega⟩ ⟨128 * h.val + y.val, by omega⟩ rfl rfl).trans ?_
    exact hK _ _ h y.val y.isLt rfl
  · refine (qBlk_at (F := Ideal) arg3 harg3 x0 h q y ⟨128 * h.val + y.val, by omega⟩ rfl).trans ?_
    exact hQ _ _ h y.val y.isLt rfl

theorem dSc1_real (hQ : RealQ x0 Q) (hK : RealK x1 K) (h : Fin 8) (x : Fin 256) (q : Fin 256) :
    msk (dSc1 (F := Ideal) i arg3 harg3 arg4 harg4 x0 x1 h) q x = if x.val < q.val + 1 then ((sc Q K h (256 + q.val) (512 * (i 2).val + 256 + x.val) : ℝ) : EReal) else ⊥ := by
  have hi : (i 2).val < 8 := (i 2).isLt
  refine if_congr Iff.rfl ?_ rfl
  refine (pay323_apply _ _ x q).trans (prod_real _ _ _ _ (fun y => ?_) (fun y => ?_))
  · refine (dBlk_at (F := Ideal) i arg4 harg4 x1 1 h x y ⟨512 * (i 2).val + 256 + x.val, by omega⟩ ⟨128 * h.val + y.val, by omega⟩ rfl rfl).trans ?_
    exact hK _ _ h y.val y.isLt rfl
  · refine (qBlk2_at (F := Ideal) arg3 harg3 x0 h q y ⟨256 + q.val, by omega⟩ ⟨128 * h.val + y.val, by omega⟩ rfl rfl).trans ?_
    exact hQ _ _ h y.val y.isLt rfl

/-- One block of keys carries the sums on. -/
theorem step1 {h : Fin 8} {n c : ℕ} {w : ℕ → ℝ} {s : ℕ → ℝ} (S : FVec Ideal S256x512 .f32) (m : FVec Ideal S1x1x512 .f32) (v : FVec Ideal S256x128 .bf16) (a : FVec Ideal S1x72x512 .f32)
    (d : Fin 72) (q : Fin 512) (hI : Inv s w n (m (ix3 0 0 q)) (a (ix3 0 d q))) (hc0 : 0 < c) (hc : c ≤ 256)
    (hS : ∀ x : Fin 256, (S (ix2 x q) : EReal) = if x.val < c then ((s (n + x.val) : ℝ) : EReal) else ⊥)
    (hv : ∀ x : Fin 256, (v (ix2 x ⟨d.val, by omega⟩) : EReal) = ((w (n + x.val) : ℝ) : EReal)) :
    Inv s w (n + c) (mNew S m (ix3 0 0 q)) (aNew S m v a (ix3 0 d q)) := by
  rw [mNew_apply, aNew_apply]
  exact hI.step c hc0 hc (fun x => S (ix2 x q)) (fun x => v (ix2 x ⟨d.val, by omega⟩)) hS hv

theorem trips_inv (hQ : RealQ x0 Q) (hK : RealK x1 K) (hW : RealK x2 W) (h : Fin 8) (d : Fin 72) (q : Fin 512) (n : ℕ) (hn : n ≤ (i 2).val) :
    Inv (sc Q K h q.val) (fun k => W k h d.val) (512 * n) (mS (F := Ideal) c i arg3 harg3 arg4 harg4 arg5 harg5 arg6 harg6 arg7 harg7 arg8 harg8 x0 x1 x2 n h (ix3 0 0 q)) (aS (F := Ideal) c i arg3 harg3 arg4 harg4 arg5 harg5 arg6 harg6 arg7 harg7 arg8 harg8 x0 x1 x2 n h (ix3 0 d q)) := by
  induction n with
  | zero =>
    refine Or.inl ⟨rfl, ?_, ?_⟩
    · exact (mS_zero (F := Ideal) c i arg3 harg3 arg4 harg4 arg5 harg5 arg6 harg6 arg7 harg7 arg8 harg8 x0 x1 x2 h _).trans litInf
    · refine (aS_zero (F := Ideal) c i arg3 harg3 arg4 harg4 arg5 harg5 arg6 harg6 arg7 harg7 arg8 harg8 x0 x1 x2 h _).trans ?_
      show Ideal.ofBits .f32 0x00000000#32 = 0
      simp [Ideal.ofBits, Ideal.ieee]
  | succ n ih =>
    have I0 := ih (by omega)
    have hk : n < (k0_t1_loop i).trips := by rw [trips1]; omega
    have em := mS_succ (F := Ideal) c i arg3 harg3 arg4 harg4 arg5 harg5 arg6 harg6 arg7 harg7 arg8 harg8 x0 x1 x2 ⟨n, hk⟩ h
    have ea := aS_succ (F := Ideal) c i arg3 harg3 arg4 harg4 arg5 harg5 arg6 harg6 arg7 harg7 arg8 harg8 x0 x1 x2 ⟨n, hk⟩ h
    rw [show mS (F := Ideal) c i arg3 harg3 arg4 harg4 arg5 harg5 arg6 harg6 arg7 harg7 arg8 harg8 x0 x1 x2 (n + 1) h = _ from em, show aS (F := Ideal) c i arg3 harg3 arg4 harg4 arg5 harg5 arg6 harg6 arg7 harg7 arg8 harg8 x0 x1 x2 (n + 1) h = _ from ea]
    have I1 := step1 (h := h) (c := 256) _ _ _ _ d q I0 (by omega) le_rfl
      (fun x => (tSc_real i arg3 harg3 arg4 harg4 x0 x1 hQ hK ⟨n, hk⟩ 0 h x q).trans (if_pos x.isLt).symm)
      (fun x => tV_real i arg5 harg5 x2 hW ⟨n, hk⟩ 0 h x d)
    have I2 := step1 (h := h) (c := 256) _ _ _ _ d q I1 (by omega) le_rfl
      (fun x => (tSc_real i arg3 harg3 arg4 harg4 x0 x1 hQ hK ⟨n, hk⟩ 1 h x q).trans (if_pos x.isLt).symm)
      (fun x => tV_real i arg5 harg5 x2 hW ⟨n, hk⟩ 1 h x d)
    exact I2

/-- After the first half of the last tile. -/
theorem half_inv (hQ : RealQ x0 Q) (hK : RealK x1 K) (hW : RealK x2 W) (h : Fin 8) (d : Fin 72) (q : Fin 512) :
    Inv (sc Q K h q.val) (fun k => W k h d.val) (512 * (i 2).val + min (q.val + 1) 256) (m0n (F := Ideal) c i arg3 harg3 arg4 harg4 arg5 harg5 arg6 harg6 arg7 harg7 arg8 harg8 x0 x1 x2 h (ix3 0 0 q)) (a0n (F := Ideal) c i arg3 harg3 arg4 harg4 arg5 harg5 arg6 harg6 arg7 harg7 arg8 harg8 x0 x1 x2 h (ix3 0 d q)) := by
  have I0 := trips_inv c i arg3 harg3 arg4 harg4 arg5 harg5 arg6 harg6 arg7 harg7 arg8 harg8 x0 x1 x2 hQ hK hW h d q (i 2).val le_rfl
  rw [← m7_eq, ← a8_eq] at I0
  refine step1 (h := h) _ _ _ _ d q I0 (by omega) (by omega) (fun x => ?_) (fun x => dV_real i arg5 harg5 x2 hW 0 h x d)
  refine (dSc0_real i arg3 harg3 arg4 harg4 x0 x1 hQ hK h x q).trans (if_congr ?_ rfl rfl)
  have := x.isLt
  omega

/-- After the whole of it, for the later queries. -/
theorem full_inv (hQ : RealQ x0 Q) (hK : RealK x1 K) (hW : RealK x2 W) (h : Fin 8) (d : Fin 72) (q : Fin 256) :
    ∃ M, Inv (sc Q K h (256 + q.val)) (fun k => W k h d.val) (512 * (i 2).val + (256 + q.val + 1)) M (a1n (F := Ideal) c i arg3 harg3 arg4 harg4 arg5 harg5 arg6 harg6 arg7 harg7 arg8 harg8 x0 x1 x2 h (ix3 0 d q)) ∧
      M = max (hiM (m0n (F := Ideal) c i arg3 harg3 arg4 harg4 arg5 harg5 arg6 harg6 arg7 harg7 arg8 harg8 x0 x1 x2 h) (ix3 0 0 q)) (Finset.fold max ⊥ (msk (dSc1 (F := Ideal) i arg3 harg3 arg4 harg4 x0 x1 h) q) Finset.univ) := by
  have I0 := half_inv c i arg3 harg3 arg4 harg4 arg5 harg5 arg6 harg6 arg7 harg7 arg8 harg8 x0 x1 x2 hQ hK hW h d ⟨256 + q.val, by omega⟩
  rw [show min ((⟨256 + q.val, by omega⟩ : Fin 512).val + 1) 256 = 256 by show min (256 + q.val + 1) 256 = 256; omega] at I0
  refine ⟨_, ?_, rfl⟩
  rw [show 512 * (i 2).val + (256 + q.val + 1) = 512 * (i 2).val + 256 + (q.val + 1) by omega]
  rw [show (a1n (F := Ideal) c i arg3 harg3 arg4 harg4 arg5 harg5 arg6 harg6 arg7 harg7 arg8 harg8 x0 x1 x2 h (ix3 0 d q) : EReal) = _ from aNew2_apply _ _ _ _ d q]
  exact Inv.step (s := sc Q K h (256 + q.val)) I0 (q.val + 1) (by omega) (by omega) _ _ (dSc1_real i arg3 harg3 arg4 harg4 x0 x1 hQ hK h · q)
    (fun x => dV_real i arg5 harg5 x2 hW 1 h x d)

/-- What the block holds. -/
theorem out_real (hQ : RealQ x0 Q) (hK : RealK x1 K) (hW : RealK x2 W) (h1 : ∀ k h, W k h 64 = 1) (q e : Fin 512) (h : Fin 8) (l : Fin 64) (he : e.val = 64 * h.val + l.val) :
    (out0_A_3 (F := Ideal) c i arg3 harg3 arg4 harg4 arg5 harg5 arg6 harg6 arg7 harg7 arg8 harg8 x0 x1 x2 (ix2 q e) : EReal)
      = (((∑ k ∈ Finset.range (512 * (i 2).val + (q.val + 1)), W k h l.val * (2 : ℝ) ^ sc Q K h q.val k) / (∑ k ∈ Finset.range (512 * (i 2).val + (q.val + 1)), (2 : ℝ) ^ sc Q K h q.val k) : ℝ) : EReal) := by
  have hw : (fun k => W k h 64) = fun _ => (1 : ℝ) := funext fun k => h1 k h
  rw [out_eq]
  refine (outPay_apply _ _ q e h l he).trans ?_
  by_cases hq : q.val < 256
  · have eN : fN (F := Ideal) c i arg3 harg3 arg4 harg4 arg5 harg5 arg6 harg6 arg7 harg7 arg8 harg8 x0 x1 x2 h (ix3 0 l q) = a0n (F := Ideal) c i arg3 harg3 arg4 harg4 arg5 harg5 arg6 harg6 arg7 harg7 arg8 harg8 x0 x1 x2 h (ix3 0 ⟨l.val, by omega⟩ q) := dif_pos hq
    have eD : fD (F := Ideal) c i arg3 harg3 arg4 harg4 arg5 harg5 arg6 harg6 arg7 harg7 arg8 harg8 x0 x1 x2 h (ix3 0 0 q) = a0n (F := Ideal) c i arg3 harg3 arg4 harg4 arg5 harg5 arg6 harg6 arg7 harg7 arg8 harg8 x0 x1 x2 h (ix3 0 ⟨64, by omega⟩ q) := dif_pos hq
    rw [eN, eD]
    have I := half_inv c i arg3 harg3 arg4 harg4 arg5 harg5 arg6 harg6 arg7 harg7 arg8 harg8 x0 x1 x2 hQ hK hW h ⟨l.val, by omega⟩ q
    have J := half_inv c i arg3 harg3 arg4 harg4 arg5 harg5 arg6 harg6 arg7 harg7 arg8 harg8 x0 x1 x2 hQ hK hW h ⟨64, by omega⟩ q
    rw [show min (q.val + 1) 256 = q.val + 1 by omega] at I J
    rw [show (fun k => W k h (⟨64, by omega⟩ : Fin 72).val) = fun _ => (1 : ℝ) from hw] at J
    exact I.quot (by omega) J
  · obtain ⟨q', hq'⟩ : ∃ q' : Fin 256, q.val = 256 + q'.val := ⟨⟨q.val - 256, by omega⟩, by show q.val = 256 + (q.val - 256); omega⟩
    have e' : (⟨q.val - 256, by omega⟩ : Fin 256) = q' := Fin.ext (by show q.val - 256 = q'.val; omega)
    have eN : fN (F := Ideal) c i arg3 harg3 arg4 harg4 arg5 harg5 arg6 harg6 arg7 harg7 arg8 harg8 x0 x1 x2 h (ix3 0 l q) = a1n (F := Ideal) c i arg3 harg3 arg4 harg4 arg5 harg5 arg6 harg6 arg7 harg7 arg8 harg8 x0 x1 x2 h (ix3 0 ⟨l.val, by omega⟩ ⟨q.val - 256, by omega⟩) := dif_neg hq
    have eD : fD (F := Ideal) c i arg3 harg3 arg4 harg4 arg5 harg5 arg6 harg6 arg7 harg7 arg8 harg8 x0 x1 x2 h (ix3 0 0 q) = a1n (F := Ideal) c i arg3 harg3 arg4 harg4 arg5 harg5 arg6 harg6 arg7 harg7 arg8 harg8 x0 x1 x2 h (ix3 0 ⟨64, by omega⟩ ⟨q.val - 256, by omega⟩) := dif_neg hq
    rw [eN, eD, e', hq']
    obtain ⟨M, I, hM⟩ := full_inv c i arg3 harg3 arg4 harg4 arg5 harg5 arg6 harg6 arg7 harg7 arg8 harg8 x0 x1 x2 hQ hK hW h ⟨l.val, by omega⟩ q'
    obtain ⟨M', J, hM'⟩ := full_inv c i arg3 harg3 arg4 harg4 arg5 harg5 arg6 harg6 arg7 harg7 arg8 harg8 x0 x1 x2 hQ hK hW h ⟨64, by omega⟩ q'
    rw [show (fun k => W k h (⟨64, by omega⟩ : Fin 72).val) = fun _ => (1 : ℝ) from hw, hM', ← hM] at J
    exact I.quot (by omega) J
end Cert.KernelIdeal.Rows
-- ==== Proof.Final.lean ====
module
public import proofs.«01_k».proof.Proof.Soft
public import proofs.«01_k».proof.Proof.Scores
@[expose] public section
set_option maxRecDepth 16384
noncomputable section
namespace Cert.KernelIdeal.Rows
open Cert.KernelIdeal Cert.KernelIdeal.Gen
open Idealize.ShloMosaic Idealize.ShloMosaic.TcCoe Idealize.SL.Sem
open Cert.Online Cert.ReferenceIdeal

/-- The reference's attention. -/
def attn (Q K : FVec Ideal S8x4096x8x96 .f32) (W : FVec Ideal S8x4096x8x64 .f32) : FVec Ideal S32768x512 .bf16 :=
  Soft.mix W (Soft.probs (Soft.expo (Soft.scores Q K) (Soft.rmax (Soft.scores Q K))))

variable (m : (ℓ : Loc nD τ sig) → Buf (Elt Ideal) ℓ) (c : Dev nD)

/-- The scores in natural units. -/
def nat (b h : Fin 8) (q k : ℕ) : ℝ := (∑ l : Fin 96, rq m c b q h l.val * rk m c b k h l.val) / Real.sqrt 96

theorem rq_at (hr : AllReal m c) (b h : Fin 8) (q : Fin 4096) (l : Fin 96) : (m ((c : Thread nD τ).loc main_arg0) (ix4 b q h l) : EReal) = ((rq m c b q.val h l.val : ℝ) : EReal) := by
  unfold rq
  rw [dif_pos ⟨q.isLt, l.isLt⟩]
  exact toReal_of (hr.1 _)
theorem rk_at (hr : AllReal m c) (b h : Fin 8) (q : Fin 4096) (l : Fin 96) : (m ((c : Thread nD τ).loc main_arg1) (ix4 b q h l) : EReal) = ((rk m c b q.val h l.val : ℝ) : EReal) := by
  unfold rk
  rw [dif_pos ⟨q.isLt, l.isLt⟩]
  exact toReal_of (hr.2.1 _)
theorem rv_at (hr : AllReal m c) (b h : Fin 8) (q : Fin 4096) (l : Fin 64) : (m ((c : Thread nD τ).loc main_arg2) (ix4 b q h l) : EReal) = ((rv m c b q.val h l.val : ℝ) : EReal) := by
  unfold rv
  rw [if_neg (by have := l.isLt; omega), dif_pos ⟨q.isLt, l.isLt⟩]
  exact toReal_of (hr.2.2 _)

theorem attn_real (hr : AllReal m c) (R : Fin 32768) (e : Fin 512) (b h : Fin 8) (q : Fin 4096) (l : Fin 64)
    (hR : R.val = 4096 * b.val + q.val) (he : e.val = 64 * h.val + l.val) :
    (attn (m ((c : Thread nD τ).loc main_arg0)) (m ((c : Thread nD τ).loc main_arg1)) (m ((c : Thread nD τ).loc main_arg2)) (ix2 R e) : EReal)
      = (((∑ k ∈ Finset.range (q.val + 1), rv m c b k h l.val * Real.exp (nat m c b h q.val k)) / (∑ k ∈ Finset.range (q.val + 1), Real.exp (nat m c b h q.val k)) : ℝ) : EReal) := by
  refine (Soft.mix_apply _ _ R e b h q l hR he).trans ?_
  simp only [Soft.probs_apply, Soft.expo_apply, Soft.rmax_apply]
  refine softmax_plain (q.val + 1) (by omega) q.isLt (nat m c b h q.val) (fun k => rv m c b k h l.val) _ _ (fun k => ?_) (fun k => rv_at m c hr b h k l)
  refine (Soft.scores_apply _ _ b h q k).trans (if_congr Iff.rfl ?_ rfl)
  rw [prod_real _ _ _ _ (fun x => rq_at m c hr b h q x) (fun x => rk_at m c hr b h k x)]
  refine (congrArg (Ideal.div _) sqrt96).trans (div_real _ _ (Real.sqrt_pos.mpr (by norm_num)).ne')

/-- The kernel's scores are the natural ones over `log 2`. -/
theorem sc_nat (b h : Fin 8) (q k a : ℕ) : (2 : ℝ) ^ sc (fun r h l => rq m c b (a + r) h l * scl) (fun r h l => rk m c b r h l) h q k = Real.exp (nat m c b h (a + q) k) := by
  have h2 : Real.log 2 ≠ 0 := (Real.log_pos one_lt_two).ne'
  have h3 : Real.sqrt 96 ≠ 0 := (Real.sqrt_pos.mpr (by norm_num)).ne'
  rw [Real.rpow_def_of_pos two_pos]
  congr 1
  have e : ∑ l : Fin 128, rk m c b k h l.val * (rq m c b (a + q) h l.val * scl) = (∑ l : Fin 96, rq m c b (a + q) h l.val * rk m c b k h l.val) * scl := by
    rw [Fin.sum_univ_eq_sum_range (fun l => rk m c b k h l * (rq m c b (a + q) h l * scl)) 128, Fin.sum_univ_eq_sum_range (fun l => rq m c b (a + q) h l * rk m c b k h l) 96, Finset.sum_mul,
      ← Finset.sum_range_add_sum_Ico _ (show 96 ≤ 128 by omega), Finset.sum_eq_zero (s := Finset.Ico 96 128), add_zero]
    · exact Finset.sum_congr rfl fun x _ => by ring
    · intro x hx
      rw [Finset.mem_Ico] at hx
      have : rk m c b k h x = 0 := by
        unfold rk
        exact dif_neg (by omega)
      rw [this, zero_mul]
  unfold sc nat
  rw [e]
  unfold scl
  field_simp

/-- What the kernel leaves in its result is the reference's attention. -/
theorem final (hr : AllReal m c) : (dats m 0 c).arrAt 3 cfg0.N = attn (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  obtain ⟨q, e, rfl⟩ : ∃ q e : Fin 512, y = ix2 q e := ⟨y 0, y 1, by funext a; fin_cases a <;> rfl⟩
  have h0 : (grid0.coords t 0).val < 8 := (grid0.coords t 0).isLt
  have h2 : (grid0.coords t 2).val < 8 := (grid0.coords t 2).isLt
  have hq := q.isLt
  have he := e.isLt
  have hs := attn_real m c hr ⟨4096 * (grid0.coords t 0).val + (512 * (grid0.coords t 2).val + q.val), by omega⟩ e (grid0.coords t 0) ⟨e.val / 64, by omega⟩
    ⟨512 * (grid0.coords t 2).val + q.val, by omega⟩ ⟨e.val % 64, by omega⟩ rfl (by show e.val = 64 * (e.val / 64) + e.val % 64; omega)
  have hk := out_real c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
    (Q := fun r h l => rq m c (grid0.coords t 0) (512 * (grid0.coords t 2).val + r) h l * scl) (K := fun r h l => rk m c (grid0.coords t 0) r h l) (W := fun r h l => rv m c (grid0.coords t 0) r h l)
    (fun r e h l hl he => bq m c hr t r e h l hl he) (fun r e h l hl he => bk m c hr t r e h l hl he) (fun r e h l hl he => bv m c hr t r e h l hl he)
    (fun k h => if_pos rfl) q e ⟨e.val / 64, by omega⟩ ⟨e.val % 64, by omega⟩ (by show e.val = 64 * (e.val / 64) + e.val % 64; omega)
  have key : ∀ k, (2 : ℝ) ^ sc (fun r h l => rq m c (grid0.coords t 0) (512 * (grid0.coords t 2).val + r) h l * scl) (fun r h l => rk m c (grid0.coords t 0) r h l) ⟨e.val / 64, by omega⟩ q.val k
      = Real.exp (nat m c (grid0.coords t 0) ⟨e.val / 64, by omega⟩ (512 * (grid0.coords t 2).val + q.val) k) := fun k => sc_nat m c (grid0.coords t 0) _ q.val k (512 * (grid0.coords t 2).val)
  simp only [key] at hk
  rw [after0_3]
  unfold outsAt0
  refine hk.trans (Eq.trans (hs.symm) ?_)
  generalize attn _ _ _ = X
  blk_ext [widx t]
end Cert.KernelIdeal.Rows
-- ==== Proof.Pre.lean ====
module
public import proofs.«01_k».proof.Defs
public import proofs.«01_k».proof.Proof.Final
public import Idealize.ShloMosaic.Lib.ReduceAll
@[expose] public section
set_option maxRecDepth 16384
noncomputable section
namespace Cert.Pre_finite

/-- The side conditions of the precondition. -/
theorem facts : Cert.Pre_finite.Facts where
  bcast_S_S8x4096x8x96 := by decide
  reducesTo_S8x4096x8x96_S_d0_1_2_3 := by decide
  h_S_ := by decide
  bcast_S_S8x4096x8x64 := by decide
  reducesTo_S8x4096x8x64_S_d0_1_2_3 := by decide
end Cert.Pre_finite

namespace Cert.KernelIdeal.Rows
open Cert.KernelIdeal Cert.KernelIdeal.Gen
open Idealize.ShloMosaic Idealize.ShloMosaic.TcCoe Idealize.SL.Sem

theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem all_real [hP : Cert.Pre_finite.Facts] (m : (ℓ : Loc nD τ sig) → Buf (Elt Ideal) ℓ) (h : Cert.Pre_KernelIdeal_finite m) (c : Dev nD) : AllReal m c := by
  have e := congrFun (h c) (ix0)
  obtain ⟨e1, e3⟩ := IntOp.andi_eq_one.1 e
  obtain ⟨e1, e2⟩ := IntOp.andi_eq_one.1 e1
  have : Subsingleton (Cert.Pre_finite.S_).Idx := ⟨fun a b => funext fun i => i.elim0⟩
  exact ⟨fun x => real_of_lt (Host.reduce_andi_all _ _ _ _ _ e1 x), fun x => real_of_lt (Host.reduce_andi_all _ _ _ _ _ e2 x), fun x => real_of_lt (Host.reduce_andi_all _ _ _ _ _ e3 x)⟩
end Cert.KernelIdeal.Rows
-- ==== Proof.FfnRef.lean ====
module
public import proofs.«01_k».proof.Proof.Gen.Reference2Ideal.Run
public import Idealize.ShloMosaic.Lib.Pointwise
@[expose] public section
set_option maxRecDepth 16384
noncomputable section

namespace Cert.Layer
open Idealize.ShloMosaic

/-- Lane `l` of the root-mean-square norm of a row `x` of 1024 lanes with the gains `g`, over the reals with infinities. -/
def nrm (x g : Fin 1024 → EReal) (l : Fin 1024) : EReal :=
  x l * Ideal.rsqrt (Ideal.div (∑ j : Fin 1024, x j * x j) (Ideal.ofBits .f32 0x44800000#32) + Ideal.ofBits .f32 0x358637BD#32) * g l

/-- The squared positive part. -/
def relu2 (u : EReal) : EReal := max u 0 * max u 0
end Cert.Layer

namespace Cert.Reference2Ideal.Ffn
open Cert.Reference2Ideal Cert.Reference2Ideal.Gen Cert.Layer
open Idealize.ShloMosaic Idealize.ShloMosaic.TcCoe Idealize.SL.Sem

/-! # The reference's feed-forward part, read at an index -/

/-- The stream after its norm, -/
def norm (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))
/-- the hidden values before the square, -/
def hid (H : FVec Ideal S8x4096x1024 .f32) (W : FVec Ideal S1024x4096 .f32) : FVec Ideal S8x4096x4096 .f32 :=
  maximumf (Host.dotGeneral dot_S8x4096x1024_S1024x4096_S8x4096x4096_2_0_01_1_n_n none H W) (broadcastInDim S8x4096x4096 ![] bcast_S_S8x4096x4096 (constant S_ .f32 0x00000000#32))
/-- and the stream with the second product added. -/
def back (X : FVec Ideal S8x4096x1024 .f32) (U : FVec Ideal S8x4096x4096 .f32) (W : FVec Ideal S4096x1024 .f32) : FVec Ideal S32768x1024 .f32 :=
  shapeCast S32768x1024 (addf X (Host.dotGeneral dot_S8x4096x4096_S4096x1024_S8x4096x1024_2_0_01_1_n_n none (mulf U U) W)) shapeCasts_S8x4096x1024_S32768x1024

/-- The whole of it. -/
def ffn (X : FVec Ideal S8x4096x1024 .f32) (G : FVec Ideal S1024 .f32) (W1 : FVec Ideal S1024x4096 .f32) (W2 : FVec Ideal S4096x1024 .f32) : FVec Ideal S32768x1024 .f32 :=
  back X (hid (norm X G) W1) W2

theorem norm_apply (X : FVec Ideal S8x4096x1024 .f32) (G : FVec Ideal S1024 .f32) (b : Fin 8) (s : Fin 4096) (l : Fin 1024) :
    (norm X G (ix3 b s l) : EReal) = nrm (fun j => X (ix3 b s j)) (fun j => G (ix1 j)) l := by
  unfold nrm
  pointwise [norm]

theorem hid_apply (H : FVec Ideal S8x4096x1024 .f32) (W : FVec Ideal S1024x4096 .f32) (b : Fin 8) (s : Fin 4096) (k : Fin 4096) :
    (hid H W (ix3 b s k) : EReal) = max (∑ l : Fin 1024, (H (ix3 b s l) : EReal) * W (ix2 l k)) 0 := by
  pointwise [hid]

theorem back_apply (X : FVec Ideal S8x4096x1024 .f32) (U : FVec Ideal S8x4096x4096 .f32) (W : FVec Ideal S4096x1024 .f32) (b : Fin 8) (s : Fin 4096) (e : Fin 1024) (R : Fin 32768) (hR : R.val = 4096 * b.val + s.val) :
    (back X U W (ix2 R e) : EReal) = X (ix3 b s e) + ∑ k : Fin 4096, ((U (ix3 b s k) : EReal) * U (ix3 b s k)) * W (ix2 k e) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [back]
  simp only [e1, e2]

/-- One entry of the reference's result. -/
theorem ffn_apply (X : FVec Ideal S8x4096x1024 .f32) (G : FVec Ideal S1024 .f32) (W1 : FVec Ideal S1024x4096 .f32) (W2 : FVec Ideal S4096x1024 .f32) (b : Fin 8) (s : Fin 4096) (e : Fin 1024) (R : Fin 32768) (hR : R.val = 4096 * b.val + s.val) :
    (ffn X G W1 W2 (ix2 R e) : EReal) = X (ix3 b s e) + ∑ k : Fin 4096, relu2 (∑ l : Fin 1024, nrm (fun j => X (ix3 b s j)) (fun j => G (ix1 j)) l * W1 (ix2 l k)) * W2 (ix2 k e) := by
  unfold ffn relu2
  rw [back_apply _ _ _ b s e R hR]
  simp only [hid_apply, norm_apply]

end Cert.Reference2Ideal.Ffn
-- ==== Proof.FfnKernel.lean ====
module
public import proofs.«01_k».proof.Proof.Gen.Kernel2Ideal.Value
public import proofs.«01_k».proof.Proof.FfnRef
public import Idealize.ShloMosaic.Lib.Pipeline.ValueKit
@[expose] public section
set_option maxRecDepth 16384
noncomputable section
namespace Cert.Kernel2Ideal.Ffn
open Cert.Kernel2Ideal Cert.Kernel2Ideal.Gen Cert.Layer
open Idealize.ShloMosaic Idealize.ShloMosaic.TcCoe Idealize.SL.Sem

/-! # The feed-forward kernel -/

theorem pay1_apply (x : FVec Ideal S1024x1024 .f32) (r l : Fin 1024) : (k0_pay1 (F := Ideal) x (ix2 r l) : EReal) = x (ix2 r l) := by
  pointwise [k0_pay1]

theorem pay2_apply (x : FVec Ideal S1024x1024 .f32) (g : FVec Ideal S1x1024 .f32) (r l : Fin 1024) :
    (k0_pay2 (F := Ideal) x g (ix2 r l) : EReal) = nrm (fun j => x (ix2 r j)) (fun j => g (ix2 0 j)) l := by
  unfold nrm
  pointwise [k0_pay1, k0_pay2]

theorem pay3_apply (h w1 : FVec Ideal S1024x1024 .bf16) (o : FVec Ideal S1024x1024 .f32) (w2 : FVec Ideal S1024x1024 .bf16) (r e : Fin 1024) :
    (k0_pay3 (F := Ideal) h w1 o w2 (ix2 r e) : EReal) = o (ix2 r e) + ∑ k : Fin 1024, relu2 (∑ l : Fin 1024, (h (ix2 r l) : EReal) * w1 (ix2 l k)) * w2 (ix2 k e) := by
  unfold relu2
  pointwise [k0_pay3]

variable (m : (ℓ : Loc nD τ sig) → Buf (Elt Ideal) ℓ) (c : Dev nD)

/-- What a run's first point leaves in the result's block: the rows with the first part of the product added; -/
theorem out_A (t : Fin cfg0.N) (h : t.val % 4 = 0) : (outsAt0 m c t.val t.isLt).1 = k0_pay3 (F := Ideal) (k0_pay2 (iblk m c 0 t) (iblk m c 1 t)) (iblk m c 2 t) (k0_pay1 (iblk m c 0 t)) (iblk m c 3 t) := by
  rw [outsAt0_A m c t h]
  frame_out

/-- and in the scratch: the norm of the rows. -/
theorem scr_A (t : Fin cfg0.N) (h : t.val % 4 = 0) : (outsAt0 m c t.val t.isLt).2 = k0_pay2 (F := Ideal) (iblk m c 0 t) (iblk m c 1 t) := by
  rw [outsAt0_A m c t h]
  frame_out

/-- A later point adds its part, -/
theorem out_B (t : Fin cfg0.N) (h : ¬ t.val % 4 = 0) : (outsAt0 m c t.val t.isLt).1 = k0_pay3 (F := Ideal) (outsAt0 m c (t.val - 1) (Nat.lt_of_le_of_lt (Nat.sub_le _ _) t.isLt)).2 (iblk m c 2 t) (outsAt0 m c (t.val - 1) (Nat.lt_of_le_of_lt (Nat.sub_le _ _) t.isLt)).1 (iblk m c 3 t) := by
  rw [outsAt0_B m c t h]
  frame_out
  exact congrArg (fun z => k0_pay3 (F := Ideal) z _ _ _) (Memref.IsWhole.read_unread _ _)

/-- and keeps the scratch. -/
theorem scr_B (t : Fin cfg0.N) (h : ¬ t.val % 4 = 0) : (outsAt0 m c t.val t.isLt).2 = (outsAt0 m c (t.val - 1) (Nat.lt_of_le_of_lt (Nat.sub_le _ _) t.isLt)).2 := by
  rw [outsAt0_B m c t h]
  rfl

/-! ## The operands -/

/-- The stream as rows of one array, -/
def rows (X : FVec Ideal S8x4096x1024 .f32) : FVec Ideal S32768x1024 .f32 := shapeCast S32768x1024 X shapeCasts_S8x4096x1024_S32768x1024
/-- the gains as a row. -/
def row (G : FVec Ideal S1024 .f32) : FVec Ideal S1x1024 .f32 := shapeCast S1x1024 G shapeCasts_S1024_S1x1024

theorem rows_apply (X : FVec Ideal S8x4096x1024 .f32) (R : Fin 32768) (l : Fin 1024) (b : Fin 8) (s : Fin 4096) (hR : R.val = 4096 * b.val + s.val) :
    (rows X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows]
  simp only [e1, e2]

theorem row_apply (G : FVec Ideal S1024 .f32) (l : Fin 1024) : (row G (ix2 0 l) : EReal) = G (ix1 l) := by
  pointwise [row]

theorem V0 : V m c main_v0 = rows (m ((c : Thread nD τ).loc main_arg0)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V1 : V m c main_v1 = row (m ((c : Thread nD τ).loc main_arg1)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V2 (x) : (V m c main_v2 x : EReal) = m ((c : Thread nD τ).loc main_arg2) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V3 (x) : (V m c main_v3 x : EReal) = m ((c : Thread nD τ).loc main_arg3) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

/-- Where each window sits at a grid point. -/
theorem widx : ∀ t : Fin cfg0.N, win0_0.index t = ![t.val / 4, 0] ∧ win0_1.index t = ![0, 0] ∧ win0_2.index t = ![0, t.val % 4] ∧
    win0_3.index t = ![t.val % 4, 0] ∧ win0_4.index t = ![t.val / 4, 0] :=
  (by decide +kernel : ∀ t : Fin grid0.N, _)

theorem tlt (t : Fin cfg0.N) : t.val < 128 := N_0 ▸ t.isLt

theorem bx (t : Fin cfg0.N) (r l : Fin 1024) (b : Fin 8) (s : Fin 4096) (h : 1024 * (t.val / 4) + r.val = 4096 * b.val + s.val) :
    (iblk m c 0 t (ix2 r l) : EReal) = m ((c : Thread nD τ).loc main_arg0) (ix3 b s l) := by
  have ht := tlt t
  have hr := r.isLt
  refine Eq.trans ?_ (rows_apply (m ((c : Thread nD τ).loc main_arg0)) ⟨1024 * (t.val / 4) + r.val, by omega⟩ l b s h)
  rw [← V0 m c]
  blk_ext [iblk, widx t]

theorem bg (t : Fin cfg0.N) (l : Fin 1024) : (iblk m c 1 t (ix2 0 l) : EReal) = m ((c : Thread nD τ).loc main_arg1) (ix1 l) := by
  refine Eq.trans ?_ (row_apply (m ((c : Thread nD τ).loc main_arg1)) l)
  rw [← V1 m c]
  blk_ext [iblk, widx t]

theorem bw1 (t : Fin cfg0.N) (l k : Fin 1024) (k' : Fin 4096) (h : k'.val = 1024 * (t.val % 4) + k.val) :
    (iblk m c 2 t (ix2 l k) : EReal) = m ((c : Thread nD τ).loc main_arg2) (ix2 l k') := by
  refine Eq.trans ?_ (V2 m c (ix2 l k'))
  blk_ext [iblk, widx t]

theorem bw2 (t : Fin cfg0.N) (k e : Fin 1024) (k' : Fin 4096) (h : k'.val = 1024 * (t.val % 4) + k.val) :
    (iblk m c 3 t (ix2 k e) : EReal) = m ((c : Thread nD τ).loc main_arg3) (ix2 k' e) := by
  refine Eq.trans ?_ (V3 m c (ix2 k' e))
  blk_ext [iblk, widx t]

theorem ix2_of (y : S1024x1024.Idx) : ∃ r l : Fin 1024, y = ix2 r l := ⟨y 0, y 1, by funext a; fin_cases a <;> rfl⟩

/-- The points of a run see the same rows and gains. -/
theorem same0 (t u : Fin cfg0.N) (h : t.val / 4 = u.val / 4) : (iblk m c 0 t : FVec Ideal S1024x1024 .f32) = iblk m c 0 u := by
  funext y
  obtain ⟨r, l, rfl⟩ := ix2_of y
  have ht := tlt t
  have hr := r.isLt
  exact (bx m c t r l ⟨(1024 * (t.val / 4) + r.val) / 4096, by omega⟩ ⟨(1024 * (t.val / 4) + r.val) % 4096, by omega⟩ (by show _ = 4096 * ((1024 * (t.val / 4) + r.val) / 4096) + (1024 * (t.val / 4) + r.val) % 4096; omega)).trans
    (bx m c u r l ⟨(1024 * (t.val / 4) + r.val) / 4096, by omega⟩ ⟨(1024 * (t.val / 4) + r.val) % 4096, by omega⟩ (by show _ = 4096 * ((1024 * (t.val / 4) + r.val) / 4096) + (1024 * (t.val / 4) + r.val) % 4096; omega)).symm
theorem same1 (t u : Fin cfg0.N) : (iblk m c 1 t : FVec Ideal S1x1024 .f32) = iblk m c 1 u := by
  funext y
  obtain ⟨l, rfl⟩ : ∃ l : Fin 1024, y = ix2 0 l := ⟨y 1, by funext a; fin_cases a; exact Fin.ext (by have := (y 0).isLt; show (y 0).val = 0; have h : (y 0).val < 1 := this; omega); rfl⟩
  exact (bg m c t l).trans (bg m c u l).symm

/-- The scratch holds the norm of the point's own rows at every point. -/
theorem scr : ∀ (n : ℕ) (t : Fin cfg0.N), t.val = n → (outsAt0 m c t.val t.isLt).2 = k0_pay2 (F := Ideal) (iblk m c 0 t) (iblk m c 1 t)
  | 0, t, e => scr_A m c t (by omega)
  | n + 1, t, e => by
    by_cases h : t.val % 4 = 0
    · exact scr_A m c t h
    · rw [scr_B m c t h]
      refine (scr n ⟨t.val - 1, Nat.lt_of_le_of_lt (Nat.sub_le _ _) t.isLt⟩ (by show t.val - 1 = n; omega)).trans ?_
      rw [same0 m c ⟨t.val - 1, Nat.lt_of_le_of_lt (Nat.sub_le _ _) t.isLt⟩ t (by show (t.val - 1) / 4 = t.val / 4; omega), same1 m c ⟨t.val - 1, Nat.lt_of_le_of_lt (Nat.sub_le _ _) t.isLt⟩ t]

/-- What a point adds to an entry of its block. -/
def part (t : Fin cfg0.N) (i : S1024x1024.Idx) : EReal :=
  ∑ k : Fin 1024, relu2 (∑ l : Fin 1024, nrm (fun j => iblk m c 0 t (ix2 (i 0) j)) (fun j => iblk m c 1 t (ix2 0 j)) l * iblk m c 2 t (ix2 l k)) * iblk m c 3 t (ix2 k (i 1))
/-- A run's first point also starts from the rows. -/
def term (t : Fin cfg0.N) (i : S1024x1024.Idx) : EReal :=
  (if t.val % 4 = 0 then (show EReal from (show FVec Ideal S1024x1024 .f32 from iblk m c 0 t) i) else 0) + part m c t i

/-- One point's contribution at an entry. -/
theorem pay3_part (t : Fin cfg0.N) (o : FVec Ideal S1024x1024 .f32) (i : S1024x1024.Idx) :
    (k0_pay3 (F := Ideal) (k0_pay2 (iblk m c 0 t) (iblk m c 1 t)) (iblk m c 2 t) o (iblk m c 3 t) i : EReal) = o i + part m c t i := by
  obtain ⟨r, e, rfl⟩ := ix2_of i
  refine (pay3_apply _ _ _ _ r e).trans ?_
  simp only [pay2_apply]
  rfl

/-- The block a run leaves. -/
theorem acc (t : Fin cfg0.N) (h : t.val % 4 = 3) (i : S1024x1024.Idx) :
    ((outsAt0 m c t.val t.isLt).1 i : EReal) = 0 + ∑ s : Fin 4, term m c ⟨4 * (t.val / 4) + s.val, Pipeline.run_point_lt_of_flush t h s⟩ i := by
  refine Pipeline.eq_sum_fin_of_reset_step_apply_of_flush (M := EReal) (fun n h => (outsAt0 m c n h).1) 4 (fun _ => 0) (term m c) ?_ ?_ t h i
  · intro t h i
    show (outsAt0 m c t.val t.isLt).1 i = _
    rw [out_A m c t h]
    refine (pay3_part m c t _ i).trans ?_
    obtain ⟨r, e, rfl⟩ := ix2_of i
    unfold term
    rw [if_pos h, zero_add, pay1_apply]
  · intro t h i
    show (outsAt0 m c t.val t.isLt).1 i = (outsAt0 m c (t.val - 1) _).1 i + _
    have hs := scr m c (t.val - 1) ⟨t.val - 1, Nat.lt_of_le_of_lt (Nat.sub_le _ _) t.isLt⟩ rfl
    rw [out_B m c t h]
    simp only at hs
    rw [hs, same0 m c ⟨t.val - 1, Nat.lt_of_le_of_lt (Nat.sub_le _ _) t.isLt⟩ t (by show (t.val - 1) / 4 = t.val / 4; omega), same1 m c ⟨t.val - 1, Nat.lt_of_le_of_lt (Nat.sub_le _ _) t.isLt⟩ t]
    refine (pay3_part m c t _ i).trans ?_
    unfold term
    rw [if_neg h, zero_add]

/-- What the kernel leaves in its result is the reference's feed-forward part. -/
theorem final : (dats m 0 c).arrAt 4 cfg0.N = Cert.Reference2Ideal.Ffn.ffn (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨r, e, rfl⟩ := ix2_of y
  have h3 := (flush0_4 t).mp hf
  have ht := tlt t
  have hr := r.isLt
  rw [after0_4]
  have hs := Cert.Reference2Ideal.Ffn.ffn_apply (m ((c : Thread nD τ).loc main_arg0)) (m ((c : Thread nD τ).loc main_arg1)) (m ((c : Thread nD τ).loc main_arg2)) (m ((c : Thread nD τ).loc main_arg3))
    ⟨(1024 * (t.val / 4) + r.val) / 4096, by omega⟩ ⟨(1024 * (t.val / 4) + r.val) % 4096, by omega⟩ e ⟨1024 * (t.val / 4) + r.val, by omega⟩ (by show 1024 * (t.val / 4) + r.val = 4096 * ((1024 * (t.val / 4) + r.val) / 4096) + (1024 * (t.val / 4) + r.val) % 4096; omega)
  refine (acc m c t h3 (ix2 r e)).trans (Eq.trans ?_ (hs.symm.trans ?_))
  · have hb : ∀ (u : Fin cfg0.N) (l : Fin 1024), u.val / 4 = t.val / 4 → (iblk m c 0 u (ix2 r l) : EReal) = m ((c : Thread nD τ).loc main_arg0) (ix3 ⟨(1024 * (t.val / 4) + r.val) / 4096, by omega⟩ ⟨(1024 * (t.val / 4) + r.val) % 4096, by omega⟩ l) := fun u l hu =>
      bx m c u r l _ _ (by show _ = 4096 * ((1024 * (t.val / 4) + r.val) / 4096) + (1024 * (t.val / 4) + r.val) % 4096; omega)
    unfold term
    rw [zero_add, Finset.sum_add_distrib]
    refine congrArg₂ (fun x y : EReal => x + y) ?_ ?_
    · rw [Fin.sum_univ_four]
      rw [if_pos (by show (4 * (t.val / 4) + 0) % 4 = 0; omega), if_neg (by show ¬ (4 * (t.val / 4) + 1) % 4 = 0; omega), if_neg (by show ¬ (4 * (t.val / 4) + 2) % 4 = 0; omega), if_neg (by show ¬ (4 * (t.val / 4) + 3) % 4 = 0; omega),
        add_zero, add_zero, add_zero]
      exact hb _ e (by show (4 * (t.val / 4) + 0) / 4 = t.val / 4; omega)
    · unfold part
      refine Fin.sum_mul_add_congr fun s k hl => ?_
      have hs4 := s.isLt
      have e1 : ((⟨s.val * 1024 + k.val, hl⟩ : Fin 4096) : ℕ) = 1024 * ((4 * (t.val / 4) + s.val) % 4) + k.val := by
        show s.val * 1024 + k.val = _
        omega
      have hx : ∀ l : Fin 1024, (iblk m c 0 ⟨4 * (t.val / 4) + s.val, Pipeline.run_point_lt_of_flush t h3 s⟩ (ix2 r l) : EReal) = _ := fun l => hb _ l (by show (4 * (t.val / 4) + s.val) / 4 = t.val / 4; omega)
      have hw1 : ∀ l : Fin 1024, _ := fun l => bw1 m c ⟨4 * (t.val / 4) + s.val, Pipeline.run_point_lt_of_flush t h3 s⟩ l k ⟨s.val * 1024 + k.val, hl⟩ e1
      have hw2 := bw2 m c ⟨4 * (t.val / 4) + s.val, Pipeline.run_point_lt_of_flush t h3 s⟩ k e ⟨s.val * 1024 + k.val, hl⟩ e1
      have hx' : (fun j : Fin 1024 => (iblk m c 0 ⟨4 * (t.val / 4) + s.val, Pipeline.run_point_lt_of_flush t h3 s⟩ (ix2 r j) : EReal)) = _ := funext hx
      have hg' : (fun j : Fin 1024 => (iblk m c 1 ⟨4 * (t.val / 4) + s.val, Pipeline.run_point_lt_of_flush t h3 s⟩ (ix2 0 j) : EReal)) = _ := funext fun j => bg m c _ j
      refine congrArg₂ (fun x y : EReal => relu2 x * y) ?_ hw2
      refine Fin.sum_fin_congr fun l => ?_
      exact congrArg₂ (fun x y : EReal => x * y) (congrArg₂ (fun x y => nrm x y l) hx' hg') (hw1 l)
  · generalize Cert.Reference2Ideal.Ffn.ffn _ _ _ _ = X
    blk_ext [widx t]
end Cert.Kernel2Ideal.Ffn
-- ==== Proof.MergeRef.lean ====
module
public import proofs.«01_k».proof.Proof.Gen.Reference3Ideal.Run
public import proofs.«01_k».proof.Proof.FfnRef
public import Idealize.ShloMosaic.Lib.Pointwise
@[expose] public section
set_option maxRecDepth 16384
noncomputable section

namespace Cert.Layer
open Idealize.ShloMosaic
/-- The logistic function, over the reals with infinities. -/
def gate (z : EReal) : EReal := Ideal.div (Ideal.ofBits .f32 0x3F800000#32) (Ideal.ofBits .f32 0x3F800000#32 + Ideal.exp (-z))

/-- One lane of the gated sum of the three branches: the normed row `h`, the gates' weights, and each branch's row and weights. -/
def lane (h : Fin 1024 → EReal) (w : Fin 3 → Fin 1024 → EReal) (o₀ b₀ o₁ b₁ : Fin 512 → EReal) (o₂ b₂ : Fin 1024 → EReal) : EReal :=
  gate (∑ j, h j * w 0 j) * (∑ j, o₀ j * b₀ j) + gate (∑ j, h j * w 1 j) * (∑ j, o₁ j * b₁ j) + gate (∑ j, h j * w 2 j) * (∑ j, o₂ j * b₂ j)

/-- Lane `e` of the merged stream: the row `x`, the gains, the gates' weights, each branch's row and weights, and the output weights. -/
def entry (x g : Fin 1024 → EReal) (w : Fin 3 → Fin 1024 → Fin 1024 → EReal) (o₀ : Fin 512 → EReal) (b₀ : Fin 512 → Fin 1024 → EReal) (o₁ : Fin 512 → EReal) (b₁ : Fin 512 → Fin 1024 → EReal)
    (o₂ : Fin 1024 → EReal) (b₂ v : Fin 1024 → Fin 1024 → EReal) (e : Fin 1024) : EReal :=
  x e + ∑ l : Fin 1024, lane (nrm x g) (fun a j => w a j l) o₀ (fun j => b₀ j l) o₁ (fun j => b₁ j l) o₂ (fun j => b₂ j l) * v l e

theorem entry_congr {x x' g g' : Fin 1024 → EReal} {w w' : Fin 3 → Fin 1024 → Fin 1024 → EReal} {o₀ o₀' : Fin 512 → EReal} {b₀ b₀' : Fin 512 → Fin 1024 → EReal} {o₁ o₁' : Fin 512 → EReal} {b₁ b₁' : Fin 512 → Fin 1024 → EReal}
    {o₂ o₂' : Fin 1024 → EReal} {b₂ b₂' v v' : Fin 1024 → Fin 1024 → EReal} {e : Fin 1024} (hx : ∀ j, x j = x' j) (hg : ∀ j, g j = g' j) (hw : ∀ a j l, w a j l = w' a j l) (h₀ : ∀ j, o₀ j = o₀' j) (k₀ : ∀ j l, b₀ j l = b₀' j l)
    (h₁ : ∀ j, o₁ j = o₁' j) (k₁ : ∀ j l, b₁ j l = b₁' j l) (h₂ : ∀ j, o₂ j = o₂' j) (k₂ : ∀ j l, b₂ j l = b₂' j l) (hv : ∀ l e, v l e = v' l e) :
    entry x g w o₀ b₀ o₁ b₁ o₂ b₂ v e = entry x' g' w' o₀' b₀' o₁' b₁' o₂' b₂' v' e := by
  rw [funext hx, funext hg, funext fun a => funext fun j => funext (hw a j), funext h₀, funext fun j => funext (k₀ j), funext h₁, funext fun j => funext (k₁ j), funext h₂, funext fun j => funext (k₂ j), funext fun j => funext (hv j)]
end Cert.Layer

namespace Cert.Reference3Ideal.Merge
open Cert.Reference3Ideal Cert.Reference3Ideal.Gen Cert.Layer
open Idealize.ShloMosaic Idealize.ShloMosaic.TcCoe Idealize.SL.Sem

/-! # The reference's gated merge, read at an index -/

/-- The stream after its norm, -/
def norm (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))
/-- the three gates of every token, -/
def gates (H : FVec Ideal S8x4096x1024 .f32) (W : FVec Ideal S1024x8112 .f32) : FVec Ideal S8x4096x3x1024 .f32 :=
  shapeCast S8x4096x3x1024 (Host.divf (broadcastInDim S8x4096x3072 ![] bcast_S_S8x4096x3072 (constant S_ .f32 0x3F800000#32)) (addf (broadcastInDim S8x4096x3072 ![] bcast_S_S8x4096x3072 (constant S_ .f32 0x3F800000#32)) (Host.exp (Host.negf (extractStridedSlice S8x4096x3072 ![0, 0, 5040] (Host.dotGeneral dot_S8x4096x1024_S1024x8112_S8x4096x8112_2_0_01_1_n_n none H W) slices_S8x4096x8112_S8x4096x3072_0_0_5040))))) shapeCasts_S8x4096x3072_S8x4096x3x1024
/-- each branch's gate, -/
def gate0 (Z : FVec Ideal S8x4096x3x1024 .f32) : FVec Ideal S8x4096x1024 .f32 :=
  shapeCast S8x4096x1024 (extractStridedSlice S8x4096x1x1024 ![0, 0, 0, 0] Z slices_S8x4096x3x1024_S8x4096x1x1024_0_0_0_0) shapeCasts_S8x4096x1x1024_S8x4096x1024
def gate1 (Z : FVec Ideal S8x4096x3x1024 .f32) : FVec Ideal S8x4096x1024 .f32 :=
  shapeCast S8x4096x1024 (extractStridedSlice S8x4096x1x1024 ![0, 0, 1, 0] Z slices_S8x4096x3x1024_S8x4096x1x1024_0_0_1_0) shapeCasts_S8x4096x1x1024_S8x4096x1024
def gate2 (Z : FVec Ideal S8x4096x3x1024 .f32) : FVec Ideal S8x4096x1024 .f32 :=
  shapeCast S8x4096x1024 (extractStridedSlice S8x4096x1x1024 ![0, 0, 2, 0] Z slices_S8x4096x3x1024_S8x4096x1x1024_0_0_2_0) shapeCasts_S8x4096x1x1024_S8x4096x1024
/-- the gated sum of the branches, -/
def mixed (Z : FVec Ideal S8x4096x3x1024 .f32) (A B : FVec Ideal S8x4096x512 .f32) (C : FVec Ideal S8x4096x1024 .f32) (D E : FVec Ideal S512x1024 .f32) (F : FVec Ideal S1024x1024 .f32) : FVec Ideal S8x4096x1024 .f32 :=
  addf (addf (mulf (gate0 Z) (Host.dotGeneral dot_S8x4096x512_S512x1024_S8x4096x1024_2_0_01_1_n_n none A D)) (mulf (gate1 Z) (Host.dotGeneral dot_S8x4096x512_S512x1024_S8x4096x1024_2_0_01_1_n_n none B E))) (mulf (gate2 Z) (Host.dotGeneral dot_S8x4096x1024_S1024x1024_S8x4096x1024_2_0_01_1_n_n none C F))
/-- and the stream with its product added. -/
def back (X M : FVec Ideal S8x4096x1024 .f32) (V : FVec Ideal S1024x1024 .f32) : FVec Ideal S32768x1024 .f32 :=
  shapeCast S32768x1024 (addf X (Host.dotGeneral dot_S8x4096x1024_S1024x1024_S8x4096x1024_2_0_01_1_n_n none M V)) shapeCasts_S8x4096x1024_S32768x1024

/-- The whole of it. -/
def merge (X : FVec Ideal S8x4096x1024 .f32) (G : FVec Ideal S1024 .f32) (W : FVec Ideal S1024x8112 .f32) (A B : FVec Ideal S8x4096x512 .f32) (C : FVec Ideal S8x4096x1024 .f32) (D E : FVec Ideal S512x1024 .f32) (F V : FVec Ideal S1024x1024 .f32) : FVec Ideal S32768x1024 .f32 :=
  back X (mixed (gates (norm X G) W) A B C D E F) V

theorem res_eq (m : (ℓ : Loc nD τ sig) → Buf (Elt Ideal) ℓ) (c : Dev nD) :
    Value.res_main_v38 (F := Ideal) m c = merge (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := rfl

/-- Column `l` of the gates of branch `a` in the input weights. -/
def wcol (a : Fin 3) (l : Fin 1024) : Fin 8112 := ⟨5040 + (a.val * 1024 + l.val), by have := a.isLt; have := l.isLt; omega⟩

theorem norm_apply (X : FVec Ideal S8x4096x1024 .f32) (G : FVec Ideal S1024 .f32) (b : Fin 8) (s : Fin 4096) (l : Fin 1024) :
    (norm X G (ix3 b s l) : EReal) = nrm (fun j => X (ix3 b s j)) (fun j => G (ix1 j)) l := by
  unfold nrm
  pointwise [norm]

theorem gates_apply (H : FVec Ideal S8x4096x1024 .f32) (W : FVec Ideal S1024x8112 .f32) (b : Fin 8) (s : Fin 4096) (a : Fin 3) (l : Fin 1024) :
    (gates H W (ix4 b s a l) : EReal) = gate (∑ j : Fin 1024, (H (ix3 b s j) : EReal) * W (ix2 j (wcol a l))) := by
  unfold gate wcol
  pointwise [gates]

theorem gate0_apply (Z : FVec Ideal S8x4096x3x1024 .f32) (b : Fin 8) (s : Fin 4096) (l : Fin 1024) : (gate0 Z (ix3 b s l) : EReal) = Z (ix4 b s 0 l) := by
  pointwise [gate0]
theorem gate1_apply (Z : FVec Ideal S8x4096x3x1024 .f32) (b : Fin 8) (s : Fin 4096) (l : Fin 1024) : (gate1 Z (ix3 b s l) : EReal) = Z (ix4 b s 1 l) := by
  pointwise [gate1]
theorem gate2_apply (Z : FVec Ideal S8x4096x3x1024 .f32) (b : Fin 8) (s : Fin 4096) (l : Fin 1024) : (gate2 Z (ix3 b s l) : EReal) = Z (ix4 b s 2 l) := by
  pointwise [gate2]

theorem mixed_apply (Z : FVec Ideal S8x4096x3x1024 .f32) (A B : FVec Ideal S8x4096x512 .f32) (C : FVec Ideal S8x4096x1024 .f32) (D E : FVec Ideal S512x1024 .f32) (F : FVec Ideal S1024x1024 .f32) (b : Fin 8) (s : Fin 4096) (l : Fin 1024) :
    (mixed Z A B C D E F (ix3 b s l) : EReal) = Z (ix4 b s 0 l) * (∑ j : Fin 512, (A (ix3 b s j) : EReal) * D (ix2 j l)) + Z (ix4 b s 1 l) * (∑ j : Fin 512, (B (ix3 b s j) : EReal) * E (ix2 j l)) + Z (ix4 b s 2 l) * (∑ j : Fin 1024, (C (ix3 b s j) : EReal) * F (ix2 j l)) := by
  pointwise [mixed, gate0_apply, gate1_apply, gate2_apply]

theorem back_apply (X M : FVec Ideal S8x4096x1024 .f32) (V : FVec Ideal S1024x1024 .f32) (b : Fin 8) (s : Fin 4096) (e : Fin 1024) (R : Fin 32768) (hR : R.val = 4096 * b.val + s.val) :
    (back X M V (ix2 R e) : EReal) = X (ix3 b s e) + ∑ l : Fin 1024, (M (ix3 b s l) : EReal) * V (ix2 l e) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [back]
  simp only [e1, e2]

/-- One entry of the reference's result. -/
theorem merge_apply (X : FVec Ideal S8x4096x1024 .f32) (G : FVec Ideal S1024 .f32) (W : FVec Ideal S1024x8112 .f32) (A B : FVec Ideal S8x4096x512 .f32) (C : FVec Ideal S8x4096x1024 .f32) (D E : FVec Ideal S512x1024 .f32) (F V : FVec Ideal S1024x1024 .f32)
    (b : Fin 8) (s : Fin 4096) (e : Fin 1024) (R : Fin 32768) (hR : R.val = 4096 * b.val + s.val) :
    (merge X G W A B C D E F V (ix2 R e) : EReal) = entry (fun j => X (ix3 b s j)) (fun j => G (ix1 j)) (fun a j l => W (ix2 j (wcol a l))) (fun j => A (ix3 b s j)) (fun j l => D (ix2 j l)) (fun j => B (ix3 b s j)) (fun j l => E (ix2 j l))
      (fun j => C (ix3 b s j)) (fun j l => F (ix2 j l)) (fun l e => V (ix2 l e)) e := by
  unfold merge entry lane
  rw [back_apply _ _ _ b s e R hR]
  simp only [mixed_apply, gates_apply, norm_apply]
end Cert.Reference3Ideal.Merge
-- ==== Proof.Merge.lean ====
module
public import proofs.«01_k».proof.Proof.Gen.Kernel3Ideal.Value
public import proofs.«01_k».proof.Proof.MergeRef
public import Idealize.ShloMosaic.Lib.Pipeline.ValueKit
@[expose] public section
set_option maxRecDepth 16384
noncomputable section
namespace Cert.Kernel3Ideal.Merge
open Cert.Kernel3Ideal Cert.Kernel3Ideal.Gen Cert.Layer
open Idealize.ShloMosaic Idealize.ShloMosaic.TcCoe Idealize.SL.Sem

theorem pay2_apply (x : FVec Ideal S512x1024 .f32) (g : FVec Ideal S1x1024 .f32) (r : Fin 512) (l : Fin 1024) :
    (k0_pay2 (F := Ideal) x g (ix2 r l) : EReal) = nrm (fun j => x (ix2 r j)) (fun j => g (ix2 0 j)) l := by
  unfold nrm
  pointwise [k0_pay1, k0_pay2]

theorem pay3_apply (x : FVec Ideal S512x1024 .f32) (g : FVec Ideal S1x1024 .f32) (w : FVec Ideal S1024x1024 .bf16) (o : FVec Ideal S512x512 .bf16) (b : FVec Ideal S512x1024 .bf16) (r : Fin 512) (l : Fin 1024) :
    (k0_pay3 (F := Ideal) x g w o b (ix2 r l) : EReal) = gate (∑ j : Fin 1024, nrm (fun j => x (ix2 r j)) (fun j => g (ix2 0 j)) j * w (ix2 j l)) * ∑ j : Fin 512, (o (ix2 r j) : EReal) * b (ix2 j l) := by
  simp only [← pay2_apply]
  generalize hh : k0_pay2 (F := Ideal) x g = h
  unfold gate
  pointwise [k0_pay3, hh]
  simp only [zero_sub]

theorem pay4_apply (x : FVec Ideal S512x1024 .f32) (g : FVec Ideal S1x1024 .f32) (w : FVec Ideal S1024x1024 .bf16) (r : Fin 512) (l : Fin 1024) :
    (k0_pay4 (F := Ideal) x g w (ix2 r l) : EReal) = ∑ j : Fin 1024, nrm (fun j => x (ix2 r j)) (fun j => g (ix2 0 j)) j * w (ix2 j l) := by
  simp only [← pay2_apply]
  generalize hh : k0_pay2 (F := Ideal) x g = h
  pointwise [k0_pay4, hh]

theorem pay6_apply (x : FVec Ideal S512x1024 .f32) (h : FVec Ideal S512x1024 .bf16) (a z n : FVec Ideal S512x1024 .f32) (o : FVec Ideal S512x512 .bf16) (b : FVec Ideal S512x1024 .bf16) (w : FVec Ideal S1024x1024 .bf16)
    (o' : FVec Ideal S512x1024 .bf16) (b' v : FVec Ideal S1024x1024 .bf16) (hn : ∀ r l, (n (ix2 r l) : EReal) = 0) (r : Fin 512) (e : Fin 1024) :
    (k0_pay6 (F := Ideal) x h a z n o b w o' b' v (ix2 r e) : EReal) = x (ix2 r e) + ∑ l : Fin 1024, (a (ix2 r l) + gate (z (ix2 r l)) * (∑ j : Fin 512, (o (ix2 r j) : EReal) * b (ix2 j l)) + gate (∑ j : Fin 1024, (h (ix2 r j) : EReal) * w (ix2 j l)) * (∑ j : Fin 1024, (o' (ix2 r j) : EReal) * b' (ix2 j l))) * v (ix2 l e) := by
  unfold gate
  pointwise [k0_pay6, hn]
  simp only [zero_sub]

theorem pay5_apply (r : Fin 512) (l : Fin 1024) : (k0_pay5 (F := Ideal) (ix2 r l) : EReal) = 0 := by
  pointwise [k0_pay5]

/-- Column `l` of the gates' weights of branch `a`. -/
def col (a : Fin 3) (l : Fin 1024) : Fin 3072 := ⟨a.val * 1024 + l.val, by have := a.isLt; have := l.isLt; omega⟩

/-- The gates' weights of each branch. -/
def sl0 (x2 : FVec Ideal S1024x3072 .bf16) : FVec Ideal S1024x1024 .bf16 := View.ld (Val := Elt Ideal) (e' := .bf16) x2 r0_2
def sl1 (x2 : FVec Ideal S1024x3072 .bf16) : FVec Ideal S1024x1024 .bf16 := View.ld (Val := Elt Ideal) (e' := .bf16) x2 r0_4
def sl2 (x2 : FVec Ideal S1024x3072 .bf16) : FVec Ideal S1024x1024 .bf16 := View.ld (Val := Elt Ideal) (e' := .bf16) x2 r0_5
theorem sl0_apply (x2 : FVec Ideal S1024x3072 .bf16) (j l : Fin 1024) : (sl0 x2 (ix2 j l) : EReal) = x2 (ix2 j (col 0 l)) := by
  refine congrArg x2 ?_
  funext a
  fin_cases a <;> exact Fin.ext (by simp [r0_2, col, ix2]; try omega)
theorem sl1_apply (x2 : FVec Ideal S1024x3072 .bf16) (j l : Fin 1024) : (sl1 x2 (ix2 j l) : EReal) = x2 (ix2 j (col 1 l)) := by
  refine congrArg x2 ?_
  funext a
  fin_cases a <;> exact Fin.ext (by simp [r0_4, col, ix2]; try omega)
theorem sl2_apply (x2 : FVec Ideal S1024x3072 .bf16) (j l : Fin 1024) : (sl2 x2 (ix2 j l) : EReal) = x2 (ix2 j (col 2 l)) := by
  refine congrArg x2 ?_
  funext a
  fin_cases a <;> exact Fin.ext (by simp [r0_5, col, ix2]; try omega)

theorem out_apply (x0 : FVec Ideal S512x1024 .f32) (x1 : FVec Ideal S1x1024 .f32) (x2 : FVec Ideal S1024x3072 .bf16) (x3 x4 : FVec Ideal S512x512 .bf16) (x5 : FVec Ideal S512x1024 .bf16) (x6 x7 : FVec Ideal S512x1024 .bf16) (x8 x9 : FVec Ideal S1024x1024 .bf16) (r : Fin 512) (e : Fin 1024) :
    (out0_10 (F := Ideal) x0 x1 x2 x3 x4 x5 x6 x7 x8 x9 (ix2 r e) : EReal) = entry (fun j => x0 (ix2 r j)) (fun j => x1 (ix2 0 j)) (fun a j l => x2 (ix2 j (col a l))) (fun j => x3 (ix2 r j)) (fun j l => x6 (ix2 j l)) (fun j => x4 (ix2 r j)) (fun j l => x7 (ix2 j l))
      (fun j => x5 (ix2 r j)) (fun j l => x8 (ix2 j l)) (fun l e => x9 (ix2 l e)) e := by
  frame_out
  show (k0_pay6 (F := Ideal) (k0_pay1 x0) (k0_pay2 x0 x1) (k0_pay3 x0 x1 (sl0 x2) x3 x6) (k0_pay4 x0 x1 (sl1 x2)) k0_pay5 x4 x7 (sl2 x2) x5 x8 x9 (ix2 r e) : EReal) = _
  refine (pay6_apply _ _ _ _ _ _ _ _ _ _ _ pay5_apply r e).trans ?_
  have h1 : (k0_pay1 (F := Ideal) x0 (ix2 r e) : EReal) = x0 (ix2 r e) := by pointwise [k0_pay1]
  unfold entry lane
  simp only [pay3_apply, pay4_apply, pay2_apply, sl0_apply, sl1_apply, sl2_apply, h1]

variable (m : (ℓ : Loc nD τ sig) → Buf (Elt Ideal) ℓ) (c : Dev nD)

/-! ## The operands -/

/-- The stream as rows of one array, -/
def rows (X : FVec Ideal S8x4096x1024 .f32) : FVec Ideal S32768x1024 .f32 := shapeCast S32768x1024 X shapeCasts_S8x4096x1024_S32768x1024
/-- a narrow branch's rows, -/
def rows' (X : FVec Ideal S8x4096x512 .f32) : FVec Ideal S32768x512 .bf16 := truncf .bf16 (shapeCast S32768x512 X shapeCasts_S8x4096x512_S32768x512) bitsLt_bf16_f32
/-- the wide one's, -/
def rows'' (X : FVec Ideal S8x4096x1024 .f32) : FVec Ideal S32768x1024 .bf16 := truncf .bf16 (shapeCast S32768x1024 X shapeCasts_S8x4096x1024_S32768x1024) bitsLt_bf16_f32
/-- the gains as a row, -/
def row (G : FVec Ideal S1024 .f32) : FVec Ideal S1x1024 .f32 := shapeCast S1x1024 G shapeCasts_S1024_S1x1024
/-- and the gates' columns of the input weights. -/
def cols (W : FVec Ideal S1024x8112 .f32) : FVec Ideal S1024x3072 .bf16 := truncf .bf16 (extractStridedSlice S1024x3072 ![0, 5040] W slices_S1024x8112_S1024x3072_0_5040) bitsLt_bf16_f32

theorem rows_apply (X : FVec Ideal S8x4096x1024 .f32) (R : Fin 32768) (l : Fin 1024) (b : Fin 8) (s : Fin 4096) (hR : R.val = 4096 * b.val + s.val) :
    (rows X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows]
  simp only [e1, e2]
theorem rows'_apply (X : FVec Ideal S8x4096x512 .f32) (R : Fin 32768) (l : Fin 512) (b : Fin 8) (s : Fin 4096) (hR : R.val = 4096 * b.val + s.val) :
    (rows' X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows']
  simp only [e1, e2]
theorem rows''_apply (X : FVec Ideal S8x4096x1024 .f32) (R : Fin 32768) (l : Fin 1024) (b : Fin 8) (s : Fin 4096) (hR : R.val = 4096 * b.val + s.val) :
    (rows'' X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows'']
  simp only [e1, e2]
theorem row_apply (G : FVec Ideal S1024 .f32) (l : Fin 1024) : (row G (ix2 0 l) : EReal) = G (ix1 l) := by
  pointwise [row]
theorem cols_apply (W : FVec Ideal S1024x8112 .f32) (j : Fin 1024) (a : Fin 3) (l : Fin 1024) : (cols W (ix2 j (col a l)) : EReal) = W (ix2 j (Cert.Reference3Ideal.Merge.wcol a l)) := by
  unfold col Cert.Reference3Ideal.Merge.wcol
  pointwise [cols]

theorem V0 : V m c main_v0 = rows (m ((c : Thread nD τ).loc main_arg0)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V7 : V m c main_v7 = row (m ((c : Thread nD τ).loc main_arg1)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V9 : V m c main_v9 = cols (m ((c : Thread nD τ).loc main_arg2)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V2 : V m c main_v2 = rows' (m ((c : Thread nD τ).loc main_arg3)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V4 : V m c main_v4 = rows' (m ((c : Thread nD τ).loc main_arg4)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V6 : V m c main_v6 = rows'' (m ((c : Thread nD τ).loc main_arg5)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V10 (x) : (V m c main_v10 x : EReal) = m ((c : Thread nD τ).loc main_arg6) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V11 (x) : (V m c main_v11 x : EReal) = m ((c : Thread nD τ).loc main_arg7) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V12 (x) : (V m c main_v12 x : EReal) = m ((c : Thread nD τ).loc main_arg8) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V13 (x) : (V m c main_v13 x : EReal) = m ((c : Thread nD τ).loc main_arg9) x := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

/-- Where each window sits at a grid point. -/
theorem widx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧
    win0_6.index t = ![0, 0] ∧ win0_7.index t = ![0, 0] ∧ win0_8.index t = ![0, 0] ∧ win0_9.index t = ![0, 0] ∧ win0_10.index t = ![t.val, 0] :=
  (by decide +kernel : ∀ t : Fin grid0.N, _)

theorem tlt (t : Fin cfg0.N) : t.val < 64 := N_0 ▸ t.isLt

theorem blk0 (t : Fin cfg0.N) (r : Fin 512) (l : Fin 1024) (b : Fin 8) (s : Fin 4096) (h : 512 * t.val + r.val = 4096 * b.val + s.val) :
    (iblk m c 0 t (ix2 r l) : EReal) = m ((c : Thread nD τ).loc main_arg0) (ix3 b s l) := by
  have ht := tlt t
  have hr := r.isLt
  refine Eq.trans ?_ (rows_apply (m ((c : Thread nD τ).loc main_arg0)) ⟨512 * t.val + r.val, by omega⟩ l b s h)
  rw [← V0 m c]
  blk_ext [iblk, widx t]

theorem blk3 (t : Fin cfg0.N) (r : Fin 512) (l : Fin 512) (b : Fin 8) (s : Fin 4096) (h : 512 * t.val + r.val = 4096 * b.val + s.val) :
    (iblk m c 3 t (ix2 r l) : EReal) = m ((c : Thread nD τ).loc main_arg3) (ix3 b s l) := by
  have ht := tlt t
  have hr := r.isLt
  refine Eq.trans ?_ (rows'_apply (m ((c : Thread nD τ).loc main_arg3)) ⟨512 * t.val + r.val, by omega⟩ l b s h)
  rw [← V2 m c]
  blk_ext [iblk, widx t]

theorem blk4 (t : Fin cfg0.N) (r : Fin 512) (l : Fin 512) (b : Fin 8) (s : Fin 4096) (h : 512 * t.val + r.val = 4096 * b.val + s.val) :
    (iblk m c 4 t (ix2 r l) : EReal) = m ((c : Thread nD τ).loc main_arg4) (ix3 b s l) := by
  have ht := tlt t
  have hr := r.isLt
  refine Eq.trans ?_ (rows'_apply (m ((c : Thread nD τ).loc main_arg4)) ⟨512 * t.val + r.val, by omega⟩ l b s h)
  rw [← V4 m c]
  blk_ext [iblk, widx t]

theorem blk5 (t : Fin cfg0.N) (r : Fin 512) (l : Fin 1024) (b : Fin 8) (s : Fin 4096) (h : 512 * t.val + r.val = 4096 * b.val + s.val) :
    (iblk m c 5 t (ix2 r l) : EReal) = m ((c : Thread nD τ).loc main_arg5) (ix3 b s l) := by
  have ht := tlt t
  have hr := r.isLt
  refine Eq.trans ?_ (rows''_apply (m ((c : Thread nD τ).loc main_arg5)) ⟨512 * t.val + r.val, by omega⟩ l b s h)
  rw [← V6 m c]
  blk_ext [iblk, widx t]

theorem blk1 (t : Fin cfg0.N) (l : Fin 1024) : (iblk m c 1 t (ix2 0 l) : EReal) = m ((c : Thread nD τ).loc main_arg1) (ix1 l) := by
  refine Eq.trans ?_ (row_apply (m ((c : Thread nD τ).loc main_arg1)) l)
  rw [← V7 m c]
  blk_ext [iblk, widx t]
theorem blk2 (t : Fin cfg0.N) (j : Fin 1024) (a : Fin 3) (l : Fin 1024) : (iblk m c 2 t (ix2 j (col a l)) : EReal) = m ((c : Thread nD τ).loc main_arg2) (ix2 j (Cert.Reference3Ideal.Merge.wcol a l)) := by
  refine Eq.trans ?_ (cols_apply (m ((c : Thread nD τ).loc main_arg2)) j a l)
  rw [← V9 m c]
  blk_ext [iblk, widx t]
theorem blk6 (t : Fin cfg0.N) (j : Fin 512) (l : Fin 1024) : (iblk m c 6 t (ix2 j l) : EReal) = m ((c : Thread nD τ).loc main_arg6) (ix2 j l) := by
  refine Eq.trans ?_ (V10 m c (ix2 j l))
  blk_ext [iblk, widx t]
theorem blk7 (t : Fin cfg0.N) (j : Fin 512) (l : Fin 1024) : (iblk m c 7 t (ix2 j l) : EReal) = m ((c : Thread nD τ).loc main_arg7) (ix2 j l) := by
  refine Eq.trans ?_ (V11 m c (ix2 j l))
  blk_ext [iblk, widx t]
theorem blk8 (t : Fin cfg0.N) (j : Fin 1024) (l : Fin 1024) : (iblk m c 8 t (ix2 j l) : EReal) = m ((c : Thread nD τ).loc main_arg8) (ix2 j l) := by
  refine Eq.trans ?_ (V12 m c (ix2 j l))
  blk_ext [iblk, widx t]
theorem blk9 (t : Fin cfg0.N) (j : Fin 1024) (l : Fin 1024) : (iblk m c 9 t (ix2 j l) : EReal) = m ((c : Thread nD τ).loc main_arg9) (ix2 j l) := by
  refine Eq.trans ?_ (V13 m c (ix2 j l))
  blk_ext [iblk, widx t]

/-- What the kernel leaves in its result is the reference's merge. -/
theorem final : (dats m 0 c).arrAt 10 cfg0.N = Cert.Reference3Ideal.Merge.merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  obtain ⟨r, e, rfl⟩ : ∃ (r : Fin 512) (e : Fin 1024), y = ix2 r e := ⟨y 0, y 1, by funext a; fin_cases a <;> rfl⟩
  have ht := tlt t
  have hr := r.isLt
  rw [after0_10]
  have hR : 512 * t.val + r.val = 4096 * ((512 * t.val + r.val) / 4096) + (512 * t.val + r.val) % 4096 := by omega
  have hs := Cert.Reference3Ideal.Merge.merge_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ⟨(512 * t.val + r.val) / 4096, by omega⟩ ⟨(512 * t.val + r.val) % 4096, by omega⟩ e ⟨512 * t.val + r.val, by omega⟩ hR
  refine (out_apply _ _ _ _ _ _ _ _ _ _ r e).trans (Eq.trans ?_ (hs.symm.trans ?_))
  · exact entry_congr (fun j => blk0 m c t r j _ _ hR) (fun j => blk1 m c t j) (fun a j l => blk2 m c t j a l) (fun j => blk3 m c t r j _ _ hR) (fun j l => blk6 m c t j l) (fun j => blk4 m c t r j _ _ hR) (fun j l => blk7 m c t j l)
      (fun j => blk5 m c t r j _ _ hR) (fun j l => blk8 m c t j l) (fun l e => blk9 m c t l e)
  · generalize Cert.Reference3Ideal.Merge.merge _ _ _ _ _ _ _ _ _ _ = X
    blk_ext [widx t]
end Cert.Kernel3Ideal.Merge
-- ==== Proof.SsmRef.lean ====
module
public import proofs.«01_k».proof.Proof.Gen.Reference4Ideal.Run
public import proofs.«01_k».proof.Proof.MergeRef
public import Idealize.ShloMosaic.Lib.Pointwise
@[expose] public section
set_option maxRecDepth 16384
noncomputable section

namespace Cert.Layer
open Idealize.ShloMosaic
/-- One entry of the projection of a normed row: the row `x`, the gains, and the weights of the column. -/
def proj (x g w : Fin 1024 → EReal) : EReal := ∑ j : Fin 1024, nrm x g j * w j

/-- The entry of a sequence `d` tokens before token `s`, zero before the first token. -/
def past (u : Fin 4096 → EReal) (s : Fin 4096) (d : ℕ) : EReal := if h : d ≤ s.val then u ⟨s.val - d, Nat.lt_of_le_of_lt (Nat.sub_le _ _) s.isLt⟩ else 0

/-- The convolution of four taps: the entries `p d`, `d` tokens back, the weights and the bias. -/
def conv (p : ℕ → EReal) (w : Fin 4 → EReal) (b : EReal) : EReal := b + p 3 * w 0 + p 2 * w 1 + p 1 * w 2 + p 0 * w 3

/-- An entry after the convolution and its logistic unit. -/
def act (p : ℕ → EReal) (w : Fin 4 → EReal) (b : EReal) : EReal := conv p w b * gate (conv p w b)

/-- The logarithm of one plus the exponential, kept from overflow. -/
def soft (z : EReal) : EReal := max z 0 + Ideal.log (1 + Ideal.exp (-(max z (-z))))
end Cert.Layer

namespace Cert.Reference4Ideal.Prep
open Cert.Reference4Ideal Cert.Reference4Ideal.Gen Cert.Layer
open Idealize.ShloMosaic Idealize.ShloMosaic.TcCoe Idealize.SL.Sem

/-! # The reference's projection, convolution and step sizes, read at an index -/

/-- The stream after its norm, -/
def norm (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))
/-- its projection onto the mixer's columns, -/
def prj (H : FVec Ideal S8x4096x1024 .f32) (W : FVec Ideal S1024x8112 .f32) : FVec Ideal S8x4096x2576 .f32 :=
  extractStridedSlice S8x4096x2576 ![0, 0, 2464] (Host.dotGeneral dot_S8x4096x1024_S1024x8112_S8x4096x8112_2_0_01_1_n_n none H W) slices_S8x4096x8112_S8x4096x2576_0_0_2464
/-- the columns before the convolution, three rows of zeros ahead of each sequence, -/
def ahead (P : FVec Ideal S8x4096x2576 .f32) : FVec Ideal S8x4099x1536 .f32 :=
  pad S8x4099x1536 ![0, 3, 0] ![0, 0, 0] ![0, 0, 0] (extractStridedSlice S8x4096x1536 ![0, 0, 1024] P slices_S8x4096x2576_S8x4096x1536_0_0_1024) (sitofp .f32 (constantI S_ 32 0#32)) pads_S8x4096x1536_S8x4099x1536_000_300_000 h_S_
/-- the four products of the convolution, -/
def tap0 (A : FVec Ideal S8x4099x1536 .f32) (C : FVec Ideal S4x1536 .f32) : FVec Ideal S8x4096x1536 .f32 :=
  mulf (extractStridedSlice S8x4096x1536 ![0, 0, 0] A slices_S8x4099x1536_S8x4096x1536_0_0_0) (broadcastInDim S8x4096x1536 ![0, 1, 2] bcast_S1x1x1536_S8x4096x1536_0_1_2 (broadcastInDim S1x1x1536 ![2] bcast_S1536_S1x1x1536_2 (shapeCast _ (extractStridedSlice S1x1536 ![0, 0] C slices_S4x1536_S1x1536_0_0) shapeCasts_S1x1536_S1536)))
def tap1 (A : FVec Ideal S8x4099x1536 .f32) (C : FVec Ideal S4x1536 .f32) : FVec Ideal S8x4096x1536 .f32 :=
  mulf (extractStridedSlice S8x4096x1536 ![0, 1, 0] A slices_S8x4099x1536_S8x4096x1536_0_1_0) (broadcastInDim S8x4096x1536 ![0, 1, 2] bcast_S1x1x1536_S8x4096x1536_0_1_2 (broadcastInDim S1x1x1536 ![2] bcast_S1536_S1x1x1536_2 (shapeCast _ (extractStridedSlice S1x1536 ![1, 0] C slices_S4x1536_S1x1536_1_0) shapeCasts_S1x1536_S1536)))
def tap2 (A : FVec Ideal S8x4099x1536 .f32) (C : FVec Ideal S4x1536 .f32) : FVec Ideal S8x4096x1536 .f32 :=
  mulf (extractStridedSlice S8x4096x1536 ![0, 2, 0] A slices_S8x4099x1536_S8x4096x1536_0_2_0) (broadcastInDim S8x4096x1536 ![0, 1, 2] bcast_S1x1x1536_S8x4096x1536_0_1_2 (broadcastInDim S1x1x1536 ![2] bcast_S1536_S1x1x1536_2 (shapeCast _ (extractStridedSlice S1x1536 ![2, 0] C slices_S4x1536_S1x1536_2_0) shapeCasts_S1x1536_S1536)))
def tap3 (A : FVec Ideal S8x4099x1536 .f32) (C : FVec Ideal S4x1536 .f32) : FVec Ideal S8x4096x1536 .f32 :=
  mulf (extractStridedSlice S8x4096x1536 ![0, 3, 0] A slices_S8x4099x1536_S8x4096x1536_0_3_0) (broadcastInDim S8x4096x1536 ![0, 1, 2] bcast_S1x1x1536_S8x4096x1536_0_1_2 (broadcastInDim S1x1x1536 ![2] bcast_S1536_S1x1x1536_2 (shapeCast _ (extractStridedSlice S1x1536 ![3, 0] C slices_S4x1536_S1x1536_3_0) shapeCasts_S1x1536_S1536)))
/-- the convolution, -/
def cnv (A : FVec Ideal S8x4099x1536 .f32) (C : FVec Ideal S4x1536 .f32) (B : FVec Ideal S1536 .f32) : FVec Ideal S8x4096x1536 .f32 :=
  addf (addf (addf (addf (broadcastInDim S8x4096x1536 ![0, 1, 2] bcast_S1x1x1536_S8x4096x1536_0_1_2 (broadcastInDim S1x1x1536 ![2] bcast_S1536_S1x1x1536_2 B)) (tap0 A C)) (tap1 A C)) (tap2 A C)) (tap3 A C)
/-- its logistic unit, -/
def unit (Z : FVec Ideal S8x4096x1536 .f32) : FVec Ideal S8x4096x1536 .f32 :=
  mulf Z (Host.divf (broadcastInDim S8x4096x1536 ![] bcast_S_S8x4096x1536 (constant S_ .f32 0x3F800000#32)) (addf (broadcastInDim S8x4096x1536 ![] bcast_S_S8x4096x1536 (constant S_ .f32 0x3F800000#32)) (Host.exp (Host.negf Z))))
/-- all the columns after it, -/
def mid (X : FVec Ideal S8x4096x1024 .f32) (G : FVec Ideal S1024 .f32) (W : FVec Ideal S1024x8112 .f32) (C : FVec Ideal S4x1536 .f32) (B : FVec Ideal S1536 .f32) : FVec Ideal S8x4096x1536 .f32 :=
  unit (cnv (ahead (prj (norm X G) W)) C B)
/-- and the step sizes before their softplus, zero past the sixteen heads. -/
def step (P : FVec Ideal S8x4096x2576 .f32) (D : FVec Ideal S16 .f32) : FVec Ideal S8x4096x128 .f32 :=
  pad S8x4096x128 ![0, 0, 0] ![0, 0, 112] ![0, 0, 0] (addf (extractStridedSlice S8x4096x16 ![0, 0, 2560] P slices_S8x4096x2576_S8x4096x16_0_0_2560) (broadcastInDim S8x4096x16 ![0, 1, 2] bcast_S1x1x16_S8x4096x16_0_1_2 (broadcastInDim S1x1x16 ![2] bcast_S16_S1x1x16_2 D))) (sitofp .f32 (constantI S_ 32 0#32)) pads_S8x4096x16_S8x4096x128_000_000_01120 h_S_
/-- The softplus, as the host writes it. -/
def plus (Z : FVec Ideal S8x4096x128 .f32) : FVec Ideal S8x4096x128 .f32 :=
  select (cmpf .une (subf Z (broadcastInDim S8x4096x128 ![] bcast_S_S8x4096x128 (constant S_ .f32 0x00000000#32))) (subf Z (broadcastInDim S8x4096x128 ![] bcast_S_S8x4096x128 (constant S_ .f32 0x00000000#32)))) (addf Z (broadcastInDim S8x4096x128 ![] bcast_S_S8x4096x128 (constant S_ .f32 0x00000000#32)))
    (addf (maximumf Z (broadcastInDim S8x4096x128 ![] bcast_S_S8x4096x128 (constant S_ .f32 0x00000000#32))) (Host.log1p (Host.exp (Host.negf (Host.absf (subf Z (broadcastInDim S8x4096x128 ![] bcast_S_S8x4096x128 (constant S_ .f32 0x00000000#32))))))))

/-- The five results: the gate's columns, -/
def resZ (X : FVec Ideal S8x4096x1024 .f32) (G : FVec Ideal S1024 .f32) (W : FVec Ideal S1024x8112 .f32) : FVec Ideal S32768x1024 .f32 :=
  shapeCast S32768x1024 (extractStridedSlice S8x4096x1024 ![0, 0, 0] (prj (norm X G) W) slices_S8x4096x2576_S8x4096x1024_0_0_0) shapeCasts_S8x4096x1024_S32768x1024
/-- the inputs of the heads, -/
def resX (M : FVec Ideal S8x4096x1536 .f32) : FVec Ideal S32768x1024 .f32 :=
  shapeCast S32768x1024 (extractStridedSlice S8x4096x1024 ![0, 0, 0] M slices_S8x4096x1536_S8x4096x1024_0_0_0) shapeCasts_S8x4096x1024_S32768x1024
/-- the two projections of the state, -/
def resB (M : FVec Ideal S8x4096x1536 .f32) : FVec Ideal S32768x256 .bf16 :=
  truncf .bf16 (shapeCast S32768x256 (extractStridedSlice S8x4096x256 ![0, 0, 1024] M slices_S8x4096x1536_S8x4096x256_0_0_1024) shapeCasts_S8x4096x256_S32768x256) bitsLt_bf16_f32
def resC (M : FVec Ideal S8x4096x1536 .f32) : FVec Ideal S32768x256 .bf16 :=
  truncf .bf16 (shapeCast S32768x256 (extractStridedSlice S8x4096x256 ![0, 0, 1280] M slices_S8x4096x1536_S8x4096x256_0_0_1280) shapeCasts_S8x4096x256_S32768x256) bitsLt_bf16_f32
/-- and the step sizes. -/
def resD (Z : FVec Ideal S8x4096x128 .f32) : FVec Ideal S32768x128 .f32 :=
  shapeCast S32768x128 (plus Z) shapeCasts_S8x4096x128_S32768x128

section
variable (m : (ℓ : Loc nD τ sig) → Buf (Elt Ideal) ℓ) (c : Dev nD)
theorem resX_eq : Value.res_main_v59 (F := Ideal) m c = resX (mid (m ((c : Thread nD τ).loc main_arg0)) (m ((c : Thread nD τ).loc main_arg1)) (m ((c : Thread nD τ).loc main_arg2)) (m ((c : Thread nD τ).loc main_arg3)) (m ((c : Thread nD τ).loc main_arg4))) := rfl
theorem resB_eq : Value.res_main_v61 (F := Ideal) m c = resB (mid (m ((c : Thread nD τ).loc main_arg0)) (m ((c : Thread nD τ).loc main_arg1)) (m ((c : Thread nD τ).loc main_arg2)) (m ((c : Thread nD τ).loc main_arg3)) (m ((c : Thread nD τ).loc main_arg4))) := rfl
theorem resC_eq : Value.res_main_v63 (F := Ideal) m c = resC (mid (m ((c : Thread nD τ).loc main_arg0)) (m ((c : Thread nD τ).loc main_arg1)) (m ((c : Thread nD τ).loc main_arg2)) (m ((c : Thread nD τ).loc main_arg3)) (m ((c : Thread nD τ).loc main_arg4))) := rfl
theorem resD_eq : Value.res_main_v64 (F := Ideal) m c = resD (step (prj (norm (m ((c : Thread nD τ).loc main_arg0)) (m ((c : Thread nD τ).loc main_arg1))) (m ((c : Thread nD τ).loc main_arg2))) (m ((c : Thread nD τ).loc main_arg5))) := rfl
end

/-- Column `k` of the mixer's part of the input weights. -/
def wcol (k : Fin 2576) : Fin 8112 := ⟨2464 + k.val, by have := k.isLt; omega⟩
/-- The columns of the gate, of the convolution and of the step sizes. -/
def zc (l : Fin 1024) : Fin 2576 := ⟨l.val, by have := l.isLt; omega⟩
def xc (l : Fin 1536) : Fin 2576 := ⟨1024 + l.val, by have := l.isLt; omega⟩
def dc (l : Fin 16) : Fin 2576 := ⟨2560 + l.val, by have := l.isLt; omega⟩

theorem norm_apply (X : FVec Ideal S8x4096x1024 .f32) (G : FVec Ideal S1024 .f32) (b : Fin 8) (s : Fin 4096) (l : Fin 1024) :
    (norm X G (ix3 b s l) : EReal) = nrm (fun j => X (ix3 b s j)) (fun j => G (ix1 j)) l := by
  unfold nrm
  pointwise [norm]

theorem prj_apply (H : FVec Ideal S8x4096x1024 .f32) (W : FVec Ideal S1024x8112 .f32) (b : Fin 8) (s : Fin 4096) (k : Fin 2576) :
    (prj H W (ix3 b s k) : EReal) = ∑ j : Fin 1024, (H (ix3 b s j) : EReal) * W (ix2 j (wcol k)) := by
  unfold wcol
  pointwise [prj]

theorem prj_norm (X : FVec Ideal S8x4096x1024 .f32) (G : FVec Ideal S1024 .f32) (W : FVec Ideal S1024x8112 .f32) (b : Fin 8) (s : Fin 4096) (k : Fin 2576) :
    (prj (norm X G) W (ix3 b s k) : EReal) = proj (fun j => X (ix3 b s j)) (fun j => G (ix1 j)) (fun j => W (ix2 j (wcol k))) := by
  rw [prj_apply]
  simp only [norm_apply, proj]

/-- The host's zero, an integer made real. -/
theorem zero_cast : (FloatOps.sitofp (F := Ideal) FTy.f32 (0#32) : EReal) = 0 := by
  show (((0#32 : BitVec 32).toInt : ℝ) : EReal) = 0
  simp

theorem tap0_apply (P : FVec Ideal S8x4096x2576 .f32) (C : FVec Ideal S4x1536 .f32) (b : Fin 8) (s : Fin 4096) (l : Fin 1536) :
    (tap0 (ahead P) C (ix3 b s l) : EReal) = past (fun s => P (ix3 b s (xc l))) s 3 * C (ix2 0 l) := by
  have hs := s.isLt
  unfold past xc
  pointwise [tap0, ahead]
  refine congrArg (· * _) ?_
  by_cases h : 3 ≤ s.val
  · rw [dif_pos (by omega), dif_pos h]
    try exact congrArg P (congrArg (ix3 b · _) (Fin.ext (by simp only []; omega)))
  · rw [dif_neg (by omega), dif_neg h, zero_cast]

theorem tap1_apply (P : FVec Ideal S8x4096x2576 .f32) (C : FVec Ideal S4x1536 .f32) (b : Fin 8) (s : Fin 4096) (l : Fin 1536) :
    (tap1 (ahead P) C (ix3 b s l) : EReal) = past (fun s => P (ix3 b s (xc l))) s 2 * C (ix2 1 l) := by
  have hs := s.isLt
  unfold past xc
  pointwise [tap1, ahead]
  refine congrArg (· * _) ?_
  by_cases h : 2 ≤ s.val
  · rw [dif_pos (by omega), dif_pos h]
    try exact congrArg P (congrArg (ix3 b · _) (Fin.ext (by simp only []; omega)))
  · rw [dif_neg (by omega), dif_neg h, zero_cast]

theorem tap2_apply (P : FVec Ideal S8x4096x2576 .f32) (C : FVec Ideal S4x1536 .f32) (b : Fin 8) (s : Fin 4096) (l : Fin 1536) :
    (tap2 (ahead P) C (ix3 b s l) : EReal) = past (fun s => P (ix3 b s (xc l))) s 1 * C (ix2 2 l) := by
  have hs := s.isLt
  unfold past xc
  pointwise [tap2, ahead]
  refine congrArg (· * _) ?_
  by_cases h : 1 ≤ s.val
  · rw [dif_pos (by omega), dif_pos h]
    try exact congrArg P (congrArg (ix3 b · _) (Fin.ext (by simp only []; omega)))
  · rw [dif_neg (by omega), dif_neg h, zero_cast]

theorem tap3_apply (P : FVec Ideal S8x4096x2576 .f32) (C : FVec Ideal S4x1536 .f32) (b : Fin 8) (s : Fin 4096) (l : Fin 1536) :
    (tap3 (ahead P) C (ix3 b s l) : EReal) = past (fun s => P (ix3 b s (xc l))) s 0 * C (ix2 3 l) := by
  have hs := s.isLt
  unfold past xc
  pointwise [tap3, ahead]

theorem step_apply (P : FVec Ideal S8x4096x2576 .f32) (D : FVec Ideal S16 .f32) (b : Fin 8) (s : Fin 4096) (l : Fin 128) :
    (step P D (ix3 b s l) : EReal) = if h : l.val < 16 then P (ix3 b s (dc ⟨l.val, h⟩)) + D (ix1 ⟨l.val, h⟩) else 0 := by
  unfold dc
  pointwise [step]
  rw [zero_cast]

theorem plus_apply (Z : FVec Ideal S8x4096x128 .f32) (b : Fin 8) (s : Fin 4096) (l : Fin 128) :
    (plus Z (ix3 b s l) : EReal) = soft (Z (ix3 b s l)) := by
  unfold soft
  pointwise [plus]
  rw [if_neg (fun h => h rfl)]
  rfl

theorem unit_apply (Z : FVec Ideal S8x4096x1536 .f32) (b : Fin 8) (s : Fin 4096) (l : Fin 1536) :
    (unit Z (ix3 b s l) : EReal) = Z (ix3 b s l) * gate (Z (ix3 b s l)) := by
  unfold gate
  pointwise [unit]

/-- One entry after the convolution and its unit. -/
theorem mid_apply (X : FVec Ideal S8x4096x1024 .f32) (G : FVec Ideal S1024 .f32) (W : FVec Ideal S1024x8112 .f32) (C : FVec Ideal S4x1536 .f32) (B : FVec Ideal S1536 .f32) (b : Fin 8) (s : Fin 4096) (l : Fin 1536) :
    (mid X G W C B (ix3 b s l) : EReal) = act (past (fun s => proj (fun j => X (ix3 b s j)) (fun j => G (ix1 j)) (fun j => W (ix2 j (wcol (xc l))))) s) (fun a => C (ix2 a l)) (B (ix1 l)) := by
  have h : ∀ P : FVec Ideal S8x4096x2576 .f32, (cnv (ahead P) C B (ix3 b s l) : EReal) = conv (past (fun s => P (ix3 b s (xc l))) s) (fun a => C (ix2 a l)) (B (ix1 l)) := fun P => by
    unfold conv
    rw [← tap0_apply, ← tap1_apply, ← tap2_apply, ← tap3_apply]
    generalize ahead P = A
    pointwise [cnv]
  unfold mid act
  rw [unit_apply, h]
  simp only [prj_norm]

section
variable (R : Fin 32768) (b : Fin 8) (s : Fin 4096) (hR : R.val = 4096 * b.val + s.val)
include hR
theorem resZ_apply (X : FVec Ideal S8x4096x1024 .f32) (G : FVec Ideal S1024 .f32) (W : FVec Ideal S1024x8112 .f32) (l : Fin 1024) :
    (resZ X G W (ix2 R l) : EReal) = proj (fun j => X (ix3 b s j)) (fun j => G (ix1 j)) (fun j => W (ix2 j (wcol (zc l)))) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  refine Eq.trans ?_ (prj_norm X G W b s (zc l))
  unfold resZ
  generalize prj (norm X G) W = P
  unfold zc
  pointwise []
  simp only [e1, e2]

theorem resX_apply (M : FVec Ideal S8x4096x1536 .f32) (l : Fin 1024) : (resX M (ix2 R l) : EReal) = M (ix3 b s ⟨l.val, by have := l.isLt; omega⟩) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [resX]
  simp only [e1, e2]

theorem resB_apply (M : FVec Ideal S8x4096x1536 .f32) (l : Fin 256) : (resB M (ix2 R l) : EReal) = M (ix3 b s ⟨1024 + l.val, by have := l.isLt; omega⟩) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [resB]
  simp only [e1, e2]

theorem resC_apply (M : FVec Ideal S8x4096x1536 .f32) (l : Fin 256) : (resC M (ix2 R l) : EReal) = M (ix3 b s ⟨1280 + l.val, by have := l.isLt; omega⟩) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [resC]
  simp only [e1, e2]

theorem resD_apply (Z : FVec Ideal S8x4096x128 .f32) (l : Fin 128) : (resD Z (ix2 R l) : EReal) = soft (Z (ix3 b s l)) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  refine Eq.trans ?_ (plus_apply Z b s l)
  unfold resD
  generalize plus Z = P
  pointwise []
  simp only [e1, e2]
end
end Cert.Reference4Ideal.Prep
-- ==== Proof.SsmKernel.lean ====
module
public import proofs.«01_k».proof.Proof.Gen.Kernel4Ideal.Value
public import proofs.«01_k».proof.Proof.SsmRef
public import Idealize.ShloMosaic.Lib.Pipeline.ValueKit
public import Idealize.ShloMosaic.Lib.Pipeline.ReadBack
@[expose] public section
set_option maxRecDepth 16384
noncomputable section
namespace Cert.Kernel4Ideal.Prep
open Cert.Kernel4Ideal Cert.Kernel4Ideal.Gen Cert.Layer
open Idealize.ShloMosaic Idealize.ShloMosaic.TcCoe Idealize.SL.Sem

/-! # The kernel's step, over a tile's blocks and the rows carried from the tile before -/

/-- The entry `d` rows before row `r` of a tile, from the carried rows when it lies before the tile. -/
def tap (u : Fin 512 → EReal) (p : Fin 8 → EReal) (r : Fin 512) (d : ℕ) : EReal :=
  if d ≤ r.val then u ⟨r.val - d, Nat.lt_of_le_of_lt (Nat.sub_le _ _) r.isLt⟩ else p ⟨(r.val + 8 - d) % 8, Nat.mod_lt _ (by omega)⟩

/-- The row numbers that the body compares. -/
abbrev rowno : IVec S8x512 32 := iota .tc S8x512 32 [0] iota_S8x512_d0_w32

theorem pick1 (n : ℕ) (h : n < 8) (a b : EReal) : Scalar.select (α := EReal) (IntOp.cmpi CmpIPredicate.slt (BitVec.ofNat 32 n) 1#32) a b = if n < 1 then a else b := by
  interval_cases n <;> rfl
/-- The rows of a group of columns one row on, over the carried ones. -/
def sh1 (U : FVec Ideal S512x512 .f32) (P : FVec Ideal S8x512 .f32) : FVec Ideal S512x512 .f32 :=
  concatenate S512x512 0 [⟨S8x512, select (cmpi .slt rowno (broadcast S8x512 1#32)) (dynamicRotate 0 1#32 none P rotates_S8x512_d0) (extractStridedSlice S8x512 ![0, 0] (dynamicRotate 0 1#32 none U rotates_S512x512_d0) slices_S512x512_o0_0_S8x512)⟩,
    ⟨S504x512, extractStridedSlice S504x512 ![8, 0] (dynamicRotate 0 1#32 none U rotates_S512x512_d0) slices_S512x512_o8_0_S504x512⟩] concatenates_S8x512_S504x512_S512x512_d0
theorem sh1_apply (U : FVec Ideal S512x512 .f32) (P : FVec Ideal S8x512 .f32) (r l : Fin 512) :
    (sh1 U P (ix2 r l) : EReal) = tap (fun r => U (ix2 r l)) (fun a => P (ix2 a l)) r 1 := by
  have hr := r.isLt
  unfold tap
  pointwise [sh1]
  by_cases h8 : r.val < 8
  · refine (dif_pos h8).trans ((pick1 r.val h8 _ _).trans ?_)
    by_cases h : 1 ≤ r.val
    · rw [if_neg (by omega), if_pos h]
      exact congrArg (fun a => U (ix2 a l)) (Fin.ext (by show (r.val + 512 - 1) % 512 = r.val - 1; omega))
    · rw [if_pos (by omega), if_neg h]
  · refine (dif_neg h8).trans (Eq.trans ?_ (if_pos (by omega)).symm)
    exact congrArg (fun a => U (ix2 a l)) (Fin.ext (by show (8 + (r.val - 8) + 512 - 1) % 512 = r.val - 1; omega))

theorem pick2 (n : ℕ) (h : n < 8) (a b : EReal) : Scalar.select (α := EReal) (IntOp.cmpi CmpIPredicate.slt (BitVec.ofNat 32 n) 2#32) a b = if n < 2 then a else b := by
  interval_cases n <;> rfl
/-- The rows of a group of columns two rows on, over the carried ones. -/
def sh2 (U : FVec Ideal S512x512 .f32) (P : FVec Ideal S8x512 .f32) : FVec Ideal S512x512 .f32 :=
  concatenate S512x512 0 [⟨S8x512, select (cmpi .slt rowno (broadcast S8x512 2#32)) (dynamicRotate 0 2#32 none P rotates_S8x512_d0) (extractStridedSlice S8x512 ![0, 0] (dynamicRotate 0 2#32 none U rotates_S512x512_d0) slices_S512x512_o0_0_S8x512)⟩,
    ⟨S504x512, extractStridedSlice S504x512 ![8, 0] (dynamicRotate 0 2#32 none U rotates_S512x512_d0) slices_S512x512_o8_0_S504x512⟩] concatenates_S8x512_S504x512_S512x512_d0
theorem sh2_apply (U : FVec Ideal S512x512 .f32) (P : FVec Ideal S8x512 .f32) (r l : Fin 512) :
    (sh2 U P (ix2 r l) : EReal) = tap (fun r => U (ix2 r l)) (fun a => P (ix2 a l)) r 2 := by
  have hr := r.isLt
  unfold tap
  pointwise [sh2]
  by_cases h8 : r.val < 8
  · refine (dif_pos h8).trans ((pick2 r.val h8 _ _).trans ?_)
    by_cases h : 2 ≤ r.val
    · rw [if_neg (by omega), if_pos h]
      exact congrArg (fun a => U (ix2 a l)) (Fin.ext (by show (r.val + 512 - 2) % 512 = r.val - 2; omega))
    · rw [if_pos (by omega), if_neg h]
  · refine (dif_neg h8).trans (Eq.trans ?_ (if_pos (by omega)).symm)
    exact congrArg (fun a => U (ix2 a l)) (Fin.ext (by show (8 + (r.val - 8) + 512 - 2) % 512 = r.val - 2; omega))

theorem pick3 (n : ℕ) (h : n < 8) (a b : EReal) : Scalar.select (α := EReal) (IntOp.cmpi CmpIPredicate.slt (BitVec.ofNat 32 n) 3#32) a b = if n < 3 then a else b := by
  interval_cases n <;> rfl
/-- The rows of a group of columns three rows on, over the carried ones. -/
def sh3 (U : FVec Ideal S512x512 .f32) (P : FVec Ideal S8x512 .f32) : FVec Ideal S512x512 .f32 :=
  concatenate S512x512 0 [⟨S8x512, select (cmpi .slt rowno (broadcast S8x512 3#32)) (dynamicRotate 0 3#32 none P rotates_S8x512_d0) (extractStridedSlice S8x512 ![0, 0] (dynamicRotate 0 3#32 none U rotates_S512x512_d0) slices_S512x512_o0_0_S8x512)⟩,
    ⟨S504x512, extractStridedSlice S504x512 ![8, 0] (dynamicRotate 0 3#32 none U rotates_S512x512_d0) slices_S512x512_o8_0_S504x512⟩] concatenates_S8x512_S504x512_S512x512_d0
theorem sh3_apply (U : FVec Ideal S512x512 .f32) (P : FVec Ideal S8x512 .f32) (r l : Fin 512) :
    (sh3 U P (ix2 r l) : EReal) = tap (fun r => U (ix2 r l)) (fun a => P (ix2 a l)) r 3 := by
  have hr := r.isLt
  unfold tap
  pointwise [sh3]
  by_cases h8 : r.val < 8
  · refine (dif_pos h8).trans ((pick3 r.val h8 _ _).trans ?_)
    by_cases h : 3 ≤ r.val
    · rw [if_neg (by omega), if_pos h]
      exact congrArg (fun a => U (ix2 a l)) (Fin.ext (by show (r.val + 512 - 3) % 512 = r.val - 3; omega))
    · rw [if_pos (by omega), if_neg h]
  · refine (dif_neg h8).trans (Eq.trans ?_ (if_pos (by omega)).symm)
    exact congrArg (fun a => U (ix2 a l)) (Fin.ext (by show (8 + (r.val - 8) + 512 - 3) % 512 = r.val - 3; omega))

/-- One entry of a group of columns after the convolution, as the body sums it. -/
def sum (U : FVec Ideal S512x512 .f32) (P : FVec Ideal S8x512 .f32) (w3 b w2 w1 w0 : FVec Ideal S1x512 .f32) : FVec Ideal S512x512 .f32 :=
  addf (addf (addf (addf (mulf U (broadcastTo S512x512 w3 broadcasts_S1x512_S512x512)) (broadcastTo S512x512 (shapeCast S1x512 b shapeCasts_S1x512_S1x512) broadcasts_S1x512_S512x512)) (mulf (sh1 U P) (broadcastTo S512x512 w2 broadcasts_S1x512_S512x512))) (mulf (sh2 U P) (broadcastTo S512x512 w1 broadcasts_S1x512_S512x512))) (mulf (sh3 U P) (broadcastTo S512x512 w0 broadcasts_S1x512_S512x512))
theorem sum_apply (U : FVec Ideal S512x512 .f32) (P : FVec Ideal S8x512 .f32) (w3 b w2 w1 w0 : FVec Ideal S1x512 .f32) (r l : Fin 512) :
    (sum U P w3 b w2 w1 w0 (ix2 r l) : EReal) = conv (tap (fun r => U (ix2 r l)) (fun a => P (ix2 a l)) r) ![w0 (ix2 0 l), w1 (ix2 0 l), w2 (ix2 0 l), w3 (ix2 0 l)] (b (ix2 0 l)) := by
  have h0 : tap (fun r => (U (ix2 r l) : EReal)) (fun a => P (ix2 a l)) r 0 = U (ix2 r l) := by
    unfold tap
    rw [if_pos (Nat.zero_le _)]
    rfl
  unfold conv
  simp only [h0, ← sh1_apply, ← sh2_apply, ← sh3_apply]
  pointwise [sum]
  abel
/-- And after its unit. -/
def sil (Z : FVec Ideal S512x512 .f32) : FVec Ideal S512x512 .f32 :=
  mulf Z (divf (broadcast S512x512 (Scalar.ofBits .f32 0x3F800000#32)) (addf (broadcast S512x512 (Scalar.ofBits .f32 0x3F800000#32)) (exp (subf (broadcast S512x512 (Scalar.ofBits .f32 0x00000000#32)) Z))))
theorem sil_apply (Z : FVec Ideal S512x512 .f32) (r l : Fin 512) : (sil Z (ix2 r l) : EReal) = Z (ix2 r l) * gate (Z (ix2 r l)) := by
  unfold gate
  pointwise [sil]
  simp only [zero_sub]

theorem pay9_eq (U : FVec Ideal S512x512 .f32) (P : FVec Ideal S8x512 .f32) (w3 b w2 w1 w0 : FVec Ideal S1x512 .f32) :
    k0_pay9 (F := Ideal) (k0_pay7 rowno U P w3 b w2 w1) (k0_pay8 rowno U P w0) = sil (sum U P w3 b w2 w1 w0) := rfl
theorem pay17_eq (h : FVec Ideal S512x1024 .bf16) (w : FVec Ideal S1024x512 .bf16) (P : FVec Ideal S8x512 .f32) (w3 b w2 w1 w0 : FVec Ideal S1x512 .f32) :
    k0_pay17 (F := Ideal) rowno (k0_pay10 h w) P (k0_pay13 h w w3 b) (k0_pay14 h w) (k0_pay15 rowno) (k0_pay16 P) w2 w1 w0 = sil (sum (k0_pay10 h w) P w3 b w2 w1 w0) := rfl
theorem pay24_eq (h : FVec Ideal S512x1024 .bf16) (w : FVec Ideal S1024x512 .bf16) (P : FVec Ideal S8x512 .f32) (w3 b w2 w1 w0 : FVec Ideal S1x512 .f32) :
    k0_pay24 (F := Ideal) rowno (k0_pay18 h w) P (k0_pay21 h w w3 b) (k0_pay22 h w) (k0_pay23 rowno) w2 w1 w0 = sil (sum (k0_pay18 h w) P w3 b w2 w1 w0) := rfl
theorem pay25_eq (h : FVec Ideal S512x1024 .bf16) (w : FVec Ideal S1024x512 .bf16) (P : FVec Ideal S8x512 .f32) (w3 b w2 w1 w0 : FVec Ideal S1x512 .f32) :
    k0_pay25 (F := Ideal) rowno (k0_pay18 h w) P (k0_pay21 h w w3 b) (k0_pay22 h w) (k0_pay23 rowno) w2 w1 w0 = truncf .bf16 (extractStridedSlice S512x256 ![0, 0] (sil (sum (k0_pay18 h w) P w3 b w2 w1 w0)) slices_S512x512_o0_0_S512x256) bitsLt_bf16_f32 := rfl

theorem pay3_apply (x : FVec Ideal S512x1024 .f32) (g : FVec Ideal S1x1024 .f32) (r : Fin 512) (l : Fin 1024) :
    (k0_pay3 (F := Ideal) x g (ix2 r l) : EReal) = nrm (fun j => x (ix2 r j)) (fun j => g (ix2 0 j)) l := by
  unfold nrm
  pointwise [k0_pay3]
theorem pay4_apply (x : FVec Ideal S512x1024 .f32) (g : FVec Ideal S1x1024 .f32) (w : FVec Ideal S1024x512 .bf16) (r l : Fin 512) :
    (k0_pay4 (F := Ideal) x g w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay4, hh]
theorem pay5_apply (x : FVec Ideal S512x1024 .f32) (g : FVec Ideal S1x1024 .f32) (w : FVec Ideal S1024x512 .bf16) (r l : Fin 512) :
    (k0_pay5 (F := Ideal) x g w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay5, hh]
theorem pay10_apply (x : FVec Ideal S512x1024 .f32) (g : FVec Ideal S1x1024 .f32) (w : FVec Ideal S1024x512 .bf16) (r l : Fin 512) :
    (k0_pay10 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay10]
theorem pay11_apply (x : FVec Ideal S512x1024 .f32) (g : FVec Ideal S1x1024 .f32) (w : FVec Ideal S1024x512 .bf16) (r l : Fin 512) :
    (k0_pay11 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay11]
theorem pay18_apply (x : FVec Ideal S512x1024 .f32) (g : FVec Ideal S1x1024 .f32) (w : FVec Ideal S1024x512 .bf16) (r l : Fin 512) :
    (k0_pay18 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay18]
theorem pay19_apply (x : FVec Ideal S512x1024 .f32) (g : FVec Ideal S1x1024 .f32) (w : FVec Ideal S1024x128 .bf16) (b : FVec Ideal S1x128 .f32) (r : Fin 512) (l : Fin 128) :
    (k0_pay19 (F := Ideal) (k0_pay3 x g) w b (ix2 r l) : EReal) = soft (proj (fun j => x (ix2 r j)) (fun j => g (ix2 0 j)) (fun j => w (ix2 j l)) + b (ix2 0 l)) := by
  unfold proj soft
  simp only [← pay3_apply]
  generalize hh : k0_pay3 (F := Ideal) x g = h
  pointwise [k0_pay19]
  simp only [zero_sub]
  rfl

/-- The last eight rows of a group of columns. -/
theorem pay6_apply (x : FVec Ideal S512x1024 .f32) (g : FVec Ideal S1x1024 .f32) (w : FVec Ideal S1024x512 .bf16) (a : Fin 8) (l : Fin 512) :
    (k0_pay6 (F := Ideal) x g w (ix2 a l) : EReal) = proj (fun j => x (ix2 ⟨504 + a.val, by have := a.isLt; omega⟩ j)) (fun j => g (ix2 0 j)) (fun j => w (ix2 j l)) := by
  refine Eq.trans ?_ (pay4_apply x g w ⟨504 + a.val, by have := a.isLt; omega⟩ l)
  unfold k0_pay6
  generalize k0_pay4 (F := Ideal) x g w = U
  pointwise []
theorem pay12_apply (x : FVec Ideal S512x1024 .f32) (g : FVec Ideal S1x1024 .f32) (w : FVec Ideal S1024x512 .bf16) (a : Fin 8) (l : Fin 512) :
    (k0_pay12 (F := Ideal) (k0_pay3 x g) w (ix2 a l) : EReal) = proj (fun j => x (ix2 ⟨504 + a.val, by have := a.isLt; omega⟩ j)) (fun j => g (ix2 0 j)) (fun j => w (ix2 j l)) := by
  refine Eq.trans ?_ (pay10_apply x g w ⟨504 + a.val, by have := a.isLt; omega⟩ l)
  unfold k0_pay12
  generalize k0_pay10 (F := Ideal) (k0_pay3 x g) w = U
  pointwise []
theorem pay20_apply (x : FVec Ideal S512x1024 .f32) (g : FVec Ideal S1x1024 .f32) (w : FVec Ideal S1024x512 .bf16) (a : Fin 8) (l : Fin 512) :
    (k0_pay20 (F := Ideal) (k0_pay3 x g) w (ix2 a l) : EReal) = proj (fun j => x (ix2 ⟨504 + a.val, by have := a.isLt; omega⟩ j)) (fun j => g (ix2 0 j)) (fun j => w (ix2 j l)) := by
  refine Eq.trans ?_ (pay18_apply x g w ⟨504 + a.val, by have := a.isLt; omega⟩ l)
  unfold k0_pay20
  generalize k0_pay18 (F := Ideal) (k0_pay3 x g) w = U
  pointwise []

/-- Columns of the convolution, of the gate and of the step sizes in the tile's weights. -/
def cx (k : Fin 1536) : Fin 2688 := ⟨1024 + k.val, by have := k.isLt; omega⟩
def cz (k : Fin 1024) : Fin 2688 := ⟨k.val, by have := k.isLt; omega⟩
def cd (k : Fin 128) : Fin 2688 := ⟨2560 + k.val, by have := k.isLt; omega⟩
/-- Column `l` of group `q`. -/
def gq (q : Fin 3) (l : Fin 512) : Fin 1536 := ⟨512 * q.val + l.val, by have := q.isLt; have := l.isLt; omega⟩

section
variable (x0 : FVec Ideal S512x1024 .f32) (x1 : FVec Ideal S1x1024 .f32) (x2 : FVec Ideal S1024x2688 .bf16) (x3 : FVec Ideal S4x1536 .f32) (x4 : FVec Ideal S1x1536 .f32) (x5 : FVec Ideal S1x128 .f32) (Q : FVec Ideal S8x1536 .f32)

/-- Column `k` of the tile's projection, before the convolution. -/
def pre (k : Fin 1536) (r : Fin 512) : EReal := proj (fun j => x0 (ix2 r j)) (fun j => x1 (ix2 0 j)) (fun j => x2 (ix2 j (cx k)))
/-- And after it. -/
def loc (r : Fin 512) (k : Fin 1536) : EReal := act (tap (pre x0 x1 x2 k) (fun a => Q (ix2 a k)) r) ![x3 (ix2 0 k), x3 (ix2 1 k), x3 (ix2 2 k), x3 (ix2 3 k)] (x4 (ix2 0 k))

/-! The slices that the body loads. -/
def w0 : FVec Ideal S1024x512 .bf16 := (View.ld (Val := Elt Ideal) (e' := .bf16) x2 (Rect.unit ![0, 1024] ![1024, 512] inb_S1024x2688_S1024x512_0_1024))
theorem w0_apply (j : Fin 1024) (l : Fin 512) : (w0 x2 (ix2 j l) : EReal) = x2 (ix2 j (cx (gq 0 l))) := by
  refine congrArg x2 ?_
  funext a
  fin_cases a <;> exact Fin.ext (by simp [cx, gq, ix2]; try omega)

def p0 : FVec Ideal S8x512 .f32 := (View.ld (Val := Elt Ideal) (e' := .f32) Q (Rect.unit ![0, 0] ![8, 512] inb_S8x1536_S8x512_0_0))
theorem p0_apply (j : Fin 8) (l : Fin 512) : (p0 Q (ix2 j l) : EReal) = Q (ix2 j (gq 0 l)) := by
  refine congrArg Q ?_
  funext a
  fin_cases a <;> exact Fin.ext (by simp [gq, ix2]; try omega)

def b0 : FVec Ideal S1x512 .f32 := (View.ld (Val := Elt Ideal) (e' := .f32) x4 (Rect.unit ![0, 0] ![1, 512] inb_S1x1536_S1x512_0_0))
theorem b0_apply (l : Fin 512) : (b0 x4 (ix2 0 l) : EReal) = x4 (ix2 0 (gq 0 l)) := by
  refine congrArg x4 ?_
  funext a
  fin_cases a <;> exact Fin.ext (by simp [gq, ix2]; try omega)

def c00 : FVec Ideal S1x512 .f32 := (View.ld (Val := Elt Ideal) (e' := .f32) x3 (Rect.unit ![0, 0] ![1, 512] inb_S4x1536_S1x512_0_0))
theorem c00_apply (l : Fin 512) : (c00 x3 (ix2 0 l) : EReal) = x3 (ix2 0 (gq 0 l)) := by
  refine congrArg x3 ?_
  funext a
  fin_cases a <;> exact Fin.ext (by simp [gq, ix2]; try omega)

def c01 : FVec Ideal S1x512 .f32 := (View.ld (Val := Elt Ideal) (e' := .f32) x3 (Rect.unit ![1, 0] ![1, 512] inb_S4x1536_S1x512_1_0))
theorem c01_apply (l : Fin 512) : (c01 x3 (ix2 0 l) : EReal) = x3 (ix2 1 (gq 0 l)) := by
  refine congrArg x3 ?_
  funext a
  fin_cases a <;> exact Fin.ext (by simp [gq, ix2]; try omega)

def c02 : FVec Ideal S1x512 .f32 := (View.ld (Val := Elt Ideal) (e' := .f32) x3 (Rect.unit ![2, 0] ![1, 512] inb_S4x1536_S1x512_2_0))
theorem c02_apply (l : Fin 512) : (c02 x3 (ix2 0 l) : EReal) = x3 (ix2 2 (gq 0 l)) := by
  refine congrArg x3 ?_
  funext a
  fin_cases a <;> exact Fin.ext (by simp [gq, ix2]; try omega)

def c03 : FVec Ideal S1x512 .f32 := (View.ld (Val := Elt Ideal) (e' := .f32) x3 (Rect.unit ![3, 0] ![1, 512] inb_S4x1536_S1x512_3_0))
theorem c03_apply (l : Fin 512) : (c03 x3 (ix2 0 l) : EReal) = x3 (ix2 3 (gq 0 l)) := by
  refine congrArg x3 ?_
  funext a
  fin_cases a <;> exact Fin.ext (by simp [gq, ix2]; try omega)

/-- Group 0 of the columns after the convolution. -/
def grp0 : FVec Ideal S512x512 .f32 := sil (sum (k0_pay4 x0 x1 (w0 x2)) (p0 Q) (c03 x3) (b0 x4) (c02 x3) (c01 x3) (c00 x3))
theorem grp0_apply (r l : Fin 512) : (grp0 x0 x1 x2 x3 x4 Q (ix2 r l) : EReal) = loc x0 x1 x2 x3 x4 Q r (gq 0 l) := by
  unfold grp0 loc act pre
  rw [sil_apply, sum_apply]
  simp only [pay4_apply, w0_apply, p0_apply, b0_apply, c00_apply, c01_apply, c02_apply, c03_apply]
def w1 : FVec Ideal S1024x512 .bf16 := (View.ld (Val := Elt Ideal) (e' := .bf16) x2 (Rect.unit ![0, 1536] ![1024, 512] inb_S1024x2688_S1024x512_0_1536))
theorem w1_apply (j : Fin 1024) (l : Fin 512) : (w1 x2 (ix2 j l) : EReal) = x2 (ix2 j (cx (gq 1 l))) := by
  refine congrArg x2 ?_
  funext a
  fin_cases a <;> exact Fin.ext (by simp [cx, gq, ix2]; try omega)

def p1 : FVec Ideal S8x512 .f32 := (View.ld (Val := Elt Ideal) (e' := .f32) Q (Rect.unit ![0, 512] ![8, 512] inb_S8x1536_S8x512_0_512))
theorem p1_apply (j : Fin 8) (l : Fin 512) : (p1 Q (ix2 j l) : EReal) = Q (ix2 j (gq 1 l)) := by
  refine congrArg Q ?_
  funext a
  fin_cases a <;> exact Fin.ext (by simp [gq, ix2]; try omega)

def b1 : FVec Ideal S1x512 .f32 := (View.ld (Val := Elt Ideal) (e' := .f32) x4 (Rect.unit ![0, 512] ![1, 512] inb_S1x1536_S1x512_0_512))
theorem b1_apply (l : Fin 512) : (b1 x4 (ix2 0 l) : EReal) = x4 (ix2 0 (gq 1 l)) := by
  refine congrArg x4 ?_
  funext a
  fin_cases a <;> exact Fin.ext (by simp [gq, ix2]; try omega)

def c10 : FVec Ideal S1x512 .f32 := (View.ld (Val := Elt Ideal) (e' := .f32) x3 (Rect.unit ![0, 512] ![1, 512] inb_S4x1536_S1x512_0_512))
theorem c10_apply (l : Fin 512) : (c10 x3 (ix2 0 l) : EReal) = x3 (ix2 0 (gq 1 l)) := by
  refine congrArg x3 ?_
  funext a
  fin_cases a <;> exact Fin.ext (by simp [gq, ix2]; try omega)

def c11 : FVec Ideal S1x512 .f32 := (View.ld (Val := Elt Ideal) (e' := .f32) x3 (Rect.unit ![1, 512] ![1, 512] inb_S4x1536_S1x512_1_512))
theorem c11_apply (l : Fin 512) : (c11 x3 (ix2 0 l) : EReal) = x3 (ix2 1 (gq 1 l)) := by
  refine congrArg x3 ?_
  funext a
  fin_cases a <;> exact Fin.ext (by simp [gq, ix2]; try omega)

def c12 : FVec Ideal S1x512 .f32 := (View.ld (Val := Elt Ideal) (e' := .f32) x3 (Rect.unit ![2, 512] ![1, 512] inb_S4x1536_S1x512_2_512))
theorem c12_apply (l : Fin 512) : (c12 x3 (ix2 0 l) : EReal) = x3 (ix2 2 (gq 1 l)) := by
  refine congrArg x3 ?_
  funext a
  fin_cases a <;> exact Fin.ext (by simp [gq, ix2]; try omega)

def c13 : FVec Ideal S1x512 .f32 := (View.ld (Val := Elt Ideal) (e' := .f32) x3 (Rect.unit ![3, 512] ![1, 512] inb_S4x1536_S1x512_3_512))
theorem c13_apply (l : Fin 512) : (c13 x3 (ix2 0 l) : EReal) = x3 (ix2 3 (gq 1 l)) := by
  refine congrArg x3 ?_
  funext a
  fin_cases a <;> exact Fin.ext (by simp [gq, ix2]; try omega)

/-- Group 1 of the columns after the convolution. -/
def grp1 : FVec Ideal S512x512 .f32 := sil (sum (k0_pay10 (k0_pay3 x0 x1) (w1 x2)) (p1 Q) (c13 x3) (b1 x4) (c12 x3) (c11 x3) (c10 x3))
theorem grp1_apply (r l : Fin 512) : (grp1 x0 x1 x2 x3 x4 Q (ix2 r l) : EReal) = loc x0 x1 x2 x3 x4 Q r (gq 1 l) := by
  unfold grp1 loc act pre
  rw [sil_apply, sum_apply]
  simp only [pay10_apply, w1_apply, p1_apply, b1_apply, c10_apply, c11_apply, c12_apply, c13_apply]
def w2 : FVec Ideal S1024x512 .bf16 := (View.ld (Val := Elt Ideal) (e' := .bf16) x2 (Rect.unit ![0, 2048] ![1024, 512] inb_S1024x2688_S1024x512_0_2048))
theorem w2_apply (j : Fin 1024) (l : Fin 512) : (w2 x2 (ix2 j l) : EReal) = x2 (ix2 j (cx (gq 2 l))) := by
  refine congrArg x2 ?_
  funext a
  fin_cases a <;> exact Fin.ext (by simp [cx, gq, ix2]; try omega)

def p2 : FVec Ideal S8x512 .f32 := (View.ld (Val := Elt Ideal) (e' := .f32) Q (Rect.unit ![0, 1024] ![8, 512] inb_S8x1536_S8x512_0_1024))
theorem p2_apply (j : Fin 8) (l : Fin 512) : (p2 Q (ix2 j l) : EReal) = Q (ix2 j (gq 2 l)) := by
  refine congrArg Q ?_
  funext a
  fin_cases a <;> exact Fin.ext (by simp [gq, ix2]; try omega)

def b2 : FVec Ideal S1x512 .f32 := (View.ld (Val := Elt Ideal) (e' := .f32) x4 (Rect.unit ![0, 1024] ![1, 512] inb_S1x1536_S1x512_0_1024))
theorem b2_apply (l : Fin 512) : (b2 x4 (ix2 0 l) : EReal) = x4 (ix2 0 (gq 2 l)) := by
  refine congrArg x4 ?_
  funext a
  fin_cases a <;> exact Fin.ext (by simp [gq, ix2]; try omega)

def c20 : FVec Ideal S1x512 .f32 := (View.ld (Val := Elt Ideal) (e' := .f32) x3 (Rect.unit ![0, 1024] ![1, 512] inb_S4x1536_S1x512_0_1024))
theorem c20_apply (l : Fin 512) : (c20 x3 (ix2 0 l) : EReal) = x3 (ix2 0 (gq 2 l)) := by
  refine congrArg x3 ?_
  funext a
  fin_cases a <;> exact Fin.ext (by simp [gq, ix2]; try omega)

def c21 : FVec Ideal S1x512 .f32 := (View.ld (Val := Elt Ideal) (e' := .f32) x3 (Rect.unit ![1, 1024] ![1, 512] inb_S4x1536_S1x512_1_1024))
theorem c21_apply (l : Fin 512) : (c21 x3 (ix2 0 l) : EReal) = x3 (ix2 1 (gq 2 l)) := by
  refine congrArg x3 ?_
  funext a
  fin_cases a <;> exact Fin.ext (by simp [gq, ix2]; try omega)

def c22 : FVec Ideal S1x512 .f32 := (View.ld (Val := Elt Ideal) (e' := .f32) x3 (Rect.unit ![2, 1024] ![1, 512] inb_S4x1536_S1x512_2_1024))
theorem c22_apply (l : Fin 512) : (c22 x3 (ix2 0 l) : EReal) = x3 (ix2 2 (gq 2 l)) := by
  refine congrArg x3 ?_
  funext a
  fin_cases a <;> exact Fin.ext (by simp [gq, ix2]; try omega)

def c23 : FVec Ideal S1x512 .f32 := (View.ld (Val := Elt Ideal) (e' := .f32) x3 (Rect.unit ![3, 1024] ![1, 512] inb_S4x1536_S1x512_3_1024))
theorem c23_apply (l : Fin 512) : (c23 x3 (ix2 0 l) : EReal) = x3 (ix2 3 (gq 2 l)) := by
  refine congrArg x3 ?_
  funext a
  fin_cases a <;> exact Fin.ext (by simp [gq, ix2]; try omega)

/-- Group 2 of the columns after the convolution. -/
def grp2 : FVec Ideal S512x512 .f32 := sil (sum (k0_pay18 (k0_pay3 x0 x1) (w2 x2)) (p2 Q) (c23 x3) (b2 x4) (c22 x3) (c21 x3) (c20 x3))
theorem grp2_apply (r l : Fin 512) : (grp2 x0 x1 x2 x3 x4 Q (ix2 r l) : EReal) = loc x0 x1 x2 x3 x4 Q r (gq 2 l) := by
  unfold grp2 loc act pre
  rw [sil_apply, sum_apply]
  simp only [pay18_apply, w2_apply, p2_apply, b2_apply, c20_apply, c21_apply, c22_apply, c23_apply]
def wz0 : FVec Ideal S1024x512 .bf16 := (View.ld (Val := Elt Ideal) (e' := .bf16) x2 (Rect.unit ![0, 0] ![1024, 512] inb_S1024x2688_S1024x512_0_0))
theorem wz0_apply (j : Fin 1024) (l : Fin 512) : (wz0 x2 (ix2 j l) : EReal) = x2 (ix2 j (cz ⟨0 + l.val, by have := l.isLt; omega⟩)) := by
  refine congrArg x2 ?_
  funext a
  fin_cases a <;> exact Fin.ext (by simp [cz, ix2]; try omega)

def wz1 : FVec Ideal S1024x512 .bf16 := (View.ld (Val := Elt Ideal) (e' := .bf16) x2 (Rect.unit ![0, 512] ![1024, 512] inb_S1024x2688_S1024x512_0_512))
theorem wz1_apply (j : Fin 1024) (l : Fin 512) : (wz1 x2 (ix2 j l) : EReal) = x2 (ix2 j (cz ⟨512 + l.val, by have := l.isLt; omega⟩)) := by
  refine congrArg x2 ?_
  funext a
  fin_cases a <;> exact Fin.ext (by simp [cz, ix2]; try omega)

def wd : FVec Ideal S1024x128 .bf16 := (View.ld (Val := Elt Ideal) (e' := .bf16) x2 (Rect.unit ![0, 2560] ![1024, 128] inb_S1024x2688_S1024x128_0_2560))
theorem wd_apply (j : Fin 1024) (l : Fin 128) : (wd x2 (ix2 j l) : EReal) = x2 (ix2 j (cd l)) := by
  refine congrArg x2 ?_
  funext a
  fin_cases a <;> exact Fin.ext (by simp [cd, ix2]; try omega)

end

/-- Where the later stores cover an index, the earlier ones do not matter. -/
theorem canon_left {S : Shape} (L L' : List (View.Piece (Elt Ideal) S .f32)) (y : S.Idx) (h : ∃ p ∈ L, y ∈ p.1.set) : View.canon (L ++ L') y = View.canon L y := by
  induction L with
  | nil => obtain ⟨p, hp, _⟩ := h; cases hp
  | cons p L ih =>
    rw [List.cons_append]
    by_cases hm : y ∈ p.1.set
    · obtain ⟨x, rfl⟩ := p.1.exists_idx_of_mem hm
      exact (View.canon_cons_emb p.1 p.2 _ x).trans (View.canon_cons_emb p.1 p.2 _ x).symm
    · rw [View.canon_cons_of_not_mem _ _ hm, View.canon_cons_of_not_mem _ _ hm]
      obtain ⟨q, hq, hy⟩ := h
      rcases List.mem_cons.mp hq with rfl | hq
      · exact absurd hy hm
      · exact ih ⟨q, hq, hy⟩

theorem ix2_of {a b : ℕ} (y : (⟨2, ![a, b]⟩ : Shape).Idx) : ∃ (r : Fin a) (l : Fin b), y = ix2 r l := ⟨y 0, y 1, by funext i; fin_cases i <;> rfl⟩
theorem grp0_at (x0 : FVec Ideal S512x1024 .f32) (x1 : FVec Ideal S1x1024 .f32) (x2 : FVec Ideal S1024x2688 .bf16) (x3 : FVec Ideal S4x1536 .f32) (x4 : FVec Ideal S1x1536 .f32) (Q : FVec Ideal S8x1536 .f32) (x : S512x512.Idx) (r : Fin 512) (k : Fin 1536) (h0 : r.val = (x 0).val) (h1 : k.val = 0 + (x 1).val) : (grp0 x0 x1 x2 x3 x4 Q x : EReal) = loc x0 x1 x2 x3 x4 Q r k := by
  obtain ⟨r', l', rfl⟩ := ix2_of x
  obtain rfl : r = r' := Fin.ext h0
  obtain rfl : k = gq 0 l' := Fin.ext (h1.trans (by simp [gq, ix2]))
  exact grp0_apply x0 x1 x2 x3 x4 Q r l'
theorem grp1_at (x0 : FVec Ideal S512x1024 .f32) (x1 : FVec Ideal S1x1024 .f32) (x2 : FVec Ideal S1024x2688 .bf16) (x3 : FVec Ideal S4x1536 .f32) (x4 : FVec Ideal S1x1536 .f32) (Q : FVec Ideal S8x1536 .f32) (x : S512x512.Idx) (r : Fin 512) (k : Fin 1536) (h0 : r.val = (x 0).val) (h1 : k.val = 512 + (x 1).val) : (grp1 x0 x1 x2 x3 x4 Q x : EReal) = loc x0 x1 x2 x3 x4 Q r k := by
  obtain ⟨r', l', rfl⟩ := ix2_of x
  obtain rfl : r = r' := Fin.ext h0
  obtain rfl : k = gq 1 l' := Fin.ext (h1.trans (by simp [gq, ix2]))
  exact grp1_apply x0 x1 x2 x3 x4 Q r l'
theorem z0_at (x0 : FVec Ideal S512x1024 .f32) (x1 : FVec Ideal S1x1024 .f32) (x2 : FVec Ideal S1024x2688 .bf16) (x : S512x512.Idx) (r : Fin 512) (k : Fin 1024) (h0 : r.val = (x 0).val) (h1 : k.val = 0 + (x 1).val) :
    (k0_pay5 (F := Ideal) x0 x1 (wz0 x2) x : EReal) = proj (fun j => x0 (ix2 r j)) (fun j => x1 (ix2 0 j)) (fun j => x2 (ix2 j (cz k))) := by
  obtain ⟨r', l', rfl⟩ := ix2_of x
  obtain rfl : r = r' := Fin.ext h0
  have hk : (⟨0 + l'.val, by have := l'.isLt; omega⟩ : Fin 1024) = k := Fin.ext h1.symm
  rw [← hk]
  refine (pay5_apply x0 x1 (wz0 x2) r l').trans ?_
  simp only [wz0_apply]
theorem z1_at (x0 : FVec Ideal S512x1024 .f32) (x1 : FVec Ideal S1x1024 .f32) (x2 : FVec Ideal S1024x2688 .bf16) (x : S512x512.Idx) (r : Fin 512) (k : Fin 1024) (h0 : r.val = (x 0).val) (h1 : k.val = 512 + (x 1).val) :
    (k0_pay11 (F := Ideal) (k0_pay3 x0 x1) (wz1 x2) x : EReal) = proj (fun j => x0 (ix2 r j)) (fun j => x1 (ix2 0 j)) (fun j => x2 (ix2 j (cz k))) := by
  obtain ⟨r', l', rfl⟩ := ix2_of x
  obtain rfl : r = r' := Fin.ext h0
  have hk : (⟨512 + l'.val, by have := l'.isLt; omega⟩ : Fin 1024) = k := Fin.ext h1.symm
  rw [← hk]
  refine (pay11_apply x0 x1 (wz1 x2) r l').trans ?_
  simp only [wz1_apply]
theorem q0_at (x0 : FVec Ideal S512x1024 .f32) (x1 : FVec Ideal S1x1024 .f32) (x2 : FVec Ideal S1024x2688 .bf16) (x : S8x512.Idx) (a : Fin 8) (k : Fin 1536) (h0 : a.val = (x 0).val) (h1 : k.val = 0 + (x 1).val) :
    (k0_pay6 (F := Ideal) x0 x1 (w0 x2) x : EReal) = pre x0 x1 x2 k ⟨504 + a.val, by have := a.isLt; omega⟩ := by
  obtain ⟨a', l', rfl⟩ := ix2_of x
  obtain rfl : a = a' := Fin.ext h0
  obtain rfl : k = gq 0 l' := Fin.ext (h1.trans (by simp [gq, ix2]))
  refine (pay6_apply x0 x1 (w0 x2) a l').trans ?_
  unfold pre
  simp only [w0_apply]
theorem q1_at (x0 : FVec Ideal S512x1024 .f32) (x1 : FVec Ideal S1x1024 .f32) (x2 : FVec Ideal S1024x2688 .bf16) (x : S8x512.Idx) (a : Fin 8) (k : Fin 1536) (h0 : a.val = (x 0).val) (h1 : k.val = 512 + (x 1).val) :
    (k0_pay12 (F := Ideal) (k0_pay3 x0 x1) (w1 x2) x : EReal) = pre x0 x1 x2 k ⟨504 + a.val, by have := a.isLt; omega⟩ := by
  obtain ⟨a', l', rfl⟩ := ix2_of x
  obtain rfl : a = a' := Fin.ext h0
  obtain rfl : k = gq 1 l' := Fin.ext (h1.trans (by simp [gq, ix2]))
  refine (pay12_apply x0 x1 (w1 x2) a l').trans ?_
  unfold pre
  simp only [w1_apply]
theorem q2_at (x0 : FVec Ideal S512x1024 .f32) (x1 : FVec Ideal S1x1024 .f32) (x2 : FVec Ideal S1024x2688 .bf16) (x : S8x512.Idx) (a : Fin 8) (k : Fin 1536) (h0 : a.val = (x 0).val) (h1 : k.val = 1024 + (x 1).val) :
    (k0_pay20 (F := Ideal) (k0_pay3 x0 x1) (w2 x2) x : EReal) = pre x0 x1 x2 k ⟨504 + a.val, by have := a.isLt; omega⟩ := by
  obtain ⟨a', l', rfl⟩ := ix2_of x
  obtain rfl : a = a' := Fin.ext h0
  obtain rfl : k = gq 2 l' := Fin.ext (h1.trans (by simp [gq, ix2]))
  refine (pay20_apply x0 x1 (w2 x2) a l').trans ?_
  unfold pre
  simp only [w2_apply]

theorem b_half (x0 : FVec Ideal S512x1024 .f32) (x1 : FVec Ideal S1x1024 .f32) (x2 : FVec Ideal S1024x2688 .bf16) (x3 : FVec Ideal S4x1536 .f32) (x4 : FVec Ideal S1x1536 .f32) (Q : FVec Ideal S8x1536 .f32) (r : Fin 512) (l : Fin 256) : (truncf .bf16 (extractStridedSlice S512x256 ![0, 0] (grp2 x0 x1 x2 x3 x4 Q) slices_S512x512_o0_0_S512x256) bitsLt_bf16_f32 (ix2 r l) : EReal) = loc x0 x1 x2 x3 x4 Q r (gq 2 ⟨0 + l.val, by have := l.isLt; omega⟩) := by
  refine Eq.trans ?_ (grp2_apply x0 x1 x2 x3 x4 Q r ⟨0 + l.val, by have := l.isLt; omega⟩)
  generalize grp2 x0 x1 x2 x3 x4 Q = U
  pointwise []
theorem c_half (x0 : FVec Ideal S512x1024 .f32) (x1 : FVec Ideal S1x1024 .f32) (x2 : FVec Ideal S1024x2688 .bf16) (x3 : FVec Ideal S4x1536 .f32) (x4 : FVec Ideal S1x1536 .f32) (Q : FVec Ideal S8x1536 .f32) (r : Fin 512) (l : Fin 256) : (k0_pay1 (F := Ideal) (grp2 x0 x1 x2 x3 x4 Q) (ix2 r l) : EReal) = loc x0 x1 x2 x3 x4 Q r (gq 2 ⟨256 + l.val, by have := l.isLt; omega⟩) := by
  refine Eq.trans ?_ (grp2_apply x0 x1 x2 x3 x4 Q r ⟨256 + l.val, by have := l.isLt; omega⟩)
  generalize grp2 x0 x1 x2 x3 x4 Q = U
  pointwise [k0_pay1]

variable (m : (ℓ : Loc nD τ sig) → Buf (Elt Ideal) ℓ) (c : Dev nD)
/-- The carried rows that a point finds. -/
def prev (t : Fin cfg0.N) : FVec Ideal S8x1536 .f32 := if t.val % 8 = 0 then k0_pay2 else (outsAt0 m c (t.val - 1) (Nat.lt_of_le_of_lt (Nat.sub_le _ _) t.isLt)).2.2.2.2.2
theorem outB (t : Fin cfg0.N) (r : Fin 512) (l : Fin 256) : ((outsAt0 m c t.val t.isLt).2.2.1 (ix2 r l) : EReal) = loc (iblk m c 0 t) (iblk m c 1 t) (iblk m c 2 t) (iblk m c 3 t) (iblk m c 4 t) (prev m c t) r (gq 2 ⟨0 + l.val, by have := l.isLt; omega⟩) := by
  by_cases h : t.val % 8 = 0
  · rw [outsAt0_A m c t h]; frame_out
    rw [show prev m c t = _ from if_pos h]
    simp (disch := decide) only [View.readCov_skip, View.readCov_fill]
    exact b_half (iblk m c 0 t) (iblk m c 1 t) (iblk m c 2 t) (iblk m c 3 t) (iblk m c 4 t) _ r l
  · rw [outsAt0_B m c t h]; frame_out
    rw [show prev m c t = _ from if_neg h]
    simp only [read_unread_whole]
    exact b_half (iblk m c 0 t) (iblk m c 1 t) (iblk m c 2 t) (iblk m c 3 t) (iblk m c 4 t) _ r l
theorem outC (t : Fin cfg0.N) (r : Fin 512) (l : Fin 256) : ((outsAt0 m c t.val t.isLt).2.2.2.1 (ix2 r l) : EReal) = loc (iblk m c 0 t) (iblk m c 1 t) (iblk m c 2 t) (iblk m c 3 t) (iblk m c 4 t) (prev m c t) r (gq 2 ⟨256 + l.val, by have := l.isLt; omega⟩) := by
  by_cases h : t.val % 8 = 0
  · rw [outsAt0_A m c t h]; frame_out
    rw [show prev m c t = _ from if_pos h]
    simp (disch := decide) only [View.readCov_skip, View.readCov_fill]
    exact c_half (iblk m c 0 t) (iblk m c 1 t) (iblk m c 2 t) (iblk m c 3 t) (iblk m c 4 t) _ r l
  · rw [outsAt0_B m c t h]; frame_out
    rw [show prev m c t = _ from if_neg h]
    simp only [read_unread_whole]
    exact c_half (iblk m c 0 t) (iblk m c 1 t) (iblk m c 2 t) (iblk m c 3 t) (iblk m c 4 t) _ r l
theorem outD (t : Fin cfg0.N) (r : Fin 512) (l : Fin 128) : ((outsAt0 m c t.val t.isLt).2.2.2.2.1 (ix2 r l) : EReal) = soft (proj (fun j => iblk m c 0 t (ix2 r j)) (fun j => iblk m c 1 t (ix2 0 j)) (fun j => iblk m c 2 t (ix2 j (cd l))) + iblk m c 5 t (ix2 0 l)) := by
  by_cases h : t.val % 8 = 0
  · rw [outsAt0_A m c t h]; frame_out
    refine (pay19_apply (iblk m c 0 t) (iblk m c 1 t) (wd (iblk m c 2 t)) (iblk m c 5 t) r l).trans ?_
    simp only [wd_apply]
  · rw [outsAt0_B m c t h]; frame_out
    refine (pay19_apply (iblk m c 0 t) (iblk m c 1 t) (wd (iblk m c 2 t)) (iblk m c 5 t) r l).trans ?_
    simp only [wd_apply]
theorem outX (t : Fin cfg0.N) (r : Fin 512) (l : Fin 1024) : ((outsAt0 m c t.val t.isLt).2.1 (ix2 r l) : EReal) = loc (iblk m c 0 t) (iblk m c 1 t) (iblk m c 2 t) (iblk m c 3 t) (iblk m c 4 t) (prev m c t) r ⟨l.val, by have := l.isLt; omega⟩ := by
  by_cases h : t.val % 8 = 0
  · rw [outsAt0_A m c t h]; frame_out
    rw [show prev m c t = _ from if_pos h]
    simp (disch := decide) only [View.readCov_skip, View.readCov_fill]
    canon_tiles x hx
    · exact grp1_at (iblk m c 0 t) (iblk m c 1 t) (iblk m c 2 t) (iblk m c 3 t) (iblk m c 4 t) _ x r _ hx0 (by have h : l.val = 512 + (x 1).val := hx1; exact h)
    · exact grp0_at (iblk m c 0 t) (iblk m c 1 t) (iblk m c 2 t) (iblk m c 3 t) (iblk m c 4 t) _ x r _ hx0 (by have h : l.val = (x 1).val := hx1; show l.val = 0 + _; omega)
  · rw [outsAt0_B m c t h]; frame_out
    rw [show prev m c t = _ from if_neg h]
    simp only [read_unread_whole]
    canon_tiles x hx
    · exact grp1_at (iblk m c 0 t) (iblk m c 1 t) (iblk m c 2 t) (iblk m c 3 t) (iblk m c 4 t) _ x r _ hx0 (by have h : l.val = 512 + (x 1).val := hx1; exact h)
    · exact grp0_at (iblk m c 0 t) (iblk m c 1 t) (iblk m c 2 t) (iblk m c 3 t) (iblk m c 4 t) _ x r _ hx0 (by have h : l.val = (x 1).val := hx1; show l.val = 0 + _; omega)
theorem outZ (t : Fin cfg0.N) (r : Fin 512) (l : Fin 1024) : ((outsAt0 m c t.val t.isLt).1 (ix2 r l) : EReal) = proj (fun j => iblk m c 0 t (ix2 r j)) (fun j => iblk m c 1 t (ix2 0 j)) (fun j => iblk m c 2 t (ix2 j (cz l))) := by
  by_cases h : t.val % 8 = 0
  · rw [outsAt0_A m c t h]; frame_out
    canon_tiles x hx
    · exact z1_at (iblk m c 0 t) (iblk m c 1 t) (iblk m c 2 t) x r l hx0 (by have h : l.val = 512 + (x 1).val := hx1; exact h)
    · exact z0_at (iblk m c 0 t) (iblk m c 1 t) (iblk m c 2 t) x r l hx0 (by have h : l.val = (x 1).val := hx1; show l.val = 0 + _; omega)
  · rw [outsAt0_B m c t h]; frame_out
    canon_tiles x hx
    · exact z1_at (iblk m c 0 t) (iblk m c 1 t) (iblk m c 2 t) x r l hx0 (by have h : l.val = 512 + (x 1).val := hx1; exact h)
    · exact z0_at (iblk m c 0 t) (iblk m c 1 t) (iblk m c 2 t) x r l hx0 (by have h : l.val = (x 1).val := hx1; show l.val = 0 + _; omega)
theorem outQ (t : Fin cfg0.N) (r : Fin 8) (l : Fin 1536) : ((outsAt0 m c t.val t.isLt).2.2.2.2.2 (ix2 r l) : EReal) = pre (iblk m c 0 t) (iblk m c 1 t) (iblk m c 2 t) l ⟨504 + r.val, by have := r.isLt; omega⟩ := by
  by_cases h : t.val % 8 = 0
  · rw [outsAt0_A m c t h]; frame_out
    refine (canon_left [_, _, _] [_] _ (View.cover_of_tiled_head _ _ _ rfl _)).trans ?_
    canon_tiles x hx
    · exact q2_at (iblk m c 0 t) (iblk m c 1 t) (iblk m c 2 t) x r l hx0 (by have h : l.val = 1024 + (x 1).val := hx1; exact h)
    · exact q1_at (iblk m c 0 t) (iblk m c 1 t) (iblk m c 2 t) x r l hx0 (by have h : l.val = 512 + (x 1).val := hx1; exact h)
    · exact q0_at (iblk m c 0 t) (iblk m c 1 t) (iblk m c 2 t) x r l hx0 (by have h : l.val = (x 1).val := hx1; show l.val = 0 + _; omega)
  · rw [outsAt0_B m c t h]; frame_out
    canon_tiles x hx
    · exact q2_at (iblk m c 0 t) (iblk m c 1 t) (iblk m c 2 t) x r l hx0 (by have h : l.val = 1024 + (x 1).val := hx1; exact h)
    · exact q1_at (iblk m c 0 t) (iblk m c 1 t) (iblk m c 2 t) x r l hx0 (by have h : l.val = 512 + (x 1).val := hx1; exact h)
    · exact q0_at (iblk m c 0 t) (iblk m c 1 t) (iblk m c 2 t) x r l hx0 (by have h : l.val = (x 1).val := hx1; show l.val = 0 + _; omega)
-- ==== Proof.Ssm.lean ====
module
public import proofs.«01_k».proof.Proof.SsmKernel
@[expose] public section
set_option maxRecDepth 16384
noncomputable section
namespace Cert.Kernel4Ideal.Prep
open Cert.Kernel4Ideal Cert.Kernel4Ideal.Gen Cert.Layer
open Cert.Reference4Ideal.Prep (wcol zc xc dc)
open Idealize.ShloMosaic Idealize.ShloMosaic.TcCoe Idealize.SL.Sem

/-! # The step's results are the reference's -/

variable (m : (ℓ : Loc nD τ sig) → Buf (Elt Ideal) ℓ) (c : Dev nD)

/-- The stream as rows of one array, -/
def rows (X : FVec Ideal S8x4096x1024 .f32) : FVec Ideal S32768x1024 .f32 := shapeCast S32768x1024 X shapeCasts_S8x4096x1024_S32768x1024
/-- the gains and the convolution's bias as rows, -/
def row (G : FVec Ideal S1024 .f32) : FVec Ideal S1x1024 .f32 := shapeCast S1x1024 G shapeCasts_S1024_S1x1024
def row' (B : FVec Ideal S1536 .f32) : FVec Ideal S1x1536 .f32 := shapeCast S1x1536 B shapeCasts_S1536_S1x1536
/-- the mixer's columns of the input weights, with columns of zeros after them, -/
def cols (W : FVec Ideal S1024x8112 .f32) : FVec Ideal S1024x2688 .bf16 :=
  truncf .bf16 (pad S1024x2688 ![0, 0] ![0, 112] ![0, 0] (extractStridedSlice S1024x2576 ![0, 2464] W slices_S1024x8112_S1024x2576_0_2464) (sitofp .f32 (constantI S_ 32 0#32)) pads_S1024x2576_S1024x2688_000_01120 h_S_) bitsLt_bf16_f32
/-- and the bias of the step sizes, with zeros after it. -/
def bias (D : FVec Ideal S16 .f32) : FVec Ideal S1x128 .f32 :=
  pad S1x128 ![0, 0] ![0, 112] ![0, 0] (shapeCast S1x16 D shapeCasts_S16_S1x16) (sitofp .f32 (constantI S_ 32 0#32)) pads_S1x16_S1x128_000_01120 h_S_

theorem rows_apply (X : FVec Ideal S8x4096x1024 .f32) (R : Fin 32768) (l : Fin 1024) (b : Fin 8) (s : Fin 4096) (hR : R.val = 4096 * b.val + s.val) :
    (rows X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows]
  simp only [e1, e2]
theorem row_apply (G : FVec Ideal S1024 .f32) (l : Fin 1024) : (row G (ix2 0 l) : EReal) = G (ix1 l) := by
  pointwise [row]
theorem row'_apply (B : FVec Ideal S1536 .f32) (l : Fin 1536) : (row' B (ix2 0 l) : EReal) = B (ix1 l) := by
  pointwise [row']
theorem cols_apply (W : FVec Ideal S1024x8112 .f32) (j : Fin 1024) (k : Fin 2688) :
    (cols W (ix2 j k) : EReal) = if h : k.val < 2576 then (W (ix2 j (wcol ⟨k.val, h⟩)) : EReal) else 0 := by
  have hk := k.isLt
  unfold wcol
  pointwise [cols]
  rw [Cert.Reference4Ideal.Prep.zero_cast]
theorem bias_apply (D : FVec Ideal S16 .f32) (k : Fin 128) :
    (bias D (ix2 0 k) : EReal) = if h : k.val < 16 then (D (ix1 ⟨k.val, h⟩) : EReal) else 0 := by
  pointwise [bias]
  rw [Cert.Reference4Ideal.Prep.zero_cast]

theorem V0 : V m c main_v0 = rows (m ((c : Thread nD τ).loc main_arg0)) := by
  unfold V
  simp only [hostOps0, hostOps0_1, hostOps0_2, hostOps0_3, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V3 : V m c main_v3 = row (m ((c : Thread nD τ).loc main_arg1)) := by
  unfold V
  simp only [hostOps0, hostOps0_1, hostOps0_2, hostOps0_3, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V4 : V m c main_v4 = cols (m ((c : Thread nD τ).loc main_arg2)) := by
  unfold V
  simp only [hostOps0, hostOps0_1, hostOps0_2, hostOps0_3, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V5 : V m c main_v5 = row' (m ((c : Thread nD τ).loc main_arg4)) := by
  unfold V
  simp only [hostOps0, hostOps0_1, hostOps0_2, hostOps0_3, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V7 : V m c main_v7 = bias (m ((c : Thread nD τ).loc main_arg5)) := by
  unfold V
  simp only [hostOps0, hostOps0_1, hostOps0_2, hostOps0_3, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

/-- Where each window sits at a grid point. -/
theorem widx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧
    win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem tlt (t : Fin cfg0.N) : t.val < 64 := N_0 ▸ t.isLt

theorem blk0 (t : Fin cfg0.N) (r : Fin 512) (l : Fin 1024) (b : Fin 8) (s : Fin 4096) (h : 512 * t.val + r.val = 4096 * b.val + s.val) :
    (iblk m c 0 t (ix2 r l) : EReal) = m ((c : Thread nD τ).loc main_arg0) (ix3 b s l) := by
  have ht := tlt t
  have hr := r.isLt
  refine Eq.trans ?_ (rows_apply (m ((c : Thread nD τ).loc main_arg0)) ⟨512 * t.val + r.val, by omega⟩ l b s h)
  rw [← V0 m c]
  blk_ext [iblk, widx t]
theorem blk1 (t : Fin cfg0.N) (l : Fin 1024) : (iblk m c 1 t (ix2 0 l) : EReal) = m ((c : Thread nD τ).loc main_arg1) (ix1 l) := by
  refine Eq.trans ?_ (row_apply (m ((c : Thread nD τ).loc main_arg1)) l)
  rw [← V3 m c]
  blk_ext [iblk, widx t]
theorem blk2 (t : Fin cfg0.N) (j : Fin 1024) (k : Fin 2688) : (iblk m c 2 t (ix2 j k) : EReal) = if h : k.val < 2576 then (m ((c : Thread nD τ).loc main_arg2) (ix2 j (wcol ⟨k.val, h⟩)) : EReal) else (0 : EReal) := by
  refine Eq.trans ?_ (cols_apply (m ((c : Thread nD τ).loc main_arg2)) j k)
  rw [← V4 m c]
  blk_ext [iblk, widx t]
theorem blk3 (t : Fin cfg0.N) (a : Fin 4) (k : Fin 1536) : (iblk m c 3 t (ix2 a k) : EReal) = m ((c : Thread nD τ).loc main_arg3) (ix2 a k) := by
  rw [← V_main_arg3 m c]
  blk_ext [iblk, widx t]
theorem blk4 (t : Fin cfg0.N) (k : Fin 1536) : (iblk m c 4 t (ix2 0 k) : EReal) = m ((c : Thread nD τ).loc main_arg4) (ix1 k) := by
  refine Eq.trans ?_ (row'_apply (m ((c : Thread nD τ).loc main_arg4)) k)
  rw [← V5 m c]
  blk_ext [iblk, widx t]
theorem blk5 (t : Fin cfg0.N) (k : Fin 128) : (iblk m c 5 t (ix2 0 k) : EReal) = if h : k.val < 16 then (m ((c : Thread nD τ).loc main_arg5) (ix1 ⟨k.val, h⟩) : EReal) else (0 : EReal) := by
  refine Eq.trans ?_ (bias_apply (m ((c : Thread nD τ).loc main_arg5)) k)
  rw [← V7 m c]
  blk_ext [iblk, widx t]

/-- The projection of the token `s` of sequence `b`, at a column of the mixer. -/
def at_ (b : Fin 8) (k : Fin 2576) (s : Fin 4096) : EReal :=
  proj (fun j => m ((c : Thread nD τ).loc main_arg0) (ix3 b s j)) (fun j => m ((c : Thread nD τ).loc main_arg1) (ix1 j)) (fun j => m ((c : Thread nD τ).loc main_arg2) (ix2 j (wcol k)))

theorem proj_congr {x x' g g' w w' : Fin 1024 → EReal} (hx : ∀ j, x j = x' j) (hg : ∀ j, g j = g' j) (hw : ∀ j, w j = w' j) : proj x g w = proj x' g' w' := by
  rw [funext hx, funext hg, funext hw]

theorem blk_proj (t : Fin cfg0.N) (r : Fin 512) (b : Fin 8) (s : Fin 4096) (h : 512 * t.val + r.val = 4096 * b.val + s.val) (k : Fin 2688) (k' : Fin 2576) (hk : k.val = k'.val) :
    proj (fun j => iblk m c 0 t (ix2 r j)) (fun j => iblk m c 1 t (ix2 0 j)) (fun j => iblk m c 2 t (ix2 j k)) = at_ m c b k' s :=
  proj_congr (fun j => blk0 m c t r j b s h) (fun j => blk1 m c t j) fun j => (blk2 m c t j k).trans <| (dif_pos (by have := k'.isLt; omega)).trans <| congrArg (fun a => m ((c : Thread nD τ).loc main_arg2) (ix2 j (wcol a))) (Fin.ext hk)

theorem pre_eq (t : Fin cfg0.N) (r : Fin 512) (b : Fin 8) (s : Fin 4096) (h : 512 * t.val + r.val = 4096 * b.val + s.val) (k : Fin 1536) :
    pre (iblk m c 0 t) (iblk m c 1 t) (iblk m c 2 t) k r = at_ m c b (xc k) s :=
  blk_proj m c t r b s h (cx k) (xc k) rfl

/-- Before the convolution, the entry some rows back, in this tile or among the carried rows, is the entry as many tokens back. -/
theorem tap_eq (t : Fin cfg0.N) (r : Fin 512) (b : Fin 8) (s : Fin 4096) (h : 512 * t.val + r.val = 4096 * b.val + s.val) (k : Fin 1536) (d : ℕ) (hd : d ≤ 3) :
    tap (pre (iblk m c 0 t) (iblk m c 1 t) (iblk m c 2 t) k) (fun a => prev m c t (ix2 a k)) r d = past (at_ m c b (xc k)) s d := by
  have ht := tlt t
  have hr := r.isLt
  have hs := s.isLt
  unfold tap past
  by_cases hdr : d ≤ r.val
  · rw [if_pos hdr, dif_pos (by omega)]
    exact pre_eq m c t _ b _ (by show 512 * t.val + (r.val - d) = 4096 * b.val + (s.val - d); omega) k
  · rw [if_neg hdr]
    unfold prev
    by_cases h8 : t.val % 8 = 0
    · rw [dif_neg (by omega), if_pos h8]
      pointwise [k0_pay2]
    · rw [dif_pos (by omega), if_neg h8]
      refine (outQ m c ⟨t.val - 1, Nat.lt_of_le_of_lt (Nat.sub_le _ _) t.isLt⟩ _ k).trans ?_
      exact pre_eq m c _ _ b _ (by show 512 * (t.val - 1) + (504 + (r.val + 8 - d) % 8) = 4096 * b.val + (s.val - d); omega) k

theorem loc_eq (t : Fin cfg0.N) (r : Fin 512) (b : Fin 8) (s : Fin 4096) (h : 512 * t.val + r.val = 4096 * b.val + s.val) (k : Fin 1536) :
    loc (iblk m c 0 t) (iblk m c 1 t) (iblk m c 2 t) (iblk m c 3 t) (iblk m c 4 t) (prev m c t) r k = Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4)) (ix3 b s k) := by
  refine Eq.trans ?_ (Cert.Reference4Ideal.Prep.mid_apply (m ((c : Thread nD τ).loc main_arg0)) (m ((c : Thread nD τ).loc main_arg1)) (m ((c : Thread nD τ).loc main_arg2)) (m ((c : Thread nD τ).loc main_arg3)) (m ((c : Thread nD τ).loc main_arg4)) b s k).symm
  have hc : conv (tap (pre (iblk m c 0 t) (iblk m c 1 t) (iblk m c 2 t) k) (fun a => prev m c t (ix2 a k)) r) ![iblk m c 3 t (ix2 0 k), iblk m c 3 t (ix2 1 k), iblk m c 3 t (ix2 2 k), iblk m c 3 t (ix2 3 k)] (iblk m c 4 t (ix2 0 k)) =
      conv (past (at_ m c b (xc k)) s) (fun a => m ((c : Thread nD τ).loc main_arg3) (ix2 a k)) (m ((c : Thread nD τ).loc main_arg4) (ix1 k)) := by
    unfold conv
    rw [tap_eq m c t r b s h k 0 (by omega), tap_eq m c t r b s h k 1 (by omega), tap_eq m c t r b s h k 2 (by omega), tap_eq m c t r b s h k 3 (by omega)]
    exact congrArg₂ (· + ·) (congrArg₂ (· + ·) (congrArg₂ (· + ·) (congrArg₂ (· + ·) (blk4 m c t k) (congrArg (_ * ·) (blk3 m c t 0 k))) (congrArg (_ * ·) (blk3 m c t 1 k))) (congrArg (_ * ·) (blk3 m c t 2 k))) (congrArg (_ * ·) (blk3 m c t 3 k))
  unfold loc act
  exact congrArg₂ (· * ·) hc (congrArg gate hc)

/-- What the kernel leaves in each result is the reference's. -/
theorem final6 : (dats m 0 c).arrAt 6 cfg0.N = Cert.Reference4Ideal.Prep.resZ (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  obtain ⟨r, e, rfl⟩ : ∃ (r : Fin 512) (e : Fin 1024), y = ix2 r e := ⟨y 0, y 1, by funext a; fin_cases a <;> rfl⟩
  have ht := tlt t
  have hr := r.isLt
  rw [after0_6]
  have hR : 512 * t.val + r.val = 4096 * ((512 * t.val + r.val) / 4096) + (512 * t.val + r.val) % 4096 := by omega
  have hs := Cert.Reference4Ideal.Prep.resZ_apply ⟨512 * t.val + r.val, by omega⟩ ⟨(512 * t.val + r.val) / 4096, by omega⟩ ⟨(512 * t.val + r.val) % 4096, by omega⟩ hR (m ((c : Thread nD τ).loc main_arg0)) (m ((c : Thread nD τ).loc main_arg1)) (m ((c : Thread nD τ).loc main_arg2)) e
  refine (outZ m c t r e).trans (Eq.trans ?_ (hs.symm.trans ?_))
  · exact blk_proj m c t r _ _ hR (cz e) (zc e) rfl
  · generalize Cert.Reference4Ideal.Prep.resZ (m ((c : Thread nD τ).loc main_arg0)) (m ((c : Thread nD τ).loc main_arg1)) (m ((c : Thread nD τ).loc main_arg2)) = X
    blk_ext [widx t]

theorem final7 : (dats m 0 c).arrAt 7 cfg0.N = Cert.Reference4Ideal.Prep.resX (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t hf y => ?_
  blk_simp
  obtain ⟨r, e, rfl⟩ : ∃ (r : Fin 512) (e : Fin 1024), y = ix2 r e := ⟨y 0, y 1, by funext a; fin_cases a <;> rfl⟩
  have ht := tlt t
  have hr := r.isLt
  rw [after0_7]
  have hR : 512 * t.val + r.val = 4096 * ((512 * t.val + r.val) / 4096) + (512 * t.val + r.val) % 4096 := by omega
  have hs := Cert.Reference4Ideal.Prep.resX_apply ⟨512 * t.val + r.val, by omega⟩ ⟨(512 * t.val + r.val) / 4096, by omega⟩ ⟨(512 * t.val + r.val) % 4096, by omega⟩ hR (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) e
  refine (outX m c t r e).trans (Eq.trans ?_ (hs.symm.trans ?_))
  · exact loc_eq m c t r _ _ hR _
  · generalize Cert.Reference4Ideal.Prep.resX (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) = X
    blk_ext [widx t]

theorem final8 : (dats m 0 c).arrAt 8 cfg0.N = Cert.Reference4Ideal.Prep.resB (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 8 _ (by decide +kernel) fun t hf y => ?_
  blk_simp
  obtain ⟨r, e, rfl⟩ : ∃ (r : Fin 512) (e : Fin 256), y = ix2 r e := ⟨y 0, y 1, by funext a; fin_cases a <;> rfl⟩
  have ht := tlt t
  have hr := r.isLt
  rw [after0_8]
  have hR : 512 * t.val + r.val = 4096 * ((512 * t.val + r.val) / 4096) + (512 * t.val + r.val) % 4096 := by omega
  have hs := Cert.Reference4Ideal.Prep.resB_apply ⟨512 * t.val + r.val, by omega⟩ ⟨(512 * t.val + r.val) / 4096, by omega⟩ ⟨(512 * t.val + r.val) % 4096, by omega⟩ hR (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) e
  refine (outB m c t r e).trans (Eq.trans ?_ (hs.symm.trans ?_))
  · refine (loc_eq m c t r _ _ hR _).trans (congrArg (fun k => (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) (ix3 _ _ k)) (Fin.ext ?_))
    have := e.isLt
    simp only [gq]
    omega
  · generalize Cert.Reference4Ideal.Prep.resB (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) = X
    blk_ext [widx t]

theorem final9 : (dats m 0 c).arrAt 9 cfg0.N = Cert.Reference4Ideal.Prep.resC (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 9 _ (by decide +kernel) fun t hf y => ?_
  blk_simp
  obtain ⟨r, e, rfl⟩ : ∃ (r : Fin 512) (e : Fin 256), y = ix2 r e := ⟨y 0, y 1, by funext a; fin_cases a <;> rfl⟩
  have ht := tlt t
  have hr := r.isLt
  rw [after0_9]
  have hR : 512 * t.val + r.val = 4096 * ((512 * t.val + r.val) / 4096) + (512 * t.val + r.val) % 4096 := by omega
  have hs := Cert.Reference4Ideal.Prep.resC_apply ⟨512 * t.val + r.val, by omega⟩ ⟨(512 * t.val + r.val) / 4096, by omega⟩ ⟨(512 * t.val + r.val) % 4096, by omega⟩ hR (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) e
  refine (outC m c t r e).trans (Eq.trans ?_ (hs.symm.trans ?_))
  · refine (loc_eq m c t r _ _ hR _).trans (congrArg (fun k => (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) (ix3 _ _ k)) (Fin.ext ?_))
    have := e.isLt
    simp only [gq]
    omega
  · generalize Cert.Reference4Ideal.Prep.resC (Cert.Reference4Ideal.Prep.mid (m ((c : Thread nD τ).loc main_arg0)) (m ((c : Thread nD τ).loc main_arg1)) (m ((c : Thread nD τ).loc main_arg2)) (m ((c : Thread nD τ).loc main_arg3)) (m ((c : Thread nD τ).loc main_arg4))) = X
    blk_ext [widx t]

theorem final10 : (dats m 0 c).arrAt 10 cfg0.N = Cert.Reference4Ideal.Prep.resD (Cert.Reference4Ideal.Prep.step (Cert.Reference4Ideal.Prep.prj (Cert.Reference4Ideal.Prep.norm (m ((c : Thread nD τ).loc main_arg0)) (m ((c : Thread nD τ).loc main_arg1))) (m ((c : Thread nD τ).loc main_arg2))) (m ((c : Thread nD τ).loc main_arg5))) := by
  refine (dats m 0 c).arrAt_eq_of_covers 10 _ (by decide +kernel) fun t hf y => ?_
  blk_simp
  obtain ⟨r, e, rfl⟩ : ∃ (r : Fin 512) (e : Fin 128), y = ix2 r e := ⟨y 0, y 1, by funext a; fin_cases a <;> rfl⟩
  have ht := tlt t
  have hr := r.isLt
  rw [after0_10]
  have hR : 512 * t.val + r.val = 4096 * ((512 * t.val + r.val) / 4096) + (512 * t.val + r.val) % 4096 := by omega
  have hs := Cert.Reference4Ideal.Prep.resD_apply ⟨512 * t.val + r.val, by omega⟩ ⟨(512 * t.val + r.val) / 4096, by omega⟩ ⟨(512 * t.val + r.val) % 4096, by omega⟩ hR (Cert.Reference4Ideal.Prep.step (Cert.Reference4Ideal.Prep.prj (Cert.Reference4Ideal.Prep.norm (m ((c : Thread nD τ).loc main_arg0)) (m ((c : Thread nD τ).loc main_arg1))) (m ((c : Thread nD τ).loc main_arg2))) (m ((c : Thread nD τ).loc main_arg5))) e
  refine (outD m c t r e).trans (Eq.trans ?_ (hs.symm.trans ?_))
  · refine congrArg soft ?_
    refine Eq.trans ?_ (Cert.Reference4Ideal.Prep.step_apply (Cert.Reference4Ideal.Prep.prj (Cert.Reference4Ideal.Prep.norm (m ((c : Thread nD τ).loc main_arg0)) (m ((c : Thread nD τ).loc main_arg1))) (m ((c : Thread nD τ).loc main_arg2))) (m ((c : Thread nD τ).loc main_arg5)) _ _ e).symm
    by_cases he : e.val < 16
    · rw [dif_pos he]
      refine congrArg₂ (· + ·) ((blk_proj m c t r _ _ hR (cd e) (dc ⟨e.val, he⟩) rfl).trans (Cert.Reference4Ideal.Prep.prj_norm _ _ _ _ _ _).symm) ((blk5 m c t e).trans (dif_pos he))
    · rw [dif_neg he, blk5 m c t e, dif_neg he]
      refine (add_zero (_ : EReal)).trans ?_
      unfold proj
      refine Finset.sum_eq_zero fun j _ => ?_
      exact (congrArg (_ * ·) ((blk2 m c t j (cd e)).trans (dif_neg (by show ¬ 2560 + e.val < 2576; omega)))).trans (mul_zero (_ : EReal))
  · generalize Cert.Reference4Ideal.Prep.resD (Cert.Reference4Ideal.Prep.step (Cert.Reference4Ideal.Prep.prj (Cert.Reference4Ideal.Prep.norm (m ((c : Thread nD τ).loc main_arg0)) (m ((c : Thread nD τ).loc main_arg1))) (m ((c : Thread nD τ).loc main_arg2))) (m ((c : Thread nD τ).loc main_arg5))) = X
    blk_ext [widx t]

end Cert.Kernel4Ideal.Prep
-- ==== Proof.RwkvRef.lean ====
module
public import proofs.«01_k».proof.Proof.Gen.Reference5Ideal.Run
public import proofs.«01_k».proof.Proof.SsmRef
public import Idealize.ShloMosaic.Lib.Pointwise
@[expose] public section
set_option maxRecDepth 16384
noncomputable section

namespace Cert.Layer
open Idealize.ShloMosaic
/-- A token's entry drawn towards the entry of the token before it. -/
def mix (a b μ : EReal) : EReal := a + (b - a) * μ

/-- The logarithm of the decay, from the decay's raw entry. -/
def decay (z : EReal) : EReal := -(Ideal.exp (-(soft (-z)) - FloatOps.ofBits (F := Ideal) FTy.f32 0x3F000000#32))
end Cert.Layer

namespace Cert.Reference5Ideal.Prep
open Cert.Reference5Ideal Cert.Reference5Ideal.Gen Cert.Layer
open Cert.Reference4Ideal.Prep (zero_cast)
open Idealize.ShloMosaic Idealize.ShloMosaic.TcCoe Idealize.SL.Sem

/-! # The reference's projection, shift and gates, read at an index -/

/-- The stream after its norm, -/
def norm (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))
/-- its projection onto the mixer's columns, -/
def prj (H : FVec Ideal S8x4096x1024 .f32) (W : FVec Ideal S1024x8112 .f32) : FVec Ideal S8x4096x1792 .f32 :=
  extractStridedSlice S8x4096x1792 ![0, 0, 672] (Host.dotGeneral dot_S8x4096x1024_S1024x8112_S8x4096x8112_2_0_01_1_n_n none H W) slices_S8x4096x8112_S8x4096x1792_0_0_672
/-- the projection one token on, zero at a sequence's first, -/
def late (P : FVec Ideal S8x4096x1792 .f32) : FVec Ideal S8x4096x1792 .f32 :=
  pad S8x4096x1792 ![0, 1, 0] ![0, 0, 0] ![0, 0, 0] (extractStridedSlice S8x4095x1792 ![0, 0, 0] P slices_S8x4096x1792_S8x4095x1792_0_0_0) (sitofp .f32 (constantI S_ 32 0#32)) pads_S8x4095x1792_S8x4096x1792_000_100_000 h_S_
/-- and the projection drawn towards it. -/
def drawn (P : FVec Ideal S8x4096x1792 .f32) (U : FVec Ideal S1792 .f32) : FVec Ideal S8x4096x1792 .f32 :=
  addf P (mulf (subf (late P) P) (broadcastInDim S8x4096x1792 ![0, 1, 2] bcast_S1x1x1792_S8x4096x1792_0_1_2 (broadcastInDim S1x1x1792 ![2] bcast_S1792_S1x1x1792_2 U)))
def mid (X : FVec Ideal S8x4096x1024 .f32) (G : FVec Ideal S1024 .f32) (W : FVec Ideal S1024x8112 .f32) (U : FVec Ideal S1792 .f32) : FVec Ideal S8x4096x1792 .f32 :=
  drawn (prj (norm X G) W) U
/-- A bias for every token, -/
def every (B : FVec Ideal S512 .f32) : FVec Ideal S8x4096x512 .f32 :=
  broadcastInDim S8x4096x512 ![0, 1, 2] bcast_S1x1x512_S8x4096x512_0_1_2 (broadcastInDim S1x1x512 ![2] bcast_S512_S1x1x512_2 B)
/-- the logistic function, -/
def lgst (Z : FVec Ideal S8x4096x512 .f32) : FVec Ideal S8x4096x512 .f32 :=
  Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf Z)))
def lgst' (Z : FVec Ideal S8x4096x128 .f32) : FVec Ideal S8x4096x128 .f32 :=
  Host.divf (broadcastInDim S8x4096x128 ![] bcast_S_S8x4096x128 (constant S_ .f32 0x3F800000#32)) (addf (broadcastInDim S8x4096x128 ![] bcast_S_S8x4096x128 (constant S_ .f32 0x3F800000#32)) (Host.exp (Host.negf Z)))
/-- the softplus, as the host writes it, -/
def plus (Z : FVec Ideal S8x4096x512 .f32) : FVec Ideal S8x4096x512 .f32 :=
  select (cmpf .une (subf Z (broadcastInDim S8x4096x512 ![] bcast_S_S8x4096x512 (constant S_ .f32 0x00000000#32))) (subf Z (broadcastInDim S8x4096x512 ![] bcast_S_S8x4096x512 (constant S_ .f32 0x00000000#32)))) (addf Z (broadcastInDim S8x4096x512 ![] bcast_S_S8x4096x512 (constant S_ .f32 0x00000000#32)))
    (addf (maximumf Z (broadcastInDim S8x4096x512 ![] bcast_S_S8x4096x512 (constant S_ .f32 0x00000000#32))) (Host.log1p (Host.exp (Host.negf (Host.absf (subf Z (broadcastInDim S8x4096x512 ![] bcast_S_S8x4096x512 (constant S_ .f32 0x00000000#32))))))))
/-- and the decay's logarithm. -/
def dec (Z : FVec Ideal S8x4096x512 .f32) : FVec Ideal S8x4096x512 .f32 :=
  Host.negf (Host.exp (subf (Host.negf (plus (Host.negf Z))) (broadcastInDim S8x4096x512 ![] bcast_S_S8x4096x512 (constant S_ .f32 0x3F000000#32))))
/-- The raw entries of the decay, -/
def rawW (M : FVec Ideal S8x4096x1792 .f32) (B : FVec Ideal S512 .f32) (C : FVec Ideal S64x512 .f32) : FVec Ideal S8x4096x512 .f32 :=
  addf (every B) (Host.dotGeneral dot_S8x4096x64_S64x512_S8x4096x512_2_0_01_1_n_n none (Host.tanh (extractStridedSlice S8x4096x64 ![0, 0, 1536] M slices_S8x4096x1792_S8x4096x64_0_0_1536)) C)
/-- of the rate, -/
def rawA (M : FVec Ideal S8x4096x1792 .f32) (B : FVec Ideal S512 .f32) (C : FVec Ideal S64x512 .f32) : FVec Ideal S8x4096x512 .f32 :=
  addf (every B) (Host.dotGeneral dot_S8x4096x64_S64x512_S8x4096x512_2_0_01_1_n_n none (extractStridedSlice S8x4096x64 ![0, 0, 1600] M slices_S8x4096x1792_S8x4096x64_0_0_1600) C)
/-- and of the value's gate. -/
def rawV (V : FVec Ideal S8x4096x512 .f32) (B : FVec Ideal S512 .f32) (C : FVec Ideal S512x32 .f32) (D : FVec Ideal S32x512 .f32) : FVec Ideal S8x4096x512 .f32 :=
  addf (every B) (Host.dotGeneral dot_S8x4096x32_S32x512_S8x4096x512_2_0_01_1_n_n none (Host.dotGeneral dot_S8x4096x512_S512x32_S8x4096x32_2_0_01_1_n_n none V C) D)
/-- The columns of the value. -/
def vals (M : FVec Ideal S8x4096x1792 .f32) : FVec Ideal S8x4096x512 .f32 :=
  extractStridedSlice S8x4096x512 ![0, 0, 1024] M slices_S8x4096x1792_S8x4096x512_0_0_1024
/-- The value drawn towards the first layer's. -/
def valv (V F : FVec Ideal S8x4096x512 .f32) (B : FVec Ideal S512 .f32) (C : FVec Ideal S512x32 .f32) (D : FVec Ideal S32x512 .f32) : FVec Ideal S8x4096x512 .f32 :=
  addf V (mulf (subf F V) (lgst (rawV V B C D)))
/-- The output gate. -/
def gat (M : FVec Ideal S8x4096x1792 .f32) (C : FVec Ideal S128x512 .f32) : FVec Ideal S8x4096x512 .f32 :=
  Host.dotGeneral dot_S8x4096x128_S128x512_S8x4096x512_2_0_01_1_n_n none (lgst' (extractStridedSlice S8x4096x128 ![0, 0, 1664] M slices_S8x4096x1792_S8x4096x128_0_0_1664)) C
/-- A result, a row for a token. -/
def flat (Y : FVec Ideal S8x4096x512 .f32) : FVec Ideal S32768x512 .f32 := shapeCast S32768x512 Y shapeCasts_S8x4096x512_S32768x512

/-- The six results. -/
def resR (M : FVec Ideal S8x4096x1792 .f32) : FVec Ideal S32768x512 .f32 :=
  flat (extractStridedSlice S8x4096x512 ![0, 0, 0] M slices_S8x4096x1792_S8x4096x512_0_0_0)
def resW (M : FVec Ideal S8x4096x1792 .f32) (B : FVec Ideal S512 .f32) (C : FVec Ideal S64x512 .f32) : FVec Ideal S32768x512 .f32 :=
  flat (dec (rawW M B C))
def resK (M : FVec Ideal S8x4096x1792 .f32) : FVec Ideal S32768x512 .f32 :=
  flat (extractStridedSlice S8x4096x512 ![0, 0, 512] M slices_S8x4096x1792_S8x4096x512_0_0_512)
def resV (M : FVec Ideal S8x4096x1792 .f32) (F : FVec Ideal S8x4096x512 .f32) (B : FVec Ideal S512 .f32) (C : FVec Ideal S512x32 .f32) (D : FVec Ideal S32x512 .f32) : FVec Ideal S32768x512 .f32 :=
  flat (valv (vals M) F B C D)
def resA (M : FVec Ideal S8x4096x1792 .f32) (B : FVec Ideal S512 .f32) (C : FVec Ideal S64x512 .f32) : FVec Ideal S32768x512 .f32 :=
  flat (lgst (rawA M B C))
def resG (M : FVec Ideal S8x4096x1792 .f32) (C : FVec Ideal S128x512 .f32) : FVec Ideal S32768x512 .f32 :=
  flat (gat M C)

section
variable (m : (ℓ : Loc nD τ sig) → Buf (Elt Ideal) ℓ) (c : Dev nD)
theorem resW_eq : Value.res_main_v72 (F := Ideal) m c = resW (mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := rfl
theorem resV_eq : Value.res_main_v74 (F := Ideal) m c = resV (mid (m ((c : Thread nD τ).loc main_arg0)) (m ((c : Thread nD τ).loc main_arg1)) (m ((c : Thread nD τ).loc main_arg2)) (m ((c : Thread nD τ).loc main_arg3))) (m ((c : Thread nD τ).loc main_arg9)) (m ((c : Thread nD τ).loc main_arg10)) (m ((c : Thread nD τ).loc main_arg11)) (m ((c : Thread nD τ).loc main_arg12)) := rfl
end

/-- Column `k` of the mixer's part of the input weights. -/
def wcol (k : Fin 1792) : Fin 8112 := ⟨672 + k.val, by have := k.isLt; omega⟩
/-- The mixer's columns: of the receptance, the key, the value, and those of the decay, the rate and the output gate. -/
def rc (l : Fin 512) : Fin 1792 := ⟨l.val, by have := l.isLt; omega⟩
def kc (l : Fin 512) : Fin 1792 := ⟨512 + l.val, by have := l.isLt; omega⟩
def vc (l : Fin 512) : Fin 1792 := ⟨1024 + l.val, by have := l.isLt; omega⟩
def wc (l : Fin 64) : Fin 1792 := ⟨1536 + l.val, by have := l.isLt; omega⟩
def ac (l : Fin 64) : Fin 1792 := ⟨1600 + l.val, by have := l.isLt; omega⟩
def gc (l : Fin 128) : Fin 1792 := ⟨1664 + l.val, by have := l.isLt; omega⟩

/-! The results, over the columns drawn `h` of a token. -/
def fW (B : FVec Ideal S512 .f32) (C : FVec Ideal S64x512 .f32) (h : Fin 1792 → EReal) (l : Fin 512) : EReal :=
  decay ((B (ix1 l) : EReal) + ∑ i : Fin 64, Ideal.tanh (h (wc i)) * C (ix2 i l))
def fA (B : FVec Ideal S512 .f32) (C : FVec Ideal S64x512 .f32) (h : Fin 1792 → EReal) (l : Fin 512) : EReal :=
  gate ((B (ix1 l) : EReal) + ∑ i : Fin 64, h (ac i) * C (ix2 i l))
def fG (C : FVec Ideal S128x512 .f32) (h : Fin 1792 → EReal) (l : Fin 512) : EReal :=
  ∑ i : Fin 128, gate (h (gc i)) * C (ix2 i l)
def fV (B : FVec Ideal S512 .f32) (C : FVec Ideal S512x32 .f32) (D : FVec Ideal S32x512 .f32) (h : Fin 1792 → EReal) (v : EReal) (l : Fin 512) : EReal :=
  mix (h (vc l)) v (gate ((B (ix1 l) : EReal) + ∑ e : Fin 32, (∑ j : Fin 512, h (vc j) * C (ix2 j e)) * D (ix2 e l)))

theorem norm_apply (X : FVec Ideal S8x4096x1024 .f32) (G : FVec Ideal S1024 .f32) (b : Fin 8) (s : Fin 4096) (l : Fin 1024) :
    (norm X G (ix3 b s l) : EReal) = nrm (fun j => X (ix3 b s j)) (fun j => G (ix1 j)) l := by
  unfold nrm
  pointwise [norm]

theorem prj_apply (H : FVec Ideal S8x4096x1024 .f32) (W : FVec Ideal S1024x8112 .f32) (b : Fin 8) (s : Fin 4096) (k : Fin 1792) :
    (prj H W (ix3 b s k) : EReal) = ∑ j : Fin 1024, (H (ix3 b s j) : EReal) * W (ix2 j (wcol k)) := by
  unfold wcol
  pointwise [prj]

theorem prj_norm (X : FVec Ideal S8x4096x1024 .f32) (G : FVec Ideal S1024 .f32) (W : FVec Ideal S1024x8112 .f32) (b : Fin 8) (s : Fin 4096) (k : Fin 1792) :
    (prj (norm X G) W (ix3 b s k) : EReal) = proj (fun j => X (ix3 b s j)) (fun j => G (ix1 j)) (fun j => W (ix2 j (wcol k))) := by
  rw [prj_apply]
  simp only [norm_apply, proj]

theorem late_apply (P : FVec Ideal S8x4096x1792 .f32) (b : Fin 8) (s : Fin 4096) (l : Fin 1792) :
    (late P (ix3 b s l) : EReal) = past (fun s => P (ix3 b s l)) s 1 := by
  have hs := s.isLt
  unfold past
  pointwise [late]
  by_cases h : 1 ≤ s.val
  · rw [dif_pos (by omega), dif_pos h]
    try exact congrArg P (congrArg (ix3 b · _) (Fin.ext (by simp only []; omega)))
  · rw [dif_neg (by omega), dif_neg h, zero_cast]

theorem drawn_apply (P : FVec Ideal S8x4096x1792 .f32) (U : FVec Ideal S1792 .f32) (b : Fin 8) (s : Fin 4096) (l : Fin 1792) :
    (drawn P U (ix3 b s l) : EReal) = mix (P (ix3 b s l)) (past (fun s => P (ix3 b s l)) s 1) (U (ix1 l)) := by
  rw [← late_apply]
  unfold drawn
  generalize late P = L
  unfold mix
  pointwise []

/-- One entry of the projection drawn towards the token before. -/
theorem mid_apply (X : FVec Ideal S8x4096x1024 .f32) (G : FVec Ideal S1024 .f32) (W : FVec Ideal S1024x8112 .f32) (U : FVec Ideal S1792 .f32) (b : Fin 8) (s : Fin 4096) (l : Fin 1792) :
    (mid X G W U (ix3 b s l) : EReal) = mix (proj (fun j => X (ix3 b s j)) (fun j => G (ix1 j)) (fun j => W (ix2 j (wcol l)))) (past (fun s => proj (fun j => X (ix3 b s j)) (fun j => G (ix1 j)) (fun j => W (ix2 j (wcol l)))) s 1) (U (ix1 l)) := by
  unfold mid
  rw [drawn_apply]
  simp only [prj_norm]

theorem lgst_apply (Z : FVec Ideal S8x4096x512 .f32) (b : Fin 8) (s : Fin 4096) (l : Fin 512) : (lgst Z (ix3 b s l) : EReal) = gate (Z (ix3 b s l)) := by
  unfold gate
  pointwise [lgst]
theorem lgst'_apply (Z : FVec Ideal S8x4096x128 .f32) (b : Fin 8) (s : Fin 4096) (l : Fin 128) : (lgst' Z (ix3 b s l) : EReal) = gate (Z (ix3 b s l)) := by
  unfold gate
  pointwise [lgst']
theorem plus_apply (Z : FVec Ideal S8x4096x512 .f32) (b : Fin 8) (s : Fin 4096) (l : Fin 512) : (plus Z (ix3 b s l) : EReal) = soft (Z (ix3 b s l)) := by
  unfold soft
  pointwise [plus]
  rw [if_neg (fun h => h rfl)]
  rfl
theorem dec_apply (Z : FVec Ideal S8x4096x512 .f32) (b : Fin 8) (s : Fin 4096) (l : Fin 512) : (dec Z (ix3 b s l) : EReal) = decay (Z (ix3 b s l)) := by
  have h : (plus (Host.negf Z) (ix3 b s l) : EReal) = soft (-(Z (ix3 b s l) : EReal)) := by
    rw [plus_apply]
    rfl
  unfold decay dec
  rw [← h]
  generalize plus (Host.negf Z) = L
  pointwise []
theorem rawW_apply (M : FVec Ideal S8x4096x1792 .f32) (B : FVec Ideal S512 .f32) (C : FVec Ideal S64x512 .f32) (b : Fin 8) (s : Fin 4096) (l : Fin 512) :
    (rawW M B C (ix3 b s l) : EReal) = B (ix1 l) + ∑ i : Fin 64, Ideal.tanh (M (ix3 b s (wc i))) * C (ix2 i l) := by
  unfold wc
  pointwise [rawW, every]
theorem rawA_apply (M : FVec Ideal S8x4096x1792 .f32) (B : FVec Ideal S512 .f32) (C : FVec Ideal S64x512 .f32) (b : Fin 8) (s : Fin 4096) (l : Fin 512) :
    (rawA M B C (ix3 b s l) : EReal) = B (ix1 l) + ∑ i : Fin 64, (M (ix3 b s (ac i)) : EReal) * C (ix2 i l) := by
  unfold ac
  pointwise [rawA, every]
theorem rawV_apply (V : FVec Ideal S8x4096x512 .f32) (B : FVec Ideal S512 .f32) (C : FVec Ideal S512x32 .f32) (D : FVec Ideal S32x512 .f32) (b : Fin 8) (s : Fin 4096) (l : Fin 512) :
    (rawV V B C D (ix3 b s l) : EReal) = B (ix1 l) + ∑ e : Fin 32, (∑ j : Fin 512, (V (ix3 b s j) : EReal) * C (ix2 j e)) * D (ix2 e l) := by
  pointwise [rawV, every]
theorem vals_apply (M : FVec Ideal S8x4096x1792 .f32) (b : Fin 8) (s : Fin 4096) (l : Fin 512) : (vals M (ix3 b s l) : EReal) = M (ix3 b s (vc l)) := by
  unfold vc
  pointwise [vals]
theorem valv_apply (V F : FVec Ideal S8x4096x512 .f32) (B : FVec Ideal S512 .f32) (C : FVec Ideal S512x32 .f32) (D : FVec Ideal S32x512 .f32) (b : Fin 8) (s : Fin 4096) (l : Fin 512) :
    (valv V F B C D (ix3 b s l) : EReal) = mix (V (ix3 b s l)) (F (ix3 b s l)) (gate (B (ix1 l) + ∑ e : Fin 32, (∑ j : Fin 512, (V (ix3 b s j) : EReal) * C (ix2 j e)) * D (ix2 e l))) := by
  rw [← rawV_apply, ← lgst_apply]
  unfold valv
  generalize lgst (rawV V B C D) = L
  unfold mix
  pointwise []
theorem gat_apply (M : FVec Ideal S8x4096x1792 .f32) (C : FVec Ideal S128x512 .f32) (b : Fin 8) (s : Fin 4096) (l : Fin 512) :
    (gat M C (ix3 b s l) : EReal) = ∑ i : Fin 128, gate (M (ix3 b s (gc i))) * C (ix2 i l) := by
  have h : ∀ i : Fin 128, (lgst' (extractStridedSlice S8x4096x128 ![0, 0, 1664] M slices_S8x4096x1792_S8x4096x128_0_0_1664) (ix3 b s i) : EReal) = gate (M (ix3 b s (gc i))) := fun i => by
    rw [lgst'_apply]
    unfold gc
    refine congrArg gate ?_
    pointwise []
  simp only [← h]
  unfold gat
  generalize lgst' (extractStridedSlice S8x4096x128 ![0, 0, 1664] M slices_S8x4096x1792_S8x4096x128_0_0_1664) = L
  pointwise []

section
variable (R : Fin 32768) (b : Fin 8) (s : Fin 4096) (hR : R.val = 4096 * b.val + s.val)
include hR
theorem flat_apply (Y : FVec Ideal S8x4096x512 .f32) (l : Fin 512) : (flat Y (ix2 R l) : EReal) = Y (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [flat]
  simp only [e1, e2]
theorem resR_apply (M : FVec Ideal S8x4096x1792 .f32) (l : Fin 512) : (resR M (ix2 R l) : EReal) = M (ix3 b s (rc l)) := by
  unfold resR
  rw [flat_apply R b s hR]
  unfold rc
  pointwise []
theorem resK_apply (M : FVec Ideal S8x4096x1792 .f32) (l : Fin 512) : (resK M (ix2 R l) : EReal) = M (ix3 b s (kc l)) := by
  unfold resK
  rw [flat_apply R b s hR]
  unfold kc
  pointwise []
theorem resW_apply (M : FVec Ideal S8x4096x1792 .f32) (B : FVec Ideal S512 .f32) (C : FVec Ideal S64x512 .f32) (l : Fin 512) :
    (resW M B C (ix2 R l) : EReal) = fW B C (fun k => M (ix3 b s k)) l := by
  unfold resW fW
  rw [flat_apply R b s hR, dec_apply, rawW_apply]
theorem resA_apply (M : FVec Ideal S8x4096x1792 .f32) (B : FVec Ideal S512 .f32) (C : FVec Ideal S64x512 .f32) (l : Fin 512) :
    (resA M B C (ix2 R l) : EReal) = fA B C (fun k => M (ix3 b s k)) l := by
  unfold resA fA
  rw [flat_apply R b s hR, lgst_apply, rawA_apply]
theorem resG_apply (M : FVec Ideal S8x4096x1792 .f32) (C : FVec Ideal S128x512 .f32) (l : Fin 512) :
    (resG M C (ix2 R l) : EReal) = fG C (fun k => M (ix3 b s k)) l := by
  unfold resG fG
  rw [flat_apply R b s hR, gat_apply]
theorem resV_apply (M : FVec Ideal S8x4096x1792 .f32) (F : FVec Ideal S8x4096x512 .f32) (B : FVec Ideal S512 .f32) (C : FVec Ideal S512x32 .f32) (D : FVec Ideal S32x512 .f32) (l : Fin 512) :
    (resV M F B C D (ix2 R l) : EReal) = fV B C D (fun k => M (ix3 b s k)) (F (ix3 b s l)) l := by
  unfold resV fV
  rw [flat_apply R b s hR, valv_apply]
  simp only [vals_apply]
end
end Cert.Reference5Ideal.Prep
-- ==== Proof.RwkvKernel.lean ====
module
public import proofs.«01_k».proof.Proof.Gen.Kernel5Ideal.Value
public import proofs.«01_k».proof.Proof.RwkvRef
public import proofs.«01_k».proof.Proof.SsmKernel
public import Idealize.ShloMosaic.Lib.Pipeline.ValueKit
public import Idealize.ShloMosaic.Lib.Pipeline.ReadBack
@[expose] public section
set_option maxRecDepth 16384
noncomputable section
namespace Cert.Kernel5Ideal.Prep
open Cert.Kernel5Ideal Cert.Kernel5Ideal.Gen Cert.Layer
open Cert.Reference5Ideal.Prep (rc kc vc wc ac gc)
open Idealize.ShloMosaic Idealize.ShloMosaic.TcCoe Idealize.SL.Sem

/-! # The kernel's step, over a tile's blocks and the row carried from the tile before -/

/-- The entry one row before row `r` of a tile, the carried one for the first row. -/
def back (u : Fin 512 → EReal) (p : EReal) (r : Fin 512) : EReal :=
  if r.val = 0 then p else u ⟨r.val - 1, Nat.lt_of_le_of_lt (Nat.sub_le _ _) r.isLt⟩

theorem pick (n : ℕ) (h : n < 512) (a b : EReal) : Scalar.select (α := EReal) (IntOp.cmpi CmpIPredicate.eq (BitVec.ofNat 32 n) 0#32) a b = if n = 0 then a else b := by
  by_cases h0 : n = 0
  · subst h0
    rfl
  · have hb : (BitVec.ofNat 32 n == 0#32) = false := by
      rw [beq_eq_false_iff_ne]
      intro hc
      have := congrArg BitVec.toNat hc
      simp only [BitVec.toNat_ofNat] at this
      omega
    rw [if_neg h0]
    simp [Scalar.select, IntOp.cmpi, hb]

/-- A group of columns drawn towards the row before. -/
def dr (U : FVec Ideal S512x512 .f32) (P u : FVec Ideal S1x512 .f32) : FVec Ideal S512x512 .f32 :=
  addf U (mulf (subf (select (cmpi .eq (iota .tc S512x512 32 [0] iota_S512x512_d0_w32) (broadcast S512x512 0#32)) (broadcastTo S512x512 (shapeCast S1x512 P shapeCasts_S1x512_S1x512) broadcasts_S1x512_S512x512) (dynamicRotate 0 1#32 none U rotates_S512x512_d0)) U) (broadcastTo S512x512 (shapeCast S1x512 u shapeCasts_S1x512_S1x512) broadcasts_S1x512_S512x512))
theorem dr_apply (U : FVec Ideal S512x512 .f32) (P u : FVec Ideal S1x512 .f32) (r : Fin 512) (l : Fin 512) :
    (dr U P u (ix2 r l) : EReal) = mix (U (ix2 r l)) (back (fun r => U (ix2 r l)) (P (ix2 0 l)) r) (u (ix2 0 l)) := by
  have hr := r.isLt
  unfold mix back
  pointwise [dr]
  refine congrArg (fun z : EReal => (U (ix2 r l) : EReal) + (z - (U (ix2 r l) : EReal)) * (u (ix2 0 l) : EReal)) ?_
  refine (pick r.val hr _ _).trans ?_
  by_cases h : r.val = 0
  · rw [if_pos h, if_pos h]
  · rw [if_neg h, if_neg h]
    exact congrArg (fun a => U (ix2 a l)) (Fin.ext (by show (r.val + 512 - 1) % 512 = r.val - 1; omega))

/-- A group of columns drawn towards the row before. -/
def dr' (U : FVec Ideal S512x256 .f32) (P u : FVec Ideal S1x256 .f32) : FVec Ideal S512x256 .f32 :=
  addf U (mulf (subf (select (cmpi .eq (iota .tc S512x256 32 [0] iota_S512x256_d0_w32) (broadcast S512x256 0#32)) (broadcastTo S512x256 (shapeCast S1x256 P shapeCasts_S1x256_S1x256) broadcasts_S1x256_S512x256) (dynamicRotate 0 1#32 none U rotates_S512x256_d0)) U) (broadcastTo S512x256 (shapeCast S1x256 u shapeCasts_S1x256_S1x256) broadcasts_S1x256_S512x256))
theorem dr'_apply (U : FVec Ideal S512x256 .f32) (P u : FVec Ideal S1x256 .f32) (r : Fin 512) (l : Fin 256) :
    (dr' U P u (ix2 r l) : EReal) = mix (U (ix2 r l)) (back (fun r => U (ix2 r l)) (P (ix2 0 l)) r) (u (ix2 0 l)) := by
  have hr := r.isLt
  unfold mix back
  pointwise [dr']
  refine congrArg (fun z : EReal => (U (ix2 r l) : EReal) + (z - (U (ix2 r l) : EReal)) * (u (ix2 0 l) : EReal)) ?_
  refine (pick r.val hr _ _).trans ?_
  by_cases h : r.val = 0
  · rw [if_pos h, if_pos h]
  · rw [if_neg h, if_neg h]
    exact congrArg (fun a => U (ix2 a l)) (Fin.ext (by show (r.val + 512 - 1) % 512 = r.val - 1; omega))

theorem pay11_eq (h : FVec Ideal S512x1024 .bf16) (w : FVec Ideal S1024x512 .bf16) (P u : FVec Ideal S1x512 .f32) :
    k0_pay11 (F := Ideal) h w P u = dr (k0_pay9 h w) P u := rfl
theorem pay19_eq (h : FVec Ideal S512x1024 .bf16) (w : FVec Ideal S1024x512 .bf16) (P u : FVec Ideal S1x512 .f32) :
    k0_pay19 (F := Ideal) h w P u = dr (k0_pay17 h w) P u := rfl
theorem pay22_eq (U : FVec Ideal S512x512 .f32) (P u : FVec Ideal S1x512 .f32) :
    k0_pay22 (F := Ideal) U (iota .tc S512x512 32 [0] iota_S512x512_d0_w32) P u = dr U P u := rfl
theorem pay7_eq (x : FVec Ideal S512x1024 .f32) (g : FVec Ideal S1x1024 .f32) (w : FVec Ideal S1024x256 .bf16) (P u : FVec Ideal S1x256 .f32) :
    k0_pay7 (F := Ideal) (k0_pay4 x g w) (k0_pay6 x g w P) u = dr' (k0_pay4 x g w) P u := rfl

theorem pay3_apply (x : FVec Ideal S512x1024 .f32) (g : FVec Ideal S1x1024 .f32) (r : Fin 512) (l : Fin 1024) :
    (k0_pay3 (F := Ideal) x g (ix2 r l) : EReal) = nrm (fun j => x (ix2 r j)) (fun j => g (ix2 0 j)) l := by
  unfold nrm
  pointwise [k0_pay3]
theorem pay4_apply (x : FVec Ideal S512x1024 .f32) (g : FVec Ideal S1x1024 .f32) (w : FVec Ideal S1024x256 .bf16) (r : Fin 512) (l : Fin 256) :
    (k0_pay4 (F := Ideal) x g w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay4, hh]
theorem pay9_apply (x : FVec Ideal S512x1024 .f32) (g : FVec Ideal S1x1024 .f32) (w : FVec Ideal S1024x512 .bf16) (r l : Fin 512) :
    (k0_pay9 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay9]
theorem pay17_apply (x : FVec Ideal S512x1024 .f32) (g : FVec Ideal S1x1024 .f32) (w : FVec Ideal S1024x512 .bf16) (r l : Fin 512) :
    (k0_pay17 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay17]
theorem pay20_apply (x : FVec Ideal S512x1024 .f32) (g : FVec Ideal S1x1024 .f32) (w : FVec Ideal S1024x512 .bf16) (r l : Fin 512) :
    (k0_pay20 (F := Ideal) (k0_pay3 x g) w (ix2 r l) : EReal) = proj (fun j => x (ix2 r j)) (fun j => g (ix2 0 j)) (fun j => w (ix2 j l)) := by
  unfold proj
  simp only [← pay3_apply]
  generalize hh : k0_pay3 (F := Ideal) x g = h
  pointwise [k0_pay20]

/-- The last row of a group of columns. -/
theorem pay5_apply (x : FVec Ideal S512x1024 .f32) (g : FVec Ideal S1x1024 .f32) (w : FVec Ideal S1024x256 .bf16) (a : Fin 1) (l : Fin 256) :
    (k0_pay5 (F := Ideal) x g w (ix2 a l) : EReal) = proj (fun j => x (ix2 511 j)) (fun j => g (ix2 0 j)) (fun j => w (ix2 j l)) := by
  obtain rfl : a = 0 := Subsingleton.elim _ _
  refine Eq.trans ?_ (pay4_apply x g w 511 l)
  unfold k0_pay5
  generalize k0_pay4 (F := Ideal) x g w = U
  pointwise []
theorem pay10_apply (x : FVec Ideal S512x1024 .f32) (g : FVec Ideal S1x1024 .f32) (w : FVec Ideal S1024x512 .bf16) (a : Fin 1) (l : Fin 512) :
    (k0_pay10 (F := Ideal) (k0_pay3 x g) w (ix2 a l) : EReal) = proj (fun j => x (ix2 511 j)) (fun j => g (ix2 0 j)) (fun j => w (ix2 j l)) := by
  obtain rfl : a = 0 := Subsingleton.elim _ _
  refine Eq.trans ?_ (pay9_apply x g w 511 l)
  unfold k0_pay10
  generalize k0_pay9 (F := Ideal) (k0_pay3 x g) w = U
  pointwise []
theorem pay18_apply (x : FVec Ideal S512x1024 .f32) (g : FVec Ideal S1x1024 .f32) (w : FVec Ideal S1024x512 .bf16) (a : Fin 1) (l : Fin 512) :
    (k0_pay18 (F := Ideal) (k0_pay3 x g) w (ix2 a l) : EReal) = proj (fun j => x (ix2 511 j)) (fun j => g (ix2 0 j)) (fun j => w (ix2 j l)) := by
  obtain rfl : a = 0 := Subsingleton.elim _ _
  refine Eq.trans ?_ (pay17_apply x g w 511 l)
  unfold k0_pay18
  generalize k0_pay17 (F := Ideal) (k0_pay3 x g) w = U
  pointwise []
theorem pay21_apply (x : FVec Ideal S512x1024 .f32) (g : FVec Ideal S1x1024 .f32) (w : FVec Ideal S1024x512 .bf16) (a : Fin 1) (l : Fin 512) :
    (k0_pay21 (F := Ideal) (k0_pay20 (k0_pay3 x g) w) (ix2 a l) : EReal) = proj (fun j => x (ix2 511 j)) (fun j => g (ix2 0 j)) (fun j => w (ix2 j l)) := by
  obtain rfl : a = 0 := Subsingleton.elim _ _
  refine Eq.trans ?_ (pay20_apply x g w 511 l)
  generalize k0_pay20 (F := Ideal) (k0_pay3 x g) w = U
  pointwise [k0_pay21]

/-! The gates, over the columns drawn. -/
def lo (i : Fin 128) : Fin 256 := ⟨i.val, by have := i.isLt; omega⟩
def hi (i : Fin 128) : Fin 256 := ⟨128 + i.val, by have := i.isLt; omega⟩
theorem pay12_apply (A D : FVec Ideal S512x256 .f32) (u : FVec Ideal S1x256 .f32) (B : FVec Ideal S1x512 .f32) (C : FVec Ideal S128x512 .bf16) (r l : Fin 512) :
    (k0_pay12 (F := Ideal) A D u B C (ix2 r l) : EReal) = -((B (ix2 0 l) : EReal) + ∑ i : Fin 128, Ideal.tanh (k0_pay7 A D u (ix2 r (lo i))) * C (ix2 i l)) := by
  unfold k0_pay12 k0_pay8 lo
  generalize k0_pay7 (F := Ideal) A D u = M
  pointwise []
  simp only [zero_sub]
theorem pay13_apply (Z : FVec Ideal S512x512 .f32) (r l : Fin 512) (z : EReal) (h : (Z (ix2 r l) : EReal) = -z) :
    (k0_pay13 (F := Ideal) Z (ix2 r l) : EReal) = decay z := by
  unfold decay soft
  rw [← h]
  pointwise [k0_pay13]
  simp only [zero_sub]
  try rfl
theorem pay14_apply (A D : FVec Ideal S512x256 .f32) (u : FVec Ideal S1x256 .f32) (B : FVec Ideal S1x512 .f32) (C : FVec Ideal S128x512 .bf16) (r l : Fin 512) :
    (k0_pay14 (F := Ideal) (k0_pay8 A D u) B C (ix2 r l) : EReal) = gate ((B (ix2 0 l) : EReal) + ∑ i : Fin 128, (k0_pay7 A D u (ix2 r (lo i)) : EReal) * C (ix2 i l)) := by
  unfold k0_pay8 lo gate
  generalize k0_pay7 (F := Ideal) A D u = M
  pointwise [k0_pay14]
  simp only [zero_sub]
theorem pay16_apply (M : FVec Ideal S512x256 .f32) (C : FVec Ideal S128x512 .bf16) (r l : Fin 512) :
    (k0_pay16 (F := Ideal) (k0_pay15 M) (FloatOps.ofBits FTy.f32 1065353216#32) C (ix2 r l) : EReal) = ∑ i : Fin 128, gate (M (ix2 r (hi i))) * C (ix2 i l) := by
  unfold hi gate
  pointwise [k0_pay16, k0_pay15]
  simp only [zero_sub]
  try rfl
theorem pay23_apply (U : FVec Ideal S512x512 .f32) (P u B : FVec Ideal S1x512 .f32) (C : FVec Ideal S512x128 .bf16) (E : FVec Ideal S128x512 .bf16) (r l : Fin 512) :
    (k0_pay23 (F := Ideal) U (iota .tc S512x512 32 [0] iota_S512x512_d0_w32) P u B C E (ix2 r l) : EReal) = gate ((B (ix2 0 l) : EReal) + ∑ e : Fin 128, (∑ j : Fin 512, (dr U P u (ix2 r j) : EReal) * C (ix2 j e)) * E (ix2 e l)) := by
  unfold k0_pay23 gate
  rw [pay22_eq]
  generalize dr U P u = V
  pointwise []
  simp only [zero_sub]
theorem pay1_apply (V G F : FVec Ideal S512x512 .f32) (r l : Fin 512) :
    (k0_pay1 (F := Ideal) V G (k0_pay24 F) (ix2 r l) : EReal) = mix (V (ix2 r l)) (F (ix2 r l)) (G (ix2 r l)) := by
  unfold mix
  pointwise [k0_pay1, k0_pay24]

/-- Column `l` of the last group. -/
def cq (l : Fin 256) : Fin 1792 := ⟨1536 + l.val, by have := l.isLt; omega⟩

section
variable (x0 : FVec Ideal S512x1024 .f32) (x1 : FVec Ideal S1x1024 .f32) (x2 : FVec Ideal S1024x1792 .bf16) (x3 Q : FVec Ideal S1x1792 .f32)

/-- Column `k` of the tile's projection. -/
def pre (k : Fin 1792) (r : Fin 512) : EReal := proj (fun j => x0 (ix2 r j)) (fun j => x1 (ix2 0 j)) (fun j => x2 (ix2 j k))
/-- And drawn towards the row before. -/
def loc (r : Fin 512) (k : Fin 1792) : EReal := mix (pre x0 x1 x2 k r) (back (pre x0 x1 x2 k) (Q (ix2 0 k)) r) (x3 (ix2 0 k))

/-! The slices that the body loads. -/
def wr : FVec Ideal S1024x512 .bf16 := View.ld (Val := Elt Ideal) (e' := .bf16) x2 (Rect.unit ![0, 0] ![1024, 512] inb_S1024x1792_S1024x512_0_0)
theorem wr_apply (j : Fin 1024) (l : Fin 512) : (wr x2 (ix2 j l) : EReal) = x2 (ix2 j (rc l)) := by
  refine congrArg x2 ?_
  funext a
  fin_cases a <;> exact Fin.ext (by simp [rc, ix2]; try omega)
/-- Of the carried row and of the weights of the shift. -/
def pr (Q : FVec Ideal S1x1792 .f32) : FVec Ideal S1x512 .f32 := View.ld (Val := Elt Ideal) (e' := .f32) Q (Rect.unit ![0, 0] ![1, 512] inb_S1x1792_S1x512_0_0)
theorem pr_apply (Q : FVec Ideal S1x1792 .f32) (l : Fin 512) : (pr Q (ix2 0 l) : EReal) = Q (ix2 0 (rc l)) := by
  refine congrArg Q ?_
  funext a
  fin_cases a <;> exact Fin.ext (by simp [rc, ix2]; try omega)
def wk : FVec Ideal S1024x512 .bf16 := View.ld (Val := Elt Ideal) (e' := .bf16) x2 (Rect.unit ![0, 512] ![1024, 512] inb_S1024x1792_S1024x512_0_512)
theorem wk_apply (j : Fin 1024) (l : Fin 512) : (wk x2 (ix2 j l) : EReal) = x2 (ix2 j (kc l)) := by
  refine congrArg x2 ?_
  funext a
  fin_cases a <;> exact Fin.ext (by simp [kc, ix2]; try omega)
/-- Of the carried row and of the weights of the shift. -/
def pk (Q : FVec Ideal S1x1792 .f32) : FVec Ideal S1x512 .f32 := View.ld (Val := Elt Ideal) (e' := .f32) Q (Rect.unit ![0, 512] ![1, 512] inb_S1x1792_S1x512_0_512)
theorem pk_apply (Q : FVec Ideal S1x1792 .f32) (l : Fin 512) : (pk Q (ix2 0 l) : EReal) = Q (ix2 0 (kc l)) := by
  refine congrArg Q ?_
  funext a
  fin_cases a <;> exact Fin.ext (by simp [kc, ix2]; try omega)
def wv : FVec Ideal S1024x512 .bf16 := View.ld (Val := Elt Ideal) (e' := .bf16) x2 (Rect.unit ![0, 1024] ![1024, 512] inb_S1024x1792_S1024x512_0_1024)
theorem wv_apply (j : Fin 1024) (l : Fin 512) : (wv x2 (ix2 j l) : EReal) = x2 (ix2 j (vc l)) := by
  refine congrArg x2 ?_
  funext a
  fin_cases a <;> exact Fin.ext (by simp [vc, ix2]; try omega)
/-- Of the carried row and of the weights of the shift. -/
def pv (Q : FVec Ideal S1x1792 .f32) : FVec Ideal S1x512 .f32 := View.ld (Val := Elt Ideal) (e' := .f32) Q (Rect.unit ![0, 1024] ![1, 512] inb_S1x1792_S1x512_0_1024)
theorem pv_apply (Q : FVec Ideal S1x1792 .f32) (l : Fin 512) : (pv Q (ix2 0 l) : EReal) = Q (ix2 0 (vc l)) := by
  refine congrArg Q ?_
  funext a
  fin_cases a <;> exact Fin.ext (by simp [vc, ix2]; try omega)
def ww : FVec Ideal S1024x256 .bf16 := View.ld (Val := Elt Ideal) (e' := .bf16) x2 (Rect.unit ![0, 1536] ![1024, 256] inb_S1024x1792_S1024x256_0_1536)
theorem ww_apply (j : Fin 1024) (l : Fin 256) : (ww x2 (ix2 j l) : EReal) = x2 (ix2 j (cq l)) := by
  refine congrArg x2 ?_
  funext a
  fin_cases a <;> exact Fin.ext (by simp [cq, ix2]; try omega)
/-- Of the carried row and of the weights of the shift. -/
def pw (Q : FVec Ideal S1x1792 .f32) : FVec Ideal S1x256 .f32 := View.ld (Val := Elt Ideal) (e' := .f32) Q (Rect.unit ![0, 1536] ![1, 256] inb_S1x1792_S1x256_0_1536)
theorem pw_apply (Q : FVec Ideal S1x1792 .f32) (l : Fin 256) : (pw Q (ix2 0 l) : EReal) = Q (ix2 0 (cq l)) := by
  refine congrArg Q ?_
  funext a
  fin_cases a <;> exact Fin.ext (by simp [cq, ix2]; try omega)
theorem at_r (r : Fin 512) (l : Fin 512) : (dr (k0_pay9 (k0_pay3 x0 x1) (wr x2)) (pr Q) (pr x3) (ix2 r l) : EReal) = loc x0 x1 x2 x3 Q r (rc l) := by
  rw [dr_apply]
  unfold loc pre
  simp only [pr_apply, pay9_apply, wr_apply]
theorem at_k (r : Fin 512) (l : Fin 512) : (dr (k0_pay17 (k0_pay3 x0 x1) (wk x2)) (pk Q) (pk x3) (ix2 r l) : EReal) = loc x0 x1 x2 x3 Q r (kc l) := by
  rw [dr_apply]
  unfold loc pre
  simp only [pk_apply, pay17_apply, wk_apply]
theorem at_v (r : Fin 512) (l : Fin 512) : (dr (k0_pay20 (k0_pay3 x0 x1) (wv x2)) (pv Q) (pv x3) (ix2 r l) : EReal) = loc x0 x1 x2 x3 Q r (vc l) := by
  rw [dr_apply]
  unfold loc pre
  simp only [pv_apply, pay20_apply, wv_apply]
theorem at_w (r : Fin 512) (l : Fin 256) : (dr' (k0_pay4 x0 x1 (ww x2)) (pw Q) (pw x3) (ix2 r l) : EReal) = loc x0 x1 x2 x3 Q r (cq l) := by
  rw [dr'_apply]
  unfold loc pre
  simp only [pw_apply, pay4_apply, ww_apply]
theorem last_r (x : S1x512.Idx) (k : Fin 1792) (h1 : k.val = 0 + (x 1).val) :
    (k0_pay10 (F := Ideal) (k0_pay3 x0 x1) (wr x2) x : EReal) = pre x0 x1 x2 k 511 := by
  obtain ⟨a', l', rfl⟩ := Cert.Kernel4Ideal.Prep.ix2_of x
  obtain rfl : k = rc l' := Fin.ext (h1.trans (by simp [rc, ix2]))
  refine (pay10_apply x0 x1 (wr x2) a' l').trans ?_
  unfold pre
  simp only [wr_apply]
theorem last_k (x : S1x512.Idx) (k : Fin 1792) (h1 : k.val = 512 + (x 1).val) :
    (k0_pay18 (F := Ideal) (k0_pay3 x0 x1) (wk x2) x : EReal) = pre x0 x1 x2 k 511 := by
  obtain ⟨a', l', rfl⟩ := Cert.Kernel4Ideal.Prep.ix2_of x
  obtain rfl : k = kc l' := Fin.ext (h1.trans (by simp [kc, ix2]))
  refine (pay18_apply x0 x1 (wk x2) a' l').trans ?_
  unfold pre
  simp only [wk_apply]
theorem last_v (x : S1x512.Idx) (k : Fin 1792) (h1 : k.val = 1024 + (x 1).val) :
    (k0_pay21 (F := Ideal) (k0_pay20 (k0_pay3 x0 x1) (wv x2)) x : EReal) = pre x0 x1 x2 k 511 := by
  obtain ⟨a', l', rfl⟩ := Cert.Kernel4Ideal.Prep.ix2_of x
  obtain rfl : k = vc l' := Fin.ext (h1.trans (by simp [vc, ix2]))
  refine (pay21_apply x0 x1 (wv x2) a' l').trans ?_
  unfold pre
  simp only [wv_apply]
theorem last_w (x : S1x256.Idx) (k : Fin 1792) (h1 : k.val = 1536 + (x 1).val) :
    (k0_pay5 (F := Ideal) x0 x1 (ww x2) x : EReal) = pre x0 x1 x2 k 511 := by
  obtain ⟨a', l', rfl⟩ := Cert.Kernel4Ideal.Prep.ix2_of x
  obtain rfl : k = cq l' := Fin.ext (h1.trans (by simp [cq, ix2]))
  refine (pay5_apply x0 x1 (ww x2) a' l').trans ?_
  unfold pre
  simp only [ww_apply]

/-! The six results of a step. -/
theorem val_r (r l : Fin 512) : (k0_pay11 (F := Ideal) (k0_pay3 x0 x1) (wr x2) (pr Q) (pr x3) (ix2 r l) : EReal) = loc x0 x1 x2 x3 Q r (rc l) := by
  rw [pay11_eq]
  exact at_r x0 x1 x2 x3 Q r l
theorem val_k (r l : Fin 512) : (k0_pay19 (F := Ideal) (k0_pay3 x0 x1) (wk x2) (pk Q) (pk x3) (ix2 r l) : EReal) = loc x0 x1 x2 x3 Q r (kc l) := by
  rw [pay19_eq]
  exact at_k x0 x1 x2 x3 Q r l
theorem val_w (x4 : FVec Ideal S1x512 .f32) (x5 : FVec Ideal S128x512 .bf16) (r l : Fin 512) :
    (k0_pay13 (F := Ideal) (k0_pay12 (k0_pay4 x0 x1 (ww x2)) (k0_pay6 x0 x1 (ww x2) (pw Q)) (pw x3) x4 x5) (ix2 r l) : EReal) =
      decay ((x4 (ix2 0 l) : EReal) + ∑ i : Fin 128, Ideal.tanh (loc x0 x1 x2 x3 Q r (cq (lo i))) * x5 (ix2 i l)) := by
  refine pay13_apply _ r l _ ?_
  rw [pay12_apply, pay7_eq]
  simp only [at_w]
theorem val_a (x6 : FVec Ideal S1x512 .f32) (x7 : FVec Ideal S128x512 .bf16) (r l : Fin 512) :
    (k0_pay14 (F := Ideal) (k0_pay8 (k0_pay4 x0 x1 (ww x2)) (k0_pay6 x0 x1 (ww x2) (pw Q)) (pw x3)) x6 x7 (ix2 r l) : EReal) =
      gate ((x6 (ix2 0 l) : EReal) + ∑ i : Fin 128, loc x0 x1 x2 x3 Q r (cq (lo i)) * x7 (ix2 i l)) := by
  rw [pay14_apply, pay7_eq]
  simp only [at_w]
theorem val_g (x8 : FVec Ideal S128x512 .bf16) (r l : Fin 512) :
    (k0_pay16 (F := Ideal) (k0_pay15 (k0_pay7 (k0_pay4 x0 x1 (ww x2)) (k0_pay6 x0 x1 (ww x2) (pw Q)) (pw x3))) (FloatOps.ofBits FTy.f32 1065353216#32) x8 (ix2 r l) : EReal) =
      ∑ i : Fin 128, gate (loc x0 x1 x2 x3 Q r (cq (hi i))) * x8 (ix2 i l) := by
  rw [pay16_apply, pay7_eq]
  simp only [at_w]
theorem val_v (x9 : FVec Ideal S512x512 .f32) (x10 : FVec Ideal S1x512 .f32) (x11 : FVec Ideal S512x128 .bf16) (x12 : FVec Ideal S128x512 .bf16) (r l : Fin 512) :
    (k0_pay1 (F := Ideal) (k0_pay22 (k0_pay20 (k0_pay3 x0 x1) (wv x2)) (iota .tc S512x512 32 [0] iota_S512x512_d0_w32) (pv Q) (pv x3)) (k0_pay23 (k0_pay20 (k0_pay3 x0 x1) (wv x2)) (iota .tc S512x512 32 [0] iota_S512x512_d0_w32) (pv Q) (pv x3) x10 x11 x12) (k0_pay24 x9) (ix2 r l) : EReal) =
      mix (loc x0 x1 x2 x3 Q r (vc l)) (x9 (ix2 r l)) (gate ((x10 (ix2 0 l) : EReal) + ∑ e : Fin 128, (∑ j : Fin 512, loc x0 x1 x2 x3 Q r (vc j) * x11 (ix2 j e)) * x12 (ix2 e l))) := by
  rw [pay1_apply, pay23_apply, pay22_eq]
  simp only [at_v]
end

variable (m : (ℓ : Loc nD τ sig) → Buf (Elt Ideal) ℓ) (c : Dev nD)
/-- The carried row that a point finds. -/
def prev (t : Fin cfg0.N) : FVec Ideal S1x1792 .f32 := if t.val % 8 = 0 then k0_pay2 else (outsAt0 m c (t.val - 1) (Nat.lt_of_le_of_lt (Nat.sub_le _ _) t.isLt)).2.2.2.2.2.2
/-! The results, over the columns drawn `h` of a row. -/
def eW (B : FVec Ideal S1x512 .f32) (C : FVec Ideal S128x512 .bf16) (h : Fin 1792 → EReal) (l : Fin 512) : EReal :=
  decay ((B (ix2 0 l) : EReal) + ∑ i : Fin 128, Ideal.tanh (h (cq (lo i))) * C (ix2 i l))
def eA (B : FVec Ideal S1x512 .f32) (C : FVec Ideal S128x512 .bf16) (h : Fin 1792 → EReal) (l : Fin 512) : EReal :=
  gate ((B (ix2 0 l) : EReal) + ∑ i : Fin 128, h (cq (lo i)) * C (ix2 i l))
def eG (C : FVec Ideal S128x512 .bf16) (h : Fin 1792 → EReal) (l : Fin 512) : EReal :=
  ∑ i : Fin 128, gate (h (cq (hi i))) * C (ix2 i l)
def eV (F : FVec Ideal S512x512 .f32) (B : FVec Ideal S1x512 .f32) (C : FVec Ideal S512x128 .bf16) (E : FVec Ideal S128x512 .bf16) (h : Fin 1792 → EReal) (r l : Fin 512) : EReal :=
  mix (h (vc l)) (F (ix2 r l)) (gate ((B (ix2 0 l) : EReal) + ∑ e : Fin 128, (∑ j : Fin 512, h (vc j) * C (ix2 j e)) * E (ix2 e l)))

/-- The four pieces written to the carried row cover it. -/
theorem cover (p1 p2 p3 : Vec Ideal S1x512 .f32) (p4 : Vec Ideal S1x256 .f32) (l : Fin 1792) :
    ∃ p ∈ ([⟨Rect.unit ![0, 1024] ![1, 512] inb_S1x1792_S1x512_0_1024, p1⟩, ⟨Rect.unit ![0, 512] ![1, 512] inb_S1x1792_S1x512_0_512, p2⟩, ⟨Rect.unit ![0, 0] ![1, 512] inb_S1x1792_S1x512_0_0, p3⟩, ⟨Rect.unit ![0, 1536] ![1, 256] inb_S1x1792_S1x256_0_1536, p4⟩] : List (View.Piece (Elt Ideal) S1x1792 .f32)), (ix2 0 l : S1x1792.Idx) ∈ p.1.set := by
  have hl := l.isLt
  by_cases h1 : l.val < 512
  · refine ⟨_, List.mem_cons_of_mem _ (List.mem_cons_of_mem _ (List.mem_cons_self)), ?_⟩
    rw [Rect.mem_set_unit]
    intro a
    fin_cases a <;> simp [ix2] <;> omega
  by_cases h2 : l.val < 1024
  · refine ⟨_, List.mem_cons_of_mem _ (List.mem_cons_self), ?_⟩
    rw [Rect.mem_set_unit]
    intro a
    fin_cases a <;> simp [ix2] <;> omega
  by_cases h3 : l.val < 1536
  · refine ⟨_, List.mem_cons_self, ?_⟩
    rw [Rect.mem_set_unit]
    intro a
    fin_cases a <;> simp [ix2] <;> omega
  · refine ⟨_, List.mem_cons_of_mem _ (List.mem_cons_of_mem _ (List.mem_cons_of_mem _ (List.mem_cons_self))), ?_⟩
    rw [Rect.mem_set_unit]
    intro a
    fin_cases a <;> simp [ix2] <;> omega

/-- A column drawn, at a point. -/
def here (t : Fin cfg0.N) (r : Fin 512) (k : Fin 1792) : EReal := loc (iblk m c 0 t) (iblk m c 1 t) (iblk m c 2 t) (iblk m c 3 t) (prev m c t) r k

set_option maxHeartbeats 1600000 in
theorem outR (t : Fin cfg0.N) (r l : Fin 512) : ((outsAt0 m c t.val t.isLt).1 (ix2 r l) : EReal) = here m c t r (rc l) := by
  by_cases h : t.val % 8 = 0
  · rw [outsAt0_A m c t h]; frame_out
    unfold here
    rw [show prev m c t = _ from if_pos h]
    simp (disch := decide) only [View.readCov_skip, View.readCov_fill]
    exact val_r (iblk m c 0 t) (iblk m c 1 t) (iblk m c 2 t) (iblk m c 3 t) _ r l
  · rw [outsAt0_B m c t h]; frame_out
    unfold here
    rw [show prev m c t = _ from if_neg h]
    simp only [read_unread_whole]
    exact val_r (iblk m c 0 t) (iblk m c 1 t) (iblk m c 2 t) (iblk m c 3 t) _ r l
set_option maxHeartbeats 1600000 in
theorem outW (t : Fin cfg0.N) (r l : Fin 512) : ((outsAt0 m c t.val t.isLt).2.1 (ix2 r l) : EReal) = eW (iblk m c 4 t) (iblk m c 5 t) (here m c t r) l := by
  by_cases h : t.val % 8 = 0
  · rw [outsAt0_A m c t h]; frame_out
    unfold here
    rw [show prev m c t = _ from if_pos h]
    simp (disch := decide) only [View.readCov_skip, View.readCov_fill]
    exact val_w (iblk m c 0 t) (iblk m c 1 t) (iblk m c 2 t) (iblk m c 3 t) _ (iblk m c 4 t) (iblk m c 5 t) r l
  · rw [outsAt0_B m c t h]; frame_out
    unfold here
    rw [show prev m c t = _ from if_neg h]
    simp only [read_unread_whole]
    exact val_w (iblk m c 0 t) (iblk m c 1 t) (iblk m c 2 t) (iblk m c 3 t) _ (iblk m c 4 t) (iblk m c 5 t) r l
set_option maxHeartbeats 1600000 in
theorem outK (t : Fin cfg0.N) (r l : Fin 512) : ((outsAt0 m c t.val t.isLt).2.2.1 (ix2 r l) : EReal) = here m c t r (kc l) := by
  by_cases h : t.val % 8 = 0
  · rw [outsAt0_A m c t h]; frame_out
    unfold here
    rw [show prev m c t = _ from if_pos h]
    simp (disch := decide) only [View.readCov_skip, View.readCov_fill]
    exact val_k (iblk m c 0 t) (iblk m c 1 t) (iblk m c 2 t) (iblk m c 3 t) _ r l
  · rw [outsAt0_B m c t h]; frame_out
    unfold here
    rw [show prev m c t = _ from if_neg h]
    simp only [read_unread_whole]
    exact val_k (iblk m c 0 t) (iblk m c 1 t) (iblk m c 2 t) (iblk m c 3 t) _ r l
set_option maxHeartbeats 1600000 in
theorem outV (t : Fin cfg0.N) (r l : Fin 512) : ((outsAt0 m c t.val t.isLt).2.2.2.1 (ix2 r l) : EReal) = eV (iblk m c 9 t) (iblk m c 10 t) (iblk m c 11 t) (iblk m c 12 t) (here m c t r) r l := by
  by_cases h : t.val % 8 = 0
  · rw [outsAt0_A m c t h]; frame_out
    unfold here
    rw [show prev m c t = _ from if_pos h]
    simp (disch := decide) only [View.readCov_skip, View.readCov_fill]
    exact val_v (iblk m c 0 t) (iblk m c 1 t) (iblk m c 2 t) (iblk m c 3 t) _ (iblk m c 9 t) (iblk m c 10 t) (iblk m c 11 t) (iblk m c 12 t) r l
  · rw [outsAt0_B m c t h]; frame_out
    unfold here
    rw [show prev m c t = _ from if_neg h]
    simp only [read_unread_whole]
    exact val_v (iblk m c 0 t) (iblk m c 1 t) (iblk m c 2 t) (iblk m c 3 t) _ (iblk m c 9 t) (iblk m c 10 t) (iblk m c 11 t) (iblk m c 12 t) r l
set_option maxHeartbeats 1600000 in
theorem outA (t : Fin cfg0.N) (r l : Fin 512) : ((outsAt0 m c t.val t.isLt).2.2.2.2.1 (ix2 r l) : EReal) = eA (iblk m c 6 t) (iblk m c 7 t) (here m c t r) l := by
  by_cases h : t.val % 8 = 0
  · rw [outsAt0_A m c t h]; frame_out
    unfold here
    rw [show prev m c t = _ from if_pos h]
    simp (disch := decide) only [View.readCov_skip, View.readCov_fill]
    exact val_a (iblk m c 0 t) (iblk m c 1 t) (iblk m c 2 t) (iblk m c 3 t) _ (iblk m c 6 t) (iblk m c 7 t) r l
  · rw [outsAt0_B m c t h]; frame_out
    unfold here
    rw [show prev m c t = _ from if_neg h]
    simp only [read_unread_whole]
    exact val_a (iblk m c 0 t) (iblk m c 1 t) (iblk m c 2 t) (iblk m c 3 t) _ (iblk m c 6 t) (iblk m c 7 t) r l
set_option maxHeartbeats 1600000 in
theorem outG (t : Fin cfg0.N) (r l : Fin 512) : ((outsAt0 m c t.val t.isLt).2.2.2.2.2.1 (ix2 r l) : EReal) = eG (iblk m c 8 t) (here m c t r) l := by
  by_cases h : t.val % 8 = 0
  · rw [outsAt0_A m c t h]; frame_out
    unfold here
    rw [show prev m c t = _ from if_pos h]
    simp (disch := decide) only [View.readCov_skip, View.readCov_fill]
    exact val_g (iblk m c 0 t) (iblk m c 1 t) (iblk m c 2 t) (iblk m c 3 t) _ (iblk m c 8 t) r l
  · rw [outsAt0_B m c t h]; frame_out
    unfold here
    rw [show prev m c t = _ from if_neg h]
    simp only [read_unread_whole]
    exact val_g (iblk m c 0 t) (iblk m c 1 t) (iblk m c 2 t) (iblk m c 3 t) _ (iblk m c 8 t) r l
theorem outQ (t : Fin cfg0.N) (l : Fin 1792) : ((outsAt0 m c t.val t.isLt).2.2.2.2.2.2 (ix2 0 l) : EReal) = pre (iblk m c 0 t) (iblk m c 1 t) (iblk m c 2 t) l 511 := by
  by_cases h : t.val % 8 = 0
  · rw [outsAt0_A m c t h]; frame_out
    refine (Cert.Kernel4Ideal.Prep.canon_left [_, _, _, _] [_] _ (cover _ _ _ _ l)).trans ?_
    canon_tiles x hx using cover _ _ _ _ l
    · exact last_v (iblk m c 0 t) (iblk m c 1 t) (iblk m c 2 t) x l (by have h : l.val = 1024 + (x 1).val := hx1; exact h)
    · exact last_k (iblk m c 0 t) (iblk m c 1 t) (iblk m c 2 t) x l (by have h : l.val = 512 + (x 1).val := hx1; exact h)
    · exact last_r (iblk m c 0 t) (iblk m c 1 t) (iblk m c 2 t) x l (by have h : l.val = (x 1).val := hx1; show l.val = 0 + _; omega)
    · exact last_w (iblk m c 0 t) (iblk m c 1 t) (iblk m c 2 t) x l (by have h : l.val = 1536 + (x 1).val := hx1; exact h)
  · rw [outsAt0_B m c t h]; frame_out
    canon_tiles x hx using cover _ _ _ _ l
    · exact last_v (iblk m c 0 t) (iblk m c 1 t) (iblk m c 2 t) x l (by have h : l.val = 1024 + (x 1).val := hx1; exact h)
    · exact last_k (iblk m c 0 t) (iblk m c 1 t) (iblk m c 2 t) x l (by have h : l.val = 512 + (x 1).val := hx1; exact h)
    · exact last_r (iblk m c 0 t) (iblk m c 1 t) (iblk m c 2 t) x l (by have h : l.val = (x 1).val := hx1; show l.val = 0 + _; omega)
    · exact last_w (iblk m c 0 t) (iblk m c 1 t) (iblk m c 2 t) x l (by have h : l.val = 1536 + (x 1).val := hx1; exact h)

end Cert.Kernel5Ideal.Prep
-- ==== Proof.Rwkv.lean ====
module
public import proofs.«01_k».proof.Proof.RwkvKernel
public import proofs.«01_k».proof.Proof.Ssm
@[expose] public section
set_option maxRecDepth 16384
noncomputable section
namespace Cert.Kernel5Ideal.Prep
open Cert.Kernel5Ideal Cert.Kernel5Ideal.Gen Cert.Layer
open Cert.Reference5Ideal.Prep (wcol rc kc vc wc ac gc)
open Cert.Reference4Ideal.Prep (zero_cast)
open Cert.Kernel4Ideal.Prep (proj_congr)
open Idealize.ShloMosaic Idealize.ShloMosaic.TcCoe Idealize.SL.Sem

/-! # The step's results are the reference's -/

variable (m : (ℓ : Loc nD τ sig) → Buf (Elt Ideal) ℓ) (c : Dev nD)

/-- The stream, and the first layer's values, as rows of one array, -/
def rows (X : FVec Ideal S8x4096x1024 .f32) : FVec Ideal S32768x1024 .f32 := shapeCast S32768x1024 X shapeCasts_S8x4096x1024_S32768x1024
def rows' (X : FVec Ideal S8x4096x512 .f32) : FVec Ideal S32768x512 .f32 := shapeCast S32768x512 X shapeCasts_S8x4096x512_S32768x512
/-- the gains, the weights of the shift and the biases as rows, -/
def row (G : FVec Ideal S1024 .f32) : FVec Ideal S1x1024 .f32 := shapeCast S1x1024 G shapeCasts_S1024_S1x1024
def row' (U : FVec Ideal S1792 .f32) : FVec Ideal S1x1792 .f32 := shapeCast S1x1792 U shapeCasts_S1792_S1x1792
def row'' (B : FVec Ideal S512 .f32) : FVec Ideal S1x512 .f32 := shapeCast S1x512 B shapeCasts_S512_S1x512
/-- the mixer's columns of the input weights, -/
def cols (W : FVec Ideal S1024x8112 .f32) : FVec Ideal S1024x1792 .bf16 :=
  truncf .bf16 (extractStridedSlice S1024x1792 ![0, 672] W slices_S1024x8112_S1024x1792_0_672) bitsLt_bf16_f32
/-- the weights of the decay above rows of zeros, of the rate below them, -/
def top (C : FVec Ideal S64x512 .f32) : FVec Ideal S128x512 .bf16 :=
  truncf .bf16 (pad S128x512 ![0, 0] ![64, 0] ![0, 0] C (sitofp .f32 (constantI S_ 32 0#32)) pads_S64x512_S128x512_0640_000 h_S_) bitsLt_bf16_f32
def bot (C : FVec Ideal S64x512 .f32) : FVec Ideal S128x512 .bf16 :=
  truncf .bf16 (pad S128x512 ![64, 0] ![0, 0] ![0, 0] C (sitofp .f32 (constantI S_ 32 0#32)) pads_S64x512_S128x512_6400_000 h_S_) bitsLt_bf16_f32
/-- of the output gate, -/
def cst (C : FVec Ideal S128x512 .f32) : FVec Ideal S128x512 .bf16 := truncf .bf16 C bitsLt_bf16_f32
/-- and of the value's gate, with columns and rows of zeros after them. -/
def wide (C : FVec Ideal S512x32 .f32) : FVec Ideal S512x128 .bf16 :=
  truncf .bf16 (pad S512x128 ![0, 0] ![0, 96] ![0, 0] C (sitofp .f32 (constantI S_ 32 0#32)) pads_S512x32_S512x128_000_0960 h_S_) bitsLt_bf16_f32
def tall (C : FVec Ideal S32x512 .f32) : FVec Ideal S128x512 .bf16 :=
  truncf .bf16 (pad S128x512 ![0, 0] ![96, 0] ![0, 0] C (sitofp .f32 (constantI S_ 32 0#32)) pads_S32x512_S128x512_0960_000 h_S_) bitsLt_bf16_f32

theorem rows_apply (X : FVec Ideal S8x4096x1024 .f32) (R : Fin 32768) (l : Fin 1024) (b : Fin 8) (s : Fin 4096) (hR : R.val = 4096 * b.val + s.val) :
    (rows X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows]
  simp only [e1, e2]
theorem rows'_apply (X : FVec Ideal S8x4096x512 .f32) (R : Fin 32768) (l : Fin 512) (b : Fin 8) (s : Fin 4096) (hR : R.val = 4096 * b.val + s.val) :
    (rows' X (ix2 R l) : EReal) = X (ix3 b s l) := by
  have hs := s.isLt
  have e1 : (⟨R.val / 4096, by omega⟩ : Fin 8) = b := Fin.ext (by show R.val / 4096 = b.val; omega)
  have e2 : (⟨R.val % 4096, by omega⟩ : Fin 4096) = s := Fin.ext (by show R.val % 4096 = s.val; omega)
  pointwise [rows']
  simp only [e1, e2]
theorem row_apply (G : FVec Ideal S1024 .f32) (l : Fin 1024) : (row G (ix2 0 l) : EReal) = G (ix1 l) := by
  pointwise [row]
theorem row'_apply (G : FVec Ideal S1792 .f32) (l : Fin 1792) : (row' G (ix2 0 l) : EReal) = G (ix1 l) := by
  pointwise [row']
theorem row''_apply (G : FVec Ideal S512 .f32) (l : Fin 512) : (row'' G (ix2 0 l) : EReal) = G (ix1 l) := by
  pointwise [row'']
theorem cols_apply (W : FVec Ideal S1024x8112 .f32) (j : Fin 1024) (k : Fin 1792) : (cols W (ix2 j k) : EReal) = W (ix2 j (wcol k)) := by
  unfold wcol
  pointwise [cols]
theorem top_apply (C : FVec Ideal S64x512 .f32) (k : Fin 128) (l : Fin 512) : (top C (ix2 k l) : EReal) = if h : k.val < 64 then (C (ix2 ⟨k.val, h⟩ l) : EReal) else 0 := by
  have hk := k.isLt
  pointwise [top]
  rw [zero_cast]
theorem bot_apply (C : FVec Ideal S64x512 .f32) (k : Fin 128) (l : Fin 512) : (bot C (ix2 k l) : EReal) = if h : 64 ≤ k.val then (C (ix2 ⟨k.val - 64, by have := k.isLt; omega⟩ l) : EReal) else 0 := by
  have hk := k.isLt
  pointwise [bot]
  rw [zero_cast]
  by_cases h : 64 ≤ k.val
  · rw [dif_pos h, dif_pos ⟨h, by omega⟩]
  · rw [dif_neg h, dif_neg fun h' => h h'.1]
theorem cst_apply (C : FVec Ideal S128x512 .f32) (k : Fin 128) (l : Fin 512) : (cst C (ix2 k l) : EReal) = C (ix2 k l) := by
  pointwise [cst]
theorem wide_apply (C : FVec Ideal S512x32 .f32) (j : Fin 512) (k : Fin 128) : (wide C (ix2 j k) : EReal) = if h : k.val < 32 then (C (ix2 j ⟨k.val, h⟩) : EReal) else 0 := by
  have hk := k.isLt
  pointwise [wide]
  rw [zero_cast]
theorem tall_apply (C : FVec Ideal S32x512 .f32) (k : Fin 128) (l : Fin 512) : (tall C (ix2 k l) : EReal) = if h : k.val < 32 then (C (ix2 ⟨k.val, h⟩ l) : EReal) else 0 := by
  have hk := k.isLt
  pointwise [tall]
  rw [zero_cast]

theorem V0 : V m c main_v0 = rows (m ((c : Thread nD τ).loc main_arg0)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V1 : V m c main_v1 = row (m ((c : Thread nD τ).loc main_arg1)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V3 : V m c main_v3 = cols (m ((c : Thread nD τ).loc main_arg2)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V4 : V m c main_v4 = row' (m ((c : Thread nD τ).loc main_arg3)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V5 : V m c main_v5 = row'' (m ((c : Thread nD τ).loc main_arg4)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V7 : V m c main_v7 = top (m ((c : Thread nD τ).loc main_arg5)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V8 : V m c main_v8 = row'' (m ((c : Thread nD τ).loc main_arg6)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V10 : V m c main_v10 = bot (m ((c : Thread nD τ).loc main_arg7)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V11 : V m c main_v11 = cst (m ((c : Thread nD τ).loc main_arg8)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V12 : V m c main_v12 = rows' (m ((c : Thread nD τ).loc main_arg9)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V13 : V m c main_v13 = row'' (m ((c : Thread nD τ).loc main_arg10)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V15 : V m c main_v15 = wide (m ((c : Thread nD τ).loc main_arg11)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V17 : V m c main_v17 = tall (m ((c : Thread nD τ).loc main_arg12)) := by
  unfold V
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

/-- Where each window sits at a grid point. -/
theorem widx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![0, 0] ∧ win0_11.index t = ![0, 0] ∧ win0_12.index t = ![0, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

theorem tlt (t : Fin cfg0.N) : t.val < 64 := N_0 ▸ t.isLt

theorem blk0 (t : Fin cfg0.N) (r : Fin 512) (l : Fin 1024) (b : Fin 8) (s : Fin 4096) (h : 512 * t.val + r.val = 4096 * b.val + s.val) :
    (iblk m c 0 t (ix2 r l) : EReal) = (m ((c : Thread nD τ).loc main_arg0)) (ix3 b s l) := by
  have ht := tlt t
  have hr := r.isLt
  refine Eq.trans ?_ (rows_apply (m ((c : Thread nD τ).loc main_arg0)) ⟨512 * t.val + r.val, by omega⟩ l b s h)
  rw [← V0 m c]
  blk_ext [iblk, widx t]
theorem blk1 (t : Fin cfg0.N) (l : Fin 1024) : (iblk m c 1 t (ix2 0 l) : EReal) = (m ((c : Thread nD τ).loc main_arg1)) (ix1 l) := by
  refine Eq.trans ?_ (row_apply (m ((c : Thread nD τ).loc main_arg1)) l)
  rw [← V1 m c]
  blk_ext [iblk, widx t]
theorem blk2 (t : Fin cfg0.N) (j : Fin 1024) (k : Fin 1792) : (iblk m c 2 t (ix2 j k) : EReal) = cols (m ((c : Thread nD τ).loc main_arg2)) (ix2 j k) := by
  rw [← V3 m c]
  blk_ext [iblk, widx t]
theorem blk3 (t : Fin cfg0.N) (l : Fin 1792) : (iblk m c 3 t (ix2 0 l) : EReal) = (m ((c : Thread nD τ).loc main_arg3)) (ix1 l) := by
  refine Eq.trans ?_ (row'_apply (m ((c : Thread nD τ).loc main_arg3)) l)
  rw [← V4 m c]
  blk_ext [iblk, widx t]
theorem blk4 (t : Fin cfg0.N) (l : Fin 512) : (iblk m c 4 t (ix2 0 l) : EReal) = (m ((c : Thread nD τ).loc main_arg4)) (ix1 l) := by
  refine Eq.trans ?_ (row''_apply (m ((c : Thread nD τ).loc main_arg4)) l)
  rw [← V5 m c]
  blk_ext [iblk, widx t]
theorem blk5 (t : Fin cfg0.N) (j : Fin 128) (k : Fin 512) : (iblk m c 5 t (ix2 j k) : EReal) = top (m ((c : Thread nD τ).loc main_arg5)) (ix2 j k) := by
  rw [← V7 m c]
  blk_ext [iblk, widx t]
theorem blk6 (t : Fin cfg0.N) (l : Fin 512) : (iblk m c 6 t (ix2 0 l) : EReal) = (m ((c : Thread nD τ).loc main_arg6)) (ix1 l) := by
  refine Eq.trans ?_ (row''_apply (m ((c : Thread nD τ).loc main_arg6)) l)
  rw [← V8 m c]
  blk_ext [iblk, widx t]
theorem blk7 (t : Fin cfg0.N) (j : Fin 128) (k : Fin 512) : (iblk m c 7 t (ix2 j k) : EReal) = bot (m ((c : Thread nD τ).loc main_arg7)) (ix2 j k) := by
  rw [← V10 m c]
  blk_ext [iblk, widx t]
theorem blk8 (t : Fin cfg0.N) (j : Fin 128) (k : Fin 512) : (iblk m c 8 t (ix2 j k) : EReal) = cst (m ((c : Thread nD τ).loc main_arg8)) (ix2 j k) := by
  rw [← V11 m c]
  blk_ext [iblk, widx t]
theorem blk9 (t : Fin cfg0.N) (r : Fin 512) (l : Fin 512) (b : Fin 8) (s : Fin 4096) (h : 512 * t.val + r.val = 4096 * b.val + s.val) :
    (iblk m c 9 t (ix2 r l) : EReal) = (m ((c : Thread nD τ).loc main_arg9)) (ix3 b s l) := by
  have ht := tlt t
  have hr := r.isLt
  refine Eq.trans ?_ (rows'_apply (m ((c : Thread nD τ).loc main_arg9)) ⟨512 * t.val + r.val, by omega⟩ l b s h)
  rw [← V12 m c]
  blk_ext [iblk, widx t]
theorem blk10 (t : Fin cfg0.N) (l : Fin 512) : (iblk m c 10 t (ix2 0 l) : EReal) = (m ((c : Thread nD τ).loc main_arg10)) (ix1 l) := by
  refine Eq.trans ?_ (row''_apply (m ((c : Thread nD τ).loc main_arg10)) l)
  rw [← V13 m c]
  blk_ext [iblk, widx t]
theorem blk11 (t : Fin cfg0.N) (j : Fin 512) (k : Fin 128) : (iblk m c 11 t (ix2 j k) : EReal) = wide (m ((c : Thread nD τ).loc main_arg11)) (ix2 j k) := by
  rw [← V15 m c]
  blk_ext [iblk, widx t]
theorem blk12 (t : Fin cfg0.N) (j : Fin 128) (k : Fin 512) : (iblk m c 12 t (ix2 j k) : EReal) = tall (m ((c : Thread nD τ).loc main_arg12)) (ix2 j k) := by
  rw [← V17 m c]
  blk_ext [iblk, widx t]

/-- The projection of the token `s` of sequence `b`, at a column of the mixer. -/
def at_ (b : Fin 8) (k : Fin 1792) (s : Fin 4096) : EReal :=
  proj (fun j => (m ((c : Thread nD τ).loc main_arg0)) (ix3 b s j)) (fun j => (m ((c : Thread nD τ).loc main_arg1)) (ix1 j)) (fun j => (m ((c : Thread nD τ).loc main_arg2)) (ix2 j (wcol k)))

theorem pre_eq (t : Fin cfg0.N) (r : Fin 512) (b : Fin 8) (s : Fin 4096) (h : 512 * t.val + r.val = 4096 * b.val + s.val) (k : Fin 1792) :
    pre (iblk m c 0 t) (iblk m c 1 t) (iblk m c 2 t) k r = at_ m c b k s :=
  proj_congr (fun j => blk0 m c t r j b s h) (fun j => blk1 m c t j) fun j => (blk2 m c t j k).trans (cols_apply (m ((c : Thread nD τ).loc main_arg2)) j k)

/-- The entry a row before, in this tile or carried, is the entry of the token before. -/
theorem back_eq (t : Fin cfg0.N) (r : Fin 512) (b : Fin 8) (s : Fin 4096) (h : 512 * t.val + r.val = 4096 * b.val + s.val) (k : Fin 1792) :
    back (pre (iblk m c 0 t) (iblk m c 1 t) (iblk m c 2 t) k) (prev m c t (ix2 0 k)) r = past (at_ m c b k) s 1 := by
  have ht := tlt t
  have hr := r.isLt
  have hs := s.isLt
  unfold back past
  by_cases hr0 : r.val = 0
  · rw [if_pos hr0]
    unfold prev
    by_cases h8 : t.val % 8 = 0
    · rw [dif_neg (by omega), if_pos h8]
      pointwise [k0_pay2]
    · rw [dif_pos (by omega), if_neg h8]
      refine (outQ m c ⟨t.val - 1, Nat.lt_of_le_of_lt (Nat.sub_le _ _) t.isLt⟩ k).trans ?_
      exact pre_eq m c _ 511 b _ (by show 512 * (t.val - 1) + 511 = 4096 * b.val + (s.val - 1); omega) k
  · rw [if_neg hr0, dif_pos (by omega)]
    exact pre_eq m c t _ b _ (by show 512 * t.val + (r.val - 1) = 4096 * b.val + (s.val - 1); omega) k

theorem here_eq (t : Fin cfg0.N) (r : Fin 512) (b : Fin 8) (s : Fin 4096) (h : 512 * t.val + r.val = 4096 * b.val + s.val) (k : Fin 1792) :
    here m c t r k = (Cert.Reference5Ideal.Prep.mid (m ((c : Thread nD τ).loc main_arg0)) (m ((c : Thread nD τ).loc main_arg1)) (m ((c : Thread nD τ).loc main_arg2)) (m ((c : Thread nD τ).loc main_arg3))) (ix3 b s k) := by
  refine Eq.trans ?_ (Cert.Reference5Ideal.Prep.mid_apply (m ((c : Thread nD τ).loc main_arg0)) (m ((c : Thread nD τ).loc main_arg1)) (m ((c : Thread nD τ).loc main_arg2)) (m ((c : Thread nD τ).loc main_arg3)) b s k).symm
  unfold here loc
  rw [back_eq m c t r b s h k, pre_eq m c t r b s h k]
  exact congrArg (mix _ _) (blk3 m c t k)

/-! Sums over padded rows. -/
theorem sum_top (f : Fin 128 → EReal) (h : ∀ i : Fin 64, f ⟨64 + i.val, by have := i.isLt; omega⟩ = 0) : ∑ i : Fin 128, f i = ∑ i : Fin 64, f ⟨i.val, by have := i.isLt; omega⟩ := by
  refine (Fin.sum_univ_add (a := 64) (b := 64) f).trans ?_
  rw [Finset.sum_eq_zero (s := Finset.univ) (f := fun i : Fin 64 => f (Fin.natAdd 64 i)) fun i _ => h i, add_zero]
  rfl
theorem sum_bot (f : Fin 128 → EReal) (h : ∀ i : Fin 64, f ⟨i.val, by have := i.isLt; omega⟩ = 0) : ∑ i : Fin 128, f i = ∑ i : Fin 64, f ⟨64 + i.val, by have := i.isLt; omega⟩ := by
  refine (Fin.sum_univ_add (a := 64) (b := 64) f).trans ?_
  rw [Finset.sum_eq_zero (s := Finset.univ) (f := fun i : Fin 64 => f (Fin.castAdd 64 i)) fun i _ => h i, zero_add]
  rfl
theorem sum_tall (f : Fin 128 → EReal) (h : ∀ i : Fin 96, f ⟨32 + i.val, by have := i.isLt; omega⟩ = 0) : ∑ i : Fin 128, f i = ∑ i : Fin 32, f ⟨i.val, by have := i.isLt; omega⟩ := by
  refine (Fin.sum_univ_add (a := 32) (b := 96) f).trans ?_
  rw [Finset.sum_eq_zero (s := Finset.univ) (f := fun i : Fin 96 => f (Fin.natAdd 32 i)) fun i _ => h i, add_zero]
  rfl

section
variable (t : Fin cfg0.N) (r : Fin 512) (b : Fin 8) (s : Fin 4096) (h : 512 * t.val + r.val = 4096 * b.val + s.val)
include h
theorem w_eq (l : Fin 512) : eW (iblk m c 4 t) (iblk m c 5 t) (here m c t r) l = Cert.Reference5Ideal.Prep.fW (m ((c : Thread nD τ).loc main_arg4)) (m ((c : Thread nD τ).loc main_arg5)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eW Cert.Reference5Ideal.Prep.fW
  refine congrArg decay (congrArg₂ (fun a b : EReal => a + b) (blk4 m c t l) ((sum_top _ fun i => ?_).trans (Finset.sum_congr rfl fun i _ => ?_)))
  · exact (congrArg (fun a : EReal => _ * a) (((blk5 m c t _ l).trans (top_apply (m ((c : Thread nD τ).loc main_arg5)) _ l)).trans (dif_neg (by simp only []; omega)))).trans (mul_zero (_ : EReal))
  · exact congrArg₂ (fun a b : EReal => a * b) (congrArg Ideal.tanh (here_eq m c t r b s h (wc i))) (((blk5 m c t _ l).trans (top_apply (m ((c : Thread nD τ).loc main_arg5)) _ l)).trans (dif_pos i.isLt))
theorem a_eq (l : Fin 512) : eA (iblk m c 6 t) (iblk m c 7 t) (here m c t r) l = Cert.Reference5Ideal.Prep.fA (m ((c : Thread nD τ).loc main_arg6)) (m ((c : Thread nD τ).loc main_arg7)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eA Cert.Reference5Ideal.Prep.fA
  refine congrArg gate (congrArg₂ (fun a b : EReal => a + b) (blk6 m c t l) ((sum_bot _ fun i => ?_).trans (Finset.sum_congr rfl fun i _ => ?_)))
  · exact (congrArg (fun a : EReal => _ * a) (((blk7 m c t _ l).trans (bot_apply (m ((c : Thread nD τ).loc main_arg7)) _ l)).trans (dif_neg (by have := i.isLt; simp only []; omega)))).trans (mul_zero (_ : EReal))
  · have hc : cq (lo ⟨64 + i.val, by have := i.isLt; omega⟩) = ac i := Fin.ext (by simp only [cq, lo, ac]; omega)
    rw [hc]
    exact congrArg₂ (fun a b : EReal => a * b) (here_eq m c t r b s h (ac i)) ((((blk7 m c t _ l).trans (bot_apply (m ((c : Thread nD τ).loc main_arg7)) _ l)).trans (dif_pos (by simp only []; omega))).trans (congrArg (fun k => (m ((c : Thread nD τ).loc main_arg7)) (ix2 k l)) (Fin.ext (by simp only []; omega))))
theorem g_eq (l : Fin 512) : eG (iblk m c 8 t) (here m c t r) l = Cert.Reference5Ideal.Prep.fG (m ((c : Thread nD τ).loc main_arg8)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eG Cert.Reference5Ideal.Prep.fG
  refine Finset.sum_congr rfl fun i _ => ?_
  have hc : cq (hi i) = gc i := Fin.ext (by simp only [cq, hi, gc]; omega)
  rw [hc]
  exact congrArg₂ (fun a b : EReal => a * b) (congrArg gate (here_eq m c t r b s h (gc i))) ((blk8 m c t i l).trans (cst_apply (m ((c : Thread nD τ).loc main_arg8)) i l))
theorem v_eq (l : Fin 512) : eV (iblk m c 9 t) (iblk m c 10 t) (iblk m c 11 t) (iblk m c 12 t) (here m c t r) r l = Cert.Reference5Ideal.Prep.fV (m ((c : Thread nD τ).loc main_arg10)) (m ((c : Thread nD τ).loc main_arg11)) (m ((c : Thread nD τ).loc main_arg12)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) ((m ((c : Thread nD τ).loc main_arg9)) (ix3 b s l)) l := by
  unfold eV Cert.Reference5Ideal.Prep.fV
  rw [here_eq m c t r b s h (vc l)]
  refine (congrArg (fun z => mix _ z _) (blk9 m c t r l b s h)).trans ?_
  refine congrArg (mix _ _) (congrArg gate (congrArg₂ (fun a b : EReal => a + b) (blk10 m c t l) ((sum_tall _ fun i => ?_).trans (Finset.sum_congr rfl fun e _ => ?_))))
  · exact (congrArg (fun a : EReal => _ * a) (((blk12 m c t _ l).trans (tall_apply (m ((c : Thread nD τ).loc main_arg12)) _ l)).trans (dif_neg (by simp only []; omega)))).trans (mul_zero (_ : EReal))
  · refine congrArg₂ (fun a b : EReal => a * b) (Finset.sum_congr rfl fun j _ => ?_) (((blk12 m c t _ l).trans (tall_apply (m ((c : Thread nD τ).loc main_arg12)) _ l)).trans (dif_pos e.isLt))
    exact congrArg₂ (fun a b : EReal => a * b) (here_eq m c t r b s h (vc j)) (((blk11 m c t j _).trans (wide_apply (m ((c : Thread nD τ).loc main_arg11)) j _)).trans (dif_pos e.isLt))
end

/-- What the kernel leaves in each result is the reference's. -/
theorem final13 : (dats m 0 c).arrAt 13 cfg0.N = Cert.Reference5Ideal.Prep.resR (Cert.Reference5Ideal.Prep.mid (m ((c : Thread nD τ).loc main_arg0)) (m ((c : Thread nD τ).loc main_arg1)) (m ((c : Thread nD τ).loc main_arg2)) (m ((c : Thread nD τ).loc main_arg3))) := by
  refine (dats m 0 c).arrAt_eq_of_covers 13 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_13]
  have hR : 512 * t.val + r.val = 4096 * ((512 * t.val + r.val) / 4096) + (512 * t.val + r.val) % 4096 := by omega
  have hs := Cert.Reference5Ideal.Prep.resR_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) e
  refine (outR m c t r e).trans (Eq.trans ?_ (hs.symm.trans ?_))
  · exact here_eq m c t r _ _ hR (rc e)
  · generalize Cert.Reference5Ideal.Prep.resR (Cert.Reference5Ideal.Prep.mid (m ((c : Thread nD τ).loc main_arg0)) (m ((c : Thread nD τ).loc main_arg1)) (m ((c : Thread nD τ).loc main_arg2)) (m ((c : Thread nD τ).loc main_arg3))) = X
    blk_ext [widx t]

theorem final14 : (dats m 0 c).arrAt 14 cfg0.N = Cert.Reference5Ideal.Prep.resW (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 14 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_14]
  have hR : 512 * t.val + r.val = 4096 * ((512 * t.val + r.val) / 4096) + (512 * t.val + r.val) % 4096 := by omega
  have hs := Cert.Reference5Ideal.Prep.resW_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) e
  refine (outW m c t r e).trans (Eq.trans ?_ (hs.symm.trans ?_))
  · exact w_eq m c t r _ _ hR e
  · generalize Cert.Reference5Ideal.Prep.resW (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) = X
    blk_ext [widx t]

theorem final15 : (dats m 0 c).arrAt 15 cfg0.N = Cert.Reference5Ideal.Prep.resK (Cert.Reference5Ideal.Prep.mid (m ((c : Thread nD τ).loc main_arg0)) (m ((c : Thread nD τ).loc main_arg1)) (m ((c : Thread nD τ).loc main_arg2)) (m ((c : Thread nD τ).loc main_arg3))) := by
  refine (dats m 0 c).arrAt_eq_of_covers 15 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_15]
  have hR : 512 * t.val + r.val = 4096 * ((512 * t.val + r.val) / 4096) + (512 * t.val + r.val) % 4096 := by omega
  have hs := Cert.Reference5Ideal.Prep.resK_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) e
  refine (outK m c t r e).trans (Eq.trans ?_ (hs.symm.trans ?_))
  · exact here_eq m c t r _ _ hR (kc e)
  · generalize Cert.Reference5Ideal.Prep.resK (Cert.Reference5Ideal.Prep.mid (m ((c : Thread nD τ).loc main_arg0)) (m ((c : Thread nD τ).loc main_arg1)) (m ((c : Thread nD τ).loc main_arg2)) (m ((c : Thread nD τ).loc main_arg3))) = X
    blk_ext [widx t]

theorem final16 : (dats m 0 c).arrAt 16 cfg0.N = Cert.Reference5Ideal.Prep.resV (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg9)) (m ((c : Thread nD τ).loc main_arg10)) (m ((c : Thread nD τ).loc main_arg11)) (m ((c : Thread nD τ).loc main_arg12)) := by
  refine (dats m 0 c).arrAt_eq_of_covers 16 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_16]
  have hR : 512 * t.val + r.val = 4096 * ((512 * t.val + r.val) / 4096) + (512 * t.val + r.val) % 4096 := by omega
  have hs := Cert.Reference5Ideal.Prep.resV_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg9)) (m ((c : Thread nD τ).loc main_arg10)) (m ((c : Thread nD τ).loc main_arg11)) (m ((c : Thread nD τ).loc main_arg12)) e
  refine (outV m c t r e).trans (Eq.trans ?_ (hs.symm.trans ?_))
  · exact v_eq m c t r _ _ hR e
  · generalize Cert.Reference5Ideal.Prep.resV (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg9)) (m ((c : Thread nD τ).loc main_arg10)) (m ((c : Thread nD τ).loc main_arg11)) (m ((c : Thread nD τ).loc main_arg12)) = X
    blk_ext [widx t]

theorem final17 : (dats m 0 c).arrAt 17 cfg0.N = Cert.Reference5Ideal.Prep.resA (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) := by
  refine (dats m 0 c).arrAt_eq_of_covers 17 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_17]
  have hR : 512 * t.val + r.val = 4096 * ((512 * t.val + r.val) / 4096) + (512 * t.val + r.val) % 4096 := by omega
  have hs := Cert.Reference5Ideal.Prep.resA_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) e
  refine (outA m c t r e).trans (Eq.trans ?_ (hs.symm.trans ?_))
  · exact a_eq m c t r _ _ hR e
  · generalize Cert.Reference5Ideal.Prep.resA (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) = X
    blk_ext [widx t]

theorem final18 : (dats m 0 c).arrAt 18 cfg0.N = Cert.Reference5Ideal.Prep.resG (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) := by
  refine (dats m 0 c).arrAt_eq_of_covers 18 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_18]
  have hR : 512 * t.val + r.val = 4096 * ((512 * t.val + r.val) / 4096) + (512 * t.val + r.val) % 4096 := by omega
  have hs := Cert.Reference5Ideal.Prep.resG_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) e
  refine (outG m c t r e).trans (Eq.trans ?_ (hs.symm.trans ?_))
  · exact g_eq m c t r _ _ hR e
  · generalize Cert.Reference5Ideal.Prep.resG (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) = X
    blk_ext [widx t]

end Cert.Kernel5Ideal.Prep
-- ==== Proof.RwkvFirst.lean ====
module
public import proofs.«01_k».proof.Proof.Gen.Kernel6Ideal.Value
public import proofs.«01_k».proof.Proof.Gen.Reference6Ideal.Run
public import proofs.«01_k».proof.Proof.Rwkv
@[expose] public section
set_option maxRecDepth 16384
noncomputable section

namespace Cert.Reference6Ideal.Prep
open Cert.Reference6Ideal Cert.Reference6Ideal.Gen Cert.Layer
open Cert.Reference5Ideal.Prep (mid resW flat vals vc)
open Idealize.ShloMosaic Idealize.ShloMosaic.TcCoe Idealize.SL.Sem

/-! # The first layer's form: the value is its columns, drawn towards the token before -/

/-- The value's result. -/
def resV (M : FVec Ideal Cert.Reference5Ideal.S8x4096x1792 .f32) : FVec Ideal Cert.Reference5Ideal.S32768x512 .f32 := flat (vals M)
theorem resV_apply (R : Fin 32768) (b : Fin 8) (s : Fin 4096) (hR : R.val = 4096 * b.val + s.val) (M : FVec Ideal Cert.Reference5Ideal.S8x4096x1792 .f32) (l : Fin 512) :
    (resV M (ix2 R l) : EReal) = M (ix3 b s (vc l)) := by
  unfold resV
  rw [Cert.Reference5Ideal.Prep.flat_apply R b s hR, Cert.Reference5Ideal.Prep.vals_apply]

variable (m : (ℓ : Loc nD τ sig) → Buf (Elt Ideal) ℓ) (c : Dev nD)
theorem resW_eq : Value.res_main_v58 (F := Ideal) m c = resW (mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := rfl
end Cert.Reference6Ideal.Prep

namespace Cert.Kernel6Ideal.Prep
open Cert.Kernel6Ideal Cert.Kernel6Ideal.Gen Cert.Layer
open Cert.Reference5Ideal.Prep (wcol rc kc vc wc ac gc)
open Cert.Reference6Ideal.Prep (resV resV_apply)
open Cert.Kernel4Ideal.Prep (proj_congr)
open Cert.Kernel5Ideal.Prep (back pre loc lo hi cq eW eA eG cover val_r val_w val_k val_a val_g at_v last_r last_k last_v last_w rows row row' row'' cols top bot cst rows_apply row_apply row'_apply row''_apply cols_apply top_apply bot_apply cst_apply sum_top sum_bot)
open Idealize.ShloMosaic Idealize.ShloMosaic.TcCoe Idealize.SL.Sem

/-! # The step's results, read at a point -/

variable (m : (ℓ : Loc nD τ sig) → Buf (Elt Ideal) ℓ) (c : Dev nD)
/-- The carried row that a point finds. -/
def prev (t : Fin cfg0.N) : FVec Ideal S1x1792 .f32 := if t.val % 8 = 0 then k0_pay3 else (outsAt0 m c (t.val - 1) (Nat.lt_of_le_of_lt (Nat.sub_le _ _) t.isLt)).2.2.2.2.2.2
/-- A column drawn, at a point. -/
def here (t : Fin cfg0.N) (r : Fin 512) (k : Fin 1792) : EReal := loc (iblk m c 0 t) (iblk m c 1 t) (iblk m c 2 t) (iblk m c 3 t) (prev m c t) r k

set_option maxHeartbeats 1600000 in
theorem outR (t : Fin cfg0.N) (r l : Fin 512) : ((outsAt0 m c t.val t.isLt).1 (ix2 r l) : EReal) = here m c t r (rc l) := by
  by_cases h : t.val % 8 = 0
  · rw [outsAt0_A m c t h]; frame_out
    unfold here
    rw [show prev m c t = _ from if_pos h]
    simp (disch := decide) only [View.readCov_skip, View.readCov_fill]
    exact val_r (iblk m c 0 t) (iblk m c 1 t) (iblk m c 2 t) (iblk m c 3 t) _ r l
  · rw [outsAt0_B m c t h]; frame_out
    unfold here
    rw [show prev m c t = _ from if_neg h]
    simp only [read_unread_whole]
    exact val_r (iblk m c 0 t) (iblk m c 1 t) (iblk m c 2 t) (iblk m c 3 t) _ r l
set_option maxHeartbeats 1600000 in
theorem outW (t : Fin cfg0.N) (r l : Fin 512) : ((outsAt0 m c t.val t.isLt).2.1 (ix2 r l) : EReal) = eW (iblk m c 4 t) (iblk m c 5 t) (here m c t r) l := by
  by_cases h : t.val % 8 = 0
  · rw [outsAt0_A m c t h]; frame_out
    unfold here
    rw [show prev m c t = _ from if_pos h]
    simp (disch := decide) only [View.readCov_skip, View.readCov_fill]
    exact val_w (iblk m c 0 t) (iblk m c 1 t) (iblk m c 2 t) (iblk m c 3 t) _ (iblk m c 4 t) (iblk m c 5 t) r l
  · rw [outsAt0_B m c t h]; frame_out
    unfold here
    rw [show prev m c t = _ from if_neg h]
    simp only [read_unread_whole]
    exact val_w (iblk m c 0 t) (iblk m c 1 t) (iblk m c 2 t) (iblk m c 3 t) _ (iblk m c 4 t) (iblk m c 5 t) r l
set_option maxHeartbeats 1600000 in
theorem outK (t : Fin cfg0.N) (r l : Fin 512) : ((outsAt0 m c t.val t.isLt).2.2.1 (ix2 r l) : EReal) = here m c t r (kc l) := by
  by_cases h : t.val % 8 = 0
  · rw [outsAt0_A m c t h]; frame_out
    unfold here
    rw [show prev m c t = _ from if_pos h]
    simp (disch := decide) only [View.readCov_skip, View.readCov_fill]
    exact val_k (iblk m c 0 t) (iblk m c 1 t) (iblk m c 2 t) (iblk m c 3 t) _ r l
  · rw [outsAt0_B m c t h]; frame_out
    unfold here
    rw [show prev m c t = _ from if_neg h]
    simp only [read_unread_whole]
    exact val_k (iblk m c 0 t) (iblk m c 1 t) (iblk m c 2 t) (iblk m c 3 t) _ r l
set_option maxHeartbeats 1600000 in
theorem outV (t : Fin cfg0.N) (r l : Fin 512) : ((outsAt0 m c t.val t.isLt).2.2.2.1 (ix2 r l) : EReal) = here m c t r (vc l) := by
  by_cases h : t.val % 8 = 0
  · rw [outsAt0_A m c t h]; frame_out
    unfold here
    rw [show prev m c t = _ from if_pos h]
    simp (disch := decide) only [View.readCov_skip, View.readCov_fill]
    exact at_v (iblk m c 0 t) (iblk m c 1 t) (iblk m c 2 t) (iblk m c 3 t) _ r l
  · rw [outsAt0_B m c t h]; frame_out
    unfold here
    rw [show prev m c t = _ from if_neg h]
    simp only [read_unread_whole]
    exact at_v (iblk m c 0 t) (iblk m c 1 t) (iblk m c 2 t) (iblk m c 3 t) _ r l
set_option maxHeartbeats 1600000 in
theorem outA (t : Fin cfg0.N) (r l : Fin 512) : ((outsAt0 m c t.val t.isLt).2.2.2.2.1 (ix2 r l) : EReal) = eA (iblk m c 6 t) (iblk m c 7 t) (here m c t r) l := by
  by_cases h : t.val % 8 = 0
  · rw [outsAt0_A m c t h]; frame_out
    unfold here
    rw [show prev m c t = _ from if_pos h]
    simp (disch := decide) only [View.readCov_skip, View.readCov_fill]
    exact val_a (iblk m c 0 t) (iblk m c 1 t) (iblk m c 2 t) (iblk m c 3 t) _ (iblk m c 6 t) (iblk m c 7 t) r l
  · rw [outsAt0_B m c t h]; frame_out
    unfold here
    rw [show prev m c t = _ from if_neg h]
    simp only [read_unread_whole]
    exact val_a (iblk m c 0 t) (iblk m c 1 t) (iblk m c 2 t) (iblk m c 3 t) _ (iblk m c 6 t) (iblk m c 7 t) r l
set_option maxHeartbeats 1600000 in
theorem outG (t : Fin cfg0.N) (r l : Fin 512) : ((outsAt0 m c t.val t.isLt).2.2.2.2.2.1 (ix2 r l) : EReal) = eG (iblk m c 8 t) (here m c t r) l := by
  by_cases h : t.val % 8 = 0
  · rw [outsAt0_A m c t h]; frame_out
    unfold here
    rw [show prev m c t = _ from if_pos h]
    simp (disch := decide) only [View.readCov_skip, View.readCov_fill]
    exact val_g (iblk m c 0 t) (iblk m c 1 t) (iblk m c 2 t) (iblk m c 3 t) _ (iblk m c 8 t) r l
  · rw [outsAt0_B m c t h]; frame_out
    unfold here
    rw [show prev m c t = _ from if_neg h]
    simp only [read_unread_whole]
    exact val_g (iblk m c 0 t) (iblk m c 1 t) (iblk m c 2 t) (iblk m c 3 t) _ (iblk m c 8 t) r l
theorem outQ (t : Fin cfg0.N) (l : Fin 1792) : ((outsAt0 m c t.val t.isLt).2.2.2.2.2.2 (ix2 0 l) : EReal) = pre (iblk m c 0 t) (iblk m c 1 t) (iblk m c 2 t) l 511 := by
  by_cases h : t.val % 8 = 0
  · rw [outsAt0_A m c t h]; frame_out
    refine (Cert.Kernel4Ideal.Prep.canon_left [_, _, _, _] [_] _ (cover _ _ _ _ l)).trans ?_
    canon_tiles x hx using cover _ _ _ _ l
    · exact last_v (iblk m c 0 t) (iblk m c 1 t) (iblk m c 2 t) x l (by have h : l.val = 1024 + (x 1).val := hx1; exact h)
    · exact last_k (iblk m c 0 t) (iblk m c 1 t) (iblk m c 2 t) x l (by have h : l.val = 512 + (x 1).val := hx1; exact h)
    · exact last_r (iblk m c 0 t) (iblk m c 1 t) (iblk m c 2 t) x l (by have h : l.val = (x 1).val := hx1; show l.val = 0 + _; omega)
    · exact last_w (iblk m c 0 t) (iblk m c 1 t) (iblk m c 2 t) x l (by have h : l.val = 1536 + (x 1).val := hx1; exact h)
  · rw [outsAt0_B m c t h]; frame_out
    canon_tiles x hx using cover _ _ _ _ l
    · exact last_v (iblk m c 0 t) (iblk m c 1 t) (iblk m c 2 t) x l (by have h : l.val = 1024 + (x 1).val := hx1; exact h)
    · exact last_k (iblk m c 0 t) (iblk m c 1 t) (iblk m c 2 t) x l (by have h : l.val = 512 + (x 1).val := hx1; exact h)
    · exact last_r (iblk m c 0 t) (iblk m c 1 t) (iblk m c 2 t) x l (by have h : l.val = (x 1).val := hx1; show l.val = 0 + _; omega)
    · exact last_w (iblk m c 0 t) (iblk m c 1 t) (iblk m c 2 t) x l (by have h : l.val = 1536 + (x 1).val := hx1; exact h)

/-! # They are the reference's -/

theorem V0 : V m c main_v0 = rows (m ((c : Thread nD τ).loc main_arg0)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V1 : V m c main_v1 = row (m ((c : Thread nD τ).loc main_arg1)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V3 : V m c main_v3 = cols (m ((c : Thread nD τ).loc main_arg2)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V4 : V m c main_v4 = row' (m ((c : Thread nD τ).loc main_arg3)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V5 : V m c main_v5 = row'' (m ((c : Thread nD τ).loc main_arg4)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V7 : V m c main_v7 = top (m ((c : Thread nD τ).loc main_arg5)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V8 : V m c main_v8 = row'' (m ((c : Thread nD τ).loc main_arg6)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V10 : V m c main_v10 = bot (m ((c : Thread nD τ).loc main_arg7)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V11 : V m c main_v11 = cst (m ((c : Thread nD τ).loc main_arg8)) := by
  unfold V
  simp only [hostOps0, hostOps0_1, hostOps0_2, hostOps0_3, hostOps0_4, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
/-- Where each window sits at a grid point. -/
theorem widx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem tlt (t : Fin cfg0.N) : t.val < 64 := N_0 ▸ t.isLt

theorem blk0 (t : Fin cfg0.N) (r : Fin 512) (l : Fin 1024) (b : Fin 8) (s : Fin 4096) (h : 512 * t.val + r.val = 4096 * b.val + s.val) :
    (iblk m c 0 t (ix2 r l) : EReal) = (m ((c : Thread nD τ).loc main_arg0)) (ix3 b s l) := by
  have ht := tlt t
  have hr := r.isLt
  refine Eq.trans ?_ (rows_apply (m ((c : Thread nD τ).loc main_arg0)) ⟨512 * t.val + r.val, by omega⟩ l b s h)
  rw [← V0 m c]
  blk_ext [iblk, widx t]
theorem blk1 (t : Fin cfg0.N) (l : Fin 1024) : (iblk m c 1 t (ix2 0 l) : EReal) = (m ((c : Thread nD τ).loc main_arg1)) (ix1 l) := by
  refine Eq.trans ?_ (row_apply (m ((c : Thread nD τ).loc main_arg1)) l)
  rw [← V1 m c]
  blk_ext [iblk, widx t]
theorem blk2 (t : Fin cfg0.N) (j : Fin 1024) (k : Fin 1792) : (iblk m c 2 t (ix2 j k) : EReal) = cols (m ((c : Thread nD τ).loc main_arg2)) (ix2 j k) := by
  rw [← V3 m c]
  blk_ext [iblk, widx t]
theorem blk3 (t : Fin cfg0.N) (l : Fin 1792) : (iblk m c 3 t (ix2 0 l) : EReal) = (m ((c : Thread nD τ).loc main_arg3)) (ix1 l) := by
  refine Eq.trans ?_ (row'_apply (m ((c : Thread nD τ).loc main_arg3)) l)
  rw [← V4 m c]
  blk_ext [iblk, widx t]
theorem blk4 (t : Fin cfg0.N) (l : Fin 512) : (iblk m c 4 t (ix2 0 l) : EReal) = (m ((c : Thread nD τ).loc main_arg4)) (ix1 l) := by
  refine Eq.trans ?_ (row''_apply (m ((c : Thread nD τ).loc main_arg4)) l)
  rw [← V5 m c]
  blk_ext [iblk, widx t]
theorem blk5 (t : Fin cfg0.N) (j : Fin 128) (k : Fin 512) : (iblk m c 5 t (ix2 j k) : EReal) = top (m ((c : Thread nD τ).loc main_arg5)) (ix2 j k) := by
  rw [← V7 m c]
  blk_ext [iblk, widx t]
theorem blk6 (t : Fin cfg0.N) (l : Fin 512) : (iblk m c 6 t (ix2 0 l) : EReal) = (m ((c : Thread nD τ).loc main_arg6)) (ix1 l) := by
  refine Eq.trans ?_ (row''_apply (m ((c : Thread nD τ).loc main_arg6)) l)
  rw [← V8 m c]
  blk_ext [iblk, widx t]
theorem blk7 (t : Fin cfg0.N) (j : Fin 128) (k : Fin 512) : (iblk m c 7 t (ix2 j k) : EReal) = bot (m ((c : Thread nD τ).loc main_arg7)) (ix2 j k) := by
  rw [← V10 m c]
  blk_ext [iblk, widx t]
theorem blk8 (t : Fin cfg0.N) (j : Fin 128) (k : Fin 512) : (iblk m c 8 t (ix2 j k) : EReal) = cst (m ((c : Thread nD τ).loc main_arg8)) (ix2 j k) := by
  rw [← V11 m c]
  blk_ext [iblk, widx t]
/-- The projection of the token `s` of sequence `b`, at a column of the mixer. -/
def at_ (b : Fin 8) (k : Fin 1792) (s : Fin 4096) : EReal :=
  proj (fun j => (m ((c : Thread nD τ).loc main_arg0)) (ix3 b s j)) (fun j => (m ((c : Thread nD τ).loc main_arg1)) (ix1 j)) (fun j => (m ((c : Thread nD τ).loc main_arg2)) (ix2 j (wcol k)))

theorem pre_eq (t : Fin cfg0.N) (r : Fin 512) (b : Fin 8) (s : Fin 4096) (h : 512 * t.val + r.val = 4096 * b.val + s.val) (k : Fin 1792) :
    pre (iblk m c 0 t) (iblk m c 1 t) (iblk m c 2 t) k r = at_ m c b k s :=
  proj_congr (fun j => blk0 m c t r j b s h) (fun j => blk1 m c t j) fun j => (blk2 m c t j k).trans (cols_apply (m ((c : Thread nD τ).loc main_arg2)) j k)

/-- The entry a row before, in this tile or carried, is the entry of the token before. -/
theorem back_eq (t : Fin cfg0.N) (r : Fin 512) (b : Fin 8) (s : Fin 4096) (h : 512 * t.val + r.val = 4096 * b.val + s.val) (k : Fin 1792) :
    back (pre (iblk m c 0 t) (iblk m c 1 t) (iblk m c 2 t) k) (prev m c t (ix2 0 k)) r = past (at_ m c b k) s 1 := by
  have ht := tlt t
  have hr := r.isLt
  have hs := s.isLt
  unfold back past
  by_cases hr0 : r.val = 0
  · rw [if_pos hr0]
    unfold prev
    by_cases h8 : t.val % 8 = 0
    · rw [dif_neg (by omega), if_pos h8]
      pointwise [k0_pay3]
    · rw [dif_pos (by omega), if_neg h8]
      refine (outQ m c ⟨t.val - 1, Nat.lt_of_le_of_lt (Nat.sub_le _ _) t.isLt⟩ k).trans ?_
      exact pre_eq m c _ 511 b _ (by show 512 * (t.val - 1) + 511 = 4096 * b.val + (s.val - 1); omega) k
  · rw [if_neg hr0, dif_pos (by omega)]
    exact pre_eq m c t _ b _ (by show 512 * t.val + (r.val - 1) = 4096 * b.val + (s.val - 1); omega) k

theorem here_eq (t : Fin cfg0.N) (r : Fin 512) (b : Fin 8) (s : Fin 4096) (h : 512 * t.val + r.val = 4096 * b.val + s.val) (k : Fin 1792) :
    here m c t r k = (Cert.Reference5Ideal.Prep.mid (m ((c : Thread nD τ).loc main_arg0)) (m ((c : Thread nD τ).loc main_arg1)) (m ((c : Thread nD τ).loc main_arg2)) (m ((c : Thread nD τ).loc main_arg3))) (ix3 b s k) := by
  refine Eq.trans ?_ (Cert.Reference5Ideal.Prep.mid_apply (m ((c : Thread nD τ).loc main_arg0)) (m ((c : Thread nD τ).loc main_arg1)) (m ((c : Thread nD τ).loc main_arg2)) (m ((c : Thread nD τ).loc main_arg3)) b s k).symm
  unfold here loc
  rw [back_eq m c t r b s h k, pre_eq m c t r b s h k]
  exact congrArg (mix _ _) (blk3 m c t k)

section
variable (t : Fin cfg0.N) (r : Fin 512) (b : Fin 8) (s : Fin 4096) (h : 512 * t.val + r.val = 4096 * b.val + s.val)
include h
theorem w_eq (l : Fin 512) : eW (iblk m c 4 t) (iblk m c 5 t) (here m c t r) l = Cert.Reference5Ideal.Prep.fW (m ((c : Thread nD τ).loc main_arg4)) (m ((c : Thread nD τ).loc main_arg5)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eW Cert.Reference5Ideal.Prep.fW
  refine congrArg decay (congrArg₂ (fun a b : EReal => a + b) (blk4 m c t l) ((sum_top _ fun i => ?_).trans (Finset.sum_congr rfl fun i _ => ?_)))
  · exact (congrArg (fun a : EReal => _ * a) (((blk5 m c t _ l).trans (top_apply (m ((c : Thread nD τ).loc main_arg5)) _ l)).trans (dif_neg (by simp only []; omega)))).trans (mul_zero (_ : EReal))
  · exact congrArg₂ (fun a b : EReal => a * b) (congrArg Ideal.tanh (here_eq m c t r b s h (wc i))) (((blk5 m c t _ l).trans (top_apply (m ((c : Thread nD τ).loc main_arg5)) _ l)).trans (dif_pos i.isLt))
theorem a_eq (l : Fin 512) : eA (iblk m c 6 t) (iblk m c 7 t) (here m c t r) l = Cert.Reference5Ideal.Prep.fA (m ((c : Thread nD τ).loc main_arg6)) (m ((c : Thread nD τ).loc main_arg7)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eA Cert.Reference5Ideal.Prep.fA
  refine congrArg gate (congrArg₂ (fun a b : EReal => a + b) (blk6 m c t l) ((sum_bot _ fun i => ?_).trans (Finset.sum_congr rfl fun i _ => ?_)))
  · exact (congrArg (fun a : EReal => _ * a) (((blk7 m c t _ l).trans (bot_apply (m ((c : Thread nD τ).loc main_arg7)) _ l)).trans (dif_neg (by have := i.isLt; simp only []; omega)))).trans (mul_zero (_ : EReal))
  · have hc : cq (lo ⟨64 + i.val, by have := i.isLt; omega⟩) = ac i := Fin.ext (by simp only [cq, lo, ac]; omega)
    rw [hc]
    exact congrArg₂ (fun a b : EReal => a * b) (here_eq m c t r b s h (ac i)) ((((blk7 m c t _ l).trans (bot_apply (m ((c : Thread nD τ).loc main_arg7)) _ l)).trans (dif_pos (by simp only []; omega))).trans (congrArg (fun k => (m ((c : Thread nD τ).loc main_arg7)) (ix2 k l)) (Fin.ext (by simp only []; omega))))
theorem g_eq (l : Fin 512) : eG (iblk m c 8 t) (here m c t r) l = Cert.Reference5Ideal.Prep.fG (m ((c : Thread nD τ).loc main_arg8)) (fun k => (Cert.Reference5Ideal.Prep.mid (m ((c : Thread nD τ).loc main_arg0)) (m ((c : Thread nD τ).loc main_arg1)) (m ((c : Thread nD τ).loc main_arg2)) (m ((c : Thread nD τ).loc main_arg3))) (ix3 b s k)) l := by
  unfold eG Cert.Reference5Ideal.Prep.fG
  refine Finset.sum_congr rfl fun i _ => ?_
  have hc : cq (hi i) = gc i := Fin.ext (by simp only [cq, hi, gc]; omega)
  rw [hc]
  exact congrArg₂ (fun a b : EReal => a * b) (congrArg gate (here_eq m c t r b s h (gc i))) ((blk8 m c t i l).trans (cst_apply (m ((c : Thread nD τ).loc main_arg8)) i l))
end

/-- What the kernel leaves in each result is the reference's. -/
theorem final9 : (dats m 0 c).arrAt 9 cfg0.N = Cert.Reference5Ideal.Prep.resR (Cert.Reference5Ideal.Prep.mid (m ((c : Thread nD τ).loc main_arg0)) (m ((c : Thread nD τ).loc main_arg1)) (m ((c : Thread nD τ).loc main_arg2)) (m ((c : Thread nD τ).loc main_arg3))) := by
  refine (dats m 0 c).arrAt_eq_of_covers 9 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_9]
  have hR : 512 * t.val + r.val = 4096 * ((512 * t.val + r.val) / 4096) + (512 * t.val + r.val) % 4096 := by omega
  have hs := Cert.Reference5Ideal.Prep.resR_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) e
  refine (outR m c t r e).trans (Eq.trans ?_ (hs.symm.trans ?_))
  · exact here_eq m c t r _ _ hR (rc e)
  · generalize Cert.Reference5Ideal.Prep.resR (Cert.Reference5Ideal.Prep.mid (m ((c : Thread nD τ).loc main_arg0)) (m ((c : Thread nD τ).loc main_arg1)) (m ((c : Thread nD τ).loc main_arg2)) (m ((c : Thread nD τ).loc main_arg3))) = X
    blk_ext [widx t]

theorem final10 : (dats m 0 c).arrAt 10 cfg0.N = Cert.Reference5Ideal.Prep.resW (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 10 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_10]
  have hR : 512 * t.val + r.val = 4096 * ((512 * t.val + r.val) / 4096) + (512 * t.val + r.val) % 4096 := by omega
  have hs := Cert.Reference5Ideal.Prep.resW_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) e
  refine (outW m c t r e).trans (Eq.trans ?_ (hs.symm.trans ?_))
  · exact w_eq m c t r _ _ hR e
  · generalize Cert.Reference5Ideal.Prep.resW (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) = X
    blk_ext [widx t]

theorem final11 : (dats m 0 c).arrAt 11 cfg0.N = Cert.Reference5Ideal.Prep.resK (Cert.Reference5Ideal.Prep.mid (m ((c : Thread nD τ).loc main_arg0)) (m ((c : Thread nD τ).loc main_arg1)) (m ((c : Thread nD τ).loc main_arg2)) (m ((c : Thread nD τ).loc main_arg3))) := by
  refine (dats m 0 c).arrAt_eq_of_covers 11 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_11]
  have hR : 512 * t.val + r.val = 4096 * ((512 * t.val + r.val) / 4096) + (512 * t.val + r.val) % 4096 := by omega
  have hs := Cert.Reference5Ideal.Prep.resK_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) e
  refine (outK m c t r e).trans (Eq.trans ?_ (hs.symm.trans ?_))
  · exact here_eq m c t r _ _ hR (kc e)
  · generalize Cert.Reference5Ideal.Prep.resK (Cert.Reference5Ideal.Prep.mid (m ((c : Thread nD τ).loc main_arg0)) (m ((c : Thread nD τ).loc main_arg1)) (m ((c : Thread nD τ).loc main_arg2)) (m ((c : Thread nD τ).loc main_arg3))) = X
    blk_ext [widx t]

theorem final12 : (dats m 0 c).arrAt 12 cfg0.N = resV (Cert.Reference5Ideal.Prep.mid (m ((c : Thread nD τ).loc main_arg0)) (m ((c : Thread nD τ).loc main_arg1)) (m ((c : Thread nD τ).loc main_arg2)) (m ((c : Thread nD τ).loc main_arg3))) := by
  refine (dats m 0 c).arrAt_eq_of_covers 12 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_12]
  have hR : 512 * t.val + r.val = 4096 * ((512 * t.val + r.val) / 4096) + (512 * t.val + r.val) % 4096 := by omega
  have hs := resV_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) e
  refine (outV m c t r e).trans (Eq.trans ?_ (hs.symm.trans ?_))
  · exact here_eq m c t r _ _ hR (vc e)
  · generalize resV (Cert.Reference5Ideal.Prep.mid (m ((c : Thread nD τ).loc main_arg0)) (m ((c : Thread nD τ).loc main_arg1)) (m ((c : Thread nD τ).loc main_arg2)) (m ((c : Thread nD τ).loc main_arg3))) = X
    blk_ext [widx t]

theorem final13 : (dats m 0 c).arrAt 13 cfg0.N = Cert.Reference5Ideal.Prep.resA (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) := by
  refine (dats m 0 c).arrAt_eq_of_covers 13 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_13]
  have hR : 512 * t.val + r.val = 4096 * ((512 * t.val + r.val) / 4096) + (512 * t.val + r.val) % 4096 := by omega
  have hs := Cert.Reference5Ideal.Prep.resA_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) e
  refine (outA m c t r e).trans (Eq.trans ?_ (hs.symm.trans ?_))
  · exact a_eq m c t r _ _ hR e
  · generalize Cert.Reference5Ideal.Prep.resA (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) = X
    blk_ext [widx t]

theorem final14 : (dats m 0 c).arrAt 14 cfg0.N = Cert.Reference5Ideal.Prep.resG (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) := by
  refine (dats m 0 c).arrAt_eq_of_covers 14 _ (by decide +kernel) fun t hf y => ?_
  blk_simp
  obtain ⟨r, e, rfl⟩ : ∃ (r : Fin 512) (e : Fin 512), y = ix2 r e := ⟨y 0, y 1, by funext a; fin_cases a <;> rfl⟩
  have ht := tlt t
  have hr := r.isLt
  rw [after0_14]
  have hR : 512 * t.val + r.val = 4096 * ((512 * t.val + r.val) / 4096) + (512 * t.val + r.val) % 4096 := by omega
  have hs := Cert.Reference5Ideal.Prep.resG_apply ⟨512 * t.val + r.val, by omega⟩ ⟨(512 * t.val + r.val) / 4096, by omega⟩ ⟨(512 * t.val + r.val) % 4096, by omega⟩ hR (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) e
  refine (outG m c t r e).trans (Eq.trans ?_ (hs.symm.trans ?_))
  · exact g_eq m c t r _ _ hR e
  · generalize Cert.Reference5Ideal.Prep.resG (Cert.Reference5Ideal.Prep.mid (m ((c : Thread nD τ).loc main_arg0)) (m ((c : Thread nD τ).loc main_arg1)) (m ((c : Thread nD τ).loc main_arg2)) (m ((c : Thread nD τ).loc main_arg3))) (m ((c : Thread nD τ).loc main_arg8)) = X
    blk_ext [widx t]

end Cert.Kernel6Ideal.Prep
-- ==== Proof.Rope.lean ====
module
public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.ReadBack
public import Idealize.ShloMosaic.Lib.Pointwise
@[expose] public section
set_option maxRecDepth 16384
noncomputable section

namespace Cert.Reference7Ideal.Rope
open Cert.Reference7Ideal Cert.Reference7Ideal.Gen
open Idealize.ShloMosaic Idealize.ShloMosaic.TcCoe Idealize.SL.Sem

/-! # The reference's angles, read at an index -/

/-- The rotary frequencies, -/
def freq : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))
/-- and the angle of a token at a frequency. -/
def turn (X : IVec S8x4096 32) (Q : FVec Ideal S16 .f32) : FVec Ideal S8x4096x16 .f32 :=
  mulf (broadcastInDim S8x4096x16 ![0, 1, 2] bcast_S8x4096x1_S8x4096x16_0_1_2 (broadcastInDim S8x4096x1 ![0, 1] bcast_S8x4096_S8x4096x1_0_1 (sitofp .f32 X))) (broadcastInDim S8x4096x16 ![0, 1, 2] bcast_S1x1x16_S8x4096x16_0_1_2 (broadcastInDim S1x1x16 ![2] bcast_S16_S1x1x16_2 Q))
/-- An angle from a position. -/
def ang (z : BitVec 32) (q : EReal) : EReal := (FloatOps.sitofp (F := Ideal) FTy.f32 z : EReal) * q
theorem turn_apply (X : IVec S8x4096 32) (Q : FVec Ideal S16 .f32) (b : Fin 8) (s : Fin 4096) (f : Fin 16) :
    (turn X Q (ix3 b s f) : EReal) = ang (X (ix2 b s)) (Q (ix1 f)) := by
  unfold ang
  pointwise [turn]

/-- The two results. -/
def resC (X : IVec S8x4096 32) : FVec Ideal S4096x128 .f32 := shapeCast S4096x128 (Host.cos (turn X freq)) shapeCasts_S8x4096x16_S4096x128
def resS (X : IVec S8x4096 32) : FVec Ideal S4096x128 .f32 := shapeCast S4096x128 (Host.sin (turn X freq)) shapeCasts_S8x4096x16_S4096x128

/-- The sequence a row of eight tokens belongs to, -/
def seq (R : Fin 4096) : Fin 8 := ⟨R.val / 512, by omega⟩
/-- the place in it of the token a lane belongs to, -/
def tok (R : Fin 4096) (l : Fin 128) : Fin 4096 := ⟨R.val % 512 * 8 + l.val / 16, by omega⟩
/-- and the frequency of the lane. -/
def num (l : Fin 128) : Fin 16 := ⟨l.val % 16, by omega⟩
theorem cos_entry (X : IVec S8x4096 32) (R : Fin 4096) (l : Fin 128) : (resC X (ix2 R l) : EReal) = Ideal.cos (ang (X (ix2 (seq R) (tok R l))) (freq (ix1 (num l)))) := by
  rw [← turn_apply]
  unfold resC
  generalize turn X freq = Y
  pointwise []
  rfl
theorem sin_entry (X : IVec S8x4096 32) (R : Fin 4096) (l : Fin 128) : (resS X (ix2 R l) : EReal) = Ideal.sin (ang (X (ix2 (seq R) (tok R l))) (freq (ix1 (num l)))) := by
  rw [← turn_apply]
  unfold resS
  generalize turn X freq = Y
  pointwise []
  rfl
end Cert.Reference7Ideal.Rope

namespace Cert.Kernel7Ideal.Rope
open Cert.Kernel7Ideal Cert.Kernel7Ideal.Gen
open Cert.Reference7Ideal.Rope (freq ang seq tok num resC resS cos_entry sin_entry)
open Idealize.ShloMosaic Idealize.ShloMosaic.TcCoe Idealize.SL.Sem

/-! # The kernel's tables

Each point turns 512 rows of positions, a position under each of its sixteen frequencies, into cosines and sines. -/

/-- The positions, each sixteen times in a row of eight tokens, -/
def spread (X : IVec S8x4096 32) : IVec S4096x128 32 :=
  shapeCast S4096x128 (broadcastInDim S4096x8x16 ![0, 1, 2] bcast_S4096x8x1_S4096x8x16_0_1_2 (shapeCast S4096x8x1 X shapeCasts_S8x4096_S4096x8x1)) shapeCasts_S4096x8x16_S4096x128
/-- and the frequencies eight times over. -/
def tiled (Q : FVec Ideal S16 .f32) : FVec Ideal S1x128 .f32 :=
  shapeCast S1x128 (shapeCast S128 (broadcastInDim S8x16 ![0, 1] bcast_S1x16_S8x16_0_1 (shapeCast S1x16 Q shapeCasts_S16_S1x16)) shapeCasts_S8x16_S128) shapeCasts_S128_S1x128
theorem spread_apply (X : IVec S8x4096 32) (R : Fin 4096) (l : Fin 128) : spread X (ix2 R l) = X (ix2 (seq R) (tok R l)) := by
  pointwise [spread]
  rfl
theorem tiled_apply (Q : FVec Ideal S16 .f32) (l : Fin 128) : (tiled Q (ix2 0 l) : EReal) = Q (ix1 (num l)) := by
  pointwise [tiled]
  rfl

/-! ## A point's payloads -/

theorem pay2_apply (x : IVec S512x128 32) (y : FVec Ideal S1x128 .f32) (r : Fin 512) (l : Fin 128) :
    (k0_pay2 (F := Ideal) x y (ix2 r l) : EReal) = Ideal.cos (ang (x (ix2 r l)) (y (ix2 0 l))) := by
  unfold ang
  pointwise [k0_pay2, k0_pay1]
theorem pay3_apply (x : IVec S512x128 32) (y : FVec Ideal S1x128 .f32) (r : Fin 512) (l : Fin 128) :
    (k0_pay3 (F := Ideal) x y (ix2 r l) : EReal) = Ideal.sin (ang (x (ix2 r l)) (y (ix2 0 l))) := by
  unfold ang
  pointwise [k0_pay3, k0_pay1]

variable (m : (ℓ : Loc nD τ sig) → Buf (Elt Ideal) ℓ) (c : Dev nD)

/-! ## The operands and their blocks -/

theorem V8 : V m c main_v8 = spread (m ((c : Thread nD τ).loc main_arg0)) := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl
theorem V12 : V m c main_v12 = tiled freq := by
  unfold V
  simp only [hostOps0, List.flatten_cons, List.flatten_nil, List.cons_append, List.nil_append, List.append_nil, StableHlo.TRef.ternary, StableHlo.TRef.unary, StableHlo.TRef.binary, StableHlo.TRef.toBuf, StableHlo.TRef.ofBuf, cast_eq]
  after_results_simp
  rfl

theorem cosines_left (t : Fin cfg0.N) (r : Fin 512) (l : Fin 128) :
    ((dats m 0 c).after 2 t (ix2 r l) : EReal) = Ideal.cos (ang (iblk m c 0 t (ix2 r l)) (iblk m c 1 t (ix2 0 l))) := by
  rw [after0_2]
  generalize iblk m c 0 t = x
  generalize iblk m c 1 t = y
  frame_out
  exact pay2_apply x y r l
theorem sines_left (t : Fin cfg0.N) (r : Fin 512) (l : Fin 128) :
    ((dats m 0 c).after 3 t (ix2 r l) : EReal) = Ideal.sin (ang (iblk m c 0 t (ix2 r l)) (iblk m c 1 t (ix2 0 l))) := by
  rw [after0_3]
  generalize iblk m c 0 t = x
  generalize iblk m c 1 t = y
  frame_out
  exact pay3_apply x y r l
theorem widx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)
theorem tlt (t : Fin cfg0.N) : t.val < 8 := N_0 ▸ t.isLt
theorem blk0 (t : Fin cfg0.N) (r : Fin 512) (l : Fin 128) (R : Fin 4096) (h : 512 * t.val + r.val = R.val) :
    iblk m c 0 t (ix2 r l) = spread (m ((c : Thread nD τ).loc main_arg0)) (ix2 R l) := by
  have ht := tlt t
  have hr := r.isLt
  obtain ⟨R, hR⟩ := R
  obtain rfl := h
  rw [← V8 m c]
  blk_ext [iblk, widx t]
theorem blk1 (t : Fin cfg0.N) (l : Fin 128) : (iblk m c 1 t (ix2 0 l) : EReal) = tiled freq (ix2 0 l) := by
  rw [← V12 m c]
  blk_ext [iblk, widx t]

/-- The table of cosines after the call -/
theorem final2 : (dats m 0 c).arrAt 2 cfg0.N = resC (m ((c : Thread nD τ).loc main_arg0)) := by
  refine (dats m 0 c).arrAt_eq_of_covers 2 _ (by decide +kernel) fun t hf y => ?_
  blk_simp
  obtain ⟨r, l, rfl⟩ : ∃ (r : Fin 512) (l : Fin 128), y = ix2 r l := ⟨y 0, y 1, by funext a; fin_cases a <;> rfl⟩
  have ht := tlt t
  have hr := r.isLt
  refine (cosines_left m c t r l).trans ?_
  rw [blk0 m c t r l ⟨512 * t.val + r.val, by omega⟩ rfl, blk1 m c t l, spread_apply, tiled_apply]
  refine (cos_entry (m ((c : Thread nD τ).loc main_arg0)) ⟨512 * t.val + r.val, by omega⟩ l).symm.trans ?_
  generalize resC _ = X
  blk_ext [widx t]
/-- and that of sines. -/
theorem final3 : (dats m 0 c).arrAt 3 cfg0.N = resS (m ((c : Thread nD τ).loc main_arg0)) := by
  refine (dats m 0 c).arrAt_eq_of_covers 3 _ (by decide +kernel) fun t hf y => ?_
  blk_simp
  obtain ⟨r, l, rfl⟩ : ∃ (r : Fin 512) (l : Fin 128), y = ix2 r l := ⟨y 0, y 1, by funext a; fin_cases a <;> rfl⟩
  have ht := tlt t
  have hr := r.isLt
  refine (sines_left m c t r l).trans ?_
  rw [blk0 m c t r l ⟨512 * t.val + r.val, by omega⟩ rfl, blk1 m c t l, spread_apply, tiled_apply]
  refine (sin_entry (m ((c : Thread nD τ).loc main_arg0)) ⟨512 * t.val + r.val, by omega⟩ l).symm.trans ?_
  generalize resS _ = X
  blk_ext [widx t]

/-- A run of the call leaves the two tables and the positions as they were. -/
theorem run_tables (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 2 cfg0.N
      ∧ r.2.mem ((c : Thread nD τ).loc main_v13_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
    ((h c).2 main_arg0 (Idealize.ShloMosaic.Pipeline.mem_restRefs_of main_arg0 (by decide) (by decide))).trans (V_main_arg0 m c)⟩) (run_main m ρ)
end Cert.Kernel7Ideal.Rope
-- ==== Proof.lean ====
/- The certificate's claim: every program runs and keeps its arguments; every entry of the arguments being finite, the
   attention kernel's result is the reference's attention; and, whatever the arguments, the feed-forward kernel's result is
   the reference's feed-forward part, the merge kernel's the reference's merge, the three preparing kernels' results the
   reference's inputs of the state-space scan and, in the later layers and in the first, of the RWKV-7 scan, and the rotary
   kernel's tables the reference's cosines and sines. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Pre
public import proofs.«01_k».proof.Proof.FfnKernel
public import proofs.«01_k».proof.Proof.Merge
public import proofs.«01_k».proof.Proof.Ssm
public import proofs.«01_k».proof.Proof.Rwkv
public import proofs.«01_k».proof.Proof.RwkvFirst
public import proofs.«01_k».proof.Proof.Rope
public import Idealize.ShloMosaic.Lib.Claim
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Pre_finite.Facts := Cert.Pre_finite.facts

theorem frame_kernel : Cert.quiescent_Kernel := fun m g _ => Cert.Kernel.Gen.frame m g
theorem frame_ideal : Cert.quiescent_KernelIdeal := fun m g _ => Cert.KernelIdeal.Gen.frame m g
theorem frame_ideal_pre : Cert.quiescent_KernelIdeal_pre_finite := fun m g _ => Cert.KernelIdeal.Gen.frame m g
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_reference_pre : Cert.quiescent_ReferenceIdeal_pre_finite := fun m g _ => frame_reference m g True.intro

theorem algebraic : Cert.algebraic_KernelIdeal_ReferenceIdeal_pre_finite := by
  pair_intro
  · run_from Cert.KernelIdeal.Value.run_blocks m g
  · run_from Cert.ReferenceIdeal.Value.run m' g'
    refine (Cert.ReferenceIdeal.Soft.res_eq m' c).trans ?_
    rw [(hagree c).1, (hagree c).2.1, (hagree c).2.2]
    exact (Cert.KernelIdeal.Rows.final m c (Cert.KernelIdeal.Rows.all_real m hpre c)).symm

theorem frame_kernel2 : Cert.quiescent_Kernel2 := fun m g _ => Cert.Kernel2.Gen.frame m g
theorem frame_ideal2 : Cert.quiescent_Kernel2Ideal := fun m g _ => Cert.Kernel2Ideal.Gen.frame m g
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal := by
  pair_intro
  · run_from Cert.Kernel2Ideal.Value.run_blocks m g
  · run_from Cert.Reference2Ideal.Value.run m' g'
    exact (Cert.Kernel2Ideal.Ffn.final m c).symm

theorem frame_kernel3 : Cert.quiescent_Kernel3 := fun m g _ => Cert.Kernel3.Gen.frame m g
theorem frame_ideal3 : Cert.quiescent_Kernel3Ideal := fun m g _ => Cert.Kernel3Ideal.Gen.frame m g
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic3 : Cert.algebraic_Kernel3Ideal_Reference3Ideal := by
  pair_intro
  · run_from Cert.Kernel3Ideal.Value.run_blocks m g
  · run_from Cert.Reference3Ideal.Value.run m' g'
    refine (Cert.Reference3Ideal.Merge.res_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.Kernel3Ideal.Merge.final m c).symm

theorem frame_kernel4 : Cert.quiescent_Kernel4 := fun m g _ => Cert.Kernel4.Gen.frame m g
theorem frame_ideal4 : Cert.quiescent_Kernel4Ideal := fun m g _ => Cert.Kernel4Ideal.Gen.frame m g
theorem frame_reference4 : Cert.quiescent_Reference4Ideal := fun m g _ =>
  (θ_run Cert.Reference4Ideal.defs _ _).mono (fun r h => ⟨fun c => (h c).2.2.2.2.2, sem_eq_zero_of_no_sems (by decide) r.2⟩)
    (Cert.Reference4Ideal.Value.run (F := Ideal) m g)

theorem algebraic4 : Cert.algebraic_Kernel4Ideal_Reference4Ideal := by
  pair_intro
  · run_from Cert.Kernel4Ideal.Value.run_blocks m g
  · run_from Cert.Reference4Ideal.Value.run m' g'
    · exact (Cert.Kernel4Ideal.Prep.final6 m c).symm
    · refine (Cert.Reference4Ideal.Prep.resX_eq m' c).trans ?_
      rw [(hagree c).1, (hagree c).2.1, (hagree c).2.2.1, (hagree c).2.2.2.1, (hagree c).2.2.2.2.1]
      exact (Cert.Kernel4Ideal.Prep.final7 m c).symm
    · refine (Cert.Reference4Ideal.Prep.resB_eq m' c).trans ?_
      rw [(hagree c).1, (hagree c).2.1, (hagree c).2.2.1, (hagree c).2.2.2.1, (hagree c).2.2.2.2.1]
      exact (Cert.Kernel4Ideal.Prep.final8 m c).symm
    · refine (Cert.Reference4Ideal.Prep.resC_eq m' c).trans ?_
      rw [(hagree c).1, (hagree c).2.1, (hagree c).2.2.1, (hagree c).2.2.2.1, (hagree c).2.2.2.2.1]
      exact (Cert.Kernel4Ideal.Prep.final9 m c).symm
    · refine (Cert.Reference4Ideal.Prep.resD_eq m' c).trans ?_
      rw [(hagree c).1, (hagree c).2.1, (hagree c).2.2.1, (hagree c).2.2.2.2.2]
      exact (Cert.Kernel4Ideal.Prep.final10 m c).symm

theorem frame_kernel5 : Cert.quiescent_Kernel5 := fun m g _ => Cert.Kernel5.Gen.frame m g
theorem frame_ideal5 : Cert.quiescent_Kernel5Ideal := fun m g _ => Cert.Kernel5Ideal.Gen.frame m g
theorem frame_reference5 : Cert.quiescent_Reference5Ideal := fun m g _ =>
  (θ_run Cert.Reference5Ideal.defs _ _).mono (fun r h => ⟨fun c => (h c).2.2.2.2.2.2, sem_eq_zero_of_no_sems (by decide) r.2⟩)
    (Cert.Reference5Ideal.Value.run (F := Ideal) m g)

set_option maxHeartbeats 3200000 in
theorem algebraic5 : Cert.algebraic_Kernel5Ideal_Reference5Ideal := by
  pair_intro
  · run_from Cert.Kernel5Ideal.Value.run_blocks m g
  · run_from Cert.Reference5Ideal.Value.run m' g'
    · exact (Cert.Kernel5Ideal.Prep.final13 m c).symm
    · refine (Cert.Reference5Ideal.Prep.resW_eq m' c).trans ?_
      rw [(hagree c).1, (hagree c).2.1, (hagree c).2.2.1, (hagree c).2.2.2.1, (hagree c).2.2.2.2.1, (hagree c).2.2.2.2.2.1]
      exact (Cert.Kernel5Ideal.Prep.final14 m c).symm
    · exact (Cert.Kernel5Ideal.Prep.final15 m c).symm
    · refine (Cert.Reference5Ideal.Prep.resV_eq m' c).trans ?_
      rw [(hagree c).1, (hagree c).2.1, (hagree c).2.2.1, (hagree c).2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact (Cert.Kernel5Ideal.Prep.final16 m c).symm
    · exact (Cert.Kernel5Ideal.Prep.final17 m c).symm
    · exact (Cert.Kernel5Ideal.Prep.final18 m c).symm

theorem frame_kernel6 : Cert.quiescent_Kernel6 := fun m g _ => Cert.Kernel6.Gen.frame m g
theorem frame_ideal6 : Cert.quiescent_Kernel6Ideal := fun m g _ => Cert.Kernel6Ideal.Gen.frame m g
theorem frame_reference6 : Cert.quiescent_Reference6Ideal := fun m g _ =>
  (θ_run Cert.Reference6Ideal.defs _ _).mono (fun r h => ⟨fun c => (h c).2.2.2.2.2.2, sem_eq_zero_of_no_sems (by decide) r.2⟩)
    (Cert.Reference6Ideal.Value.run (F := Ideal) m g)

set_option maxHeartbeats 3200000 in
theorem algebraic6 : Cert.algebraic_Kernel6Ideal_Reference6Ideal := by
  pair_intro
  · run_from Cert.Kernel6Ideal.Value.run_blocks m g
  · run_from Cert.Reference6Ideal.Value.run m' g'
    · exact (Cert.Kernel6Ideal.Prep.final9 m c).symm
    · refine (Cert.Reference6Ideal.Prep.resW_eq m' c).trans ?_
      rw [(hagree c).1, (hagree c).2.1, (hagree c).2.2.1, (hagree c).2.2.2.1, (hagree c).2.2.2.2.1, (hagree c).2.2.2.2.2.1]
      exact (Cert.Kernel6Ideal.Prep.final10 m c).symm
    · exact (Cert.Kernel6Ideal.Prep.final11 m c).symm
    · exact (Cert.Kernel6Ideal.Prep.final12 m c).symm
    · exact (Cert.Kernel6Ideal.Prep.final13 m c).symm
    · exact (Cert.Kernel6Ideal.Prep.final14 m c).symm

theorem frame_kernel7 : Cert.quiescent_Kernel7 := fun m g _ => Cert.Kernel7.Gen.frame m g
theorem frame_ideal7 : Cert.quiescent_Kernel7Ideal := fun m g _ => Cert.Kernel7Ideal.Gen.frame m g
theorem frame_reference7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run (F := Ideal) m g)

theorem algebraic7 : Cert.algebraic_Kernel7Ideal_Reference7Ideal := by
  pair_intro
  · run_from Cert.Kernel7Ideal.Rope.run_tables m g
  · run_from Cert.Reference7Ideal.Value.run m' g'
    · exact (Cert.Kernel7Ideal.Rope.final2 m c).symm
    · exact (Cert.Kernel7Ideal.Rope.final3 m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.facts,
    frame_kernel, frame_ideal, frame_ideal_pre, frame_reference, frame_reference_pre,
    frame_kernel2, frame_ideal2, frame_reference2, frame_kernel3, frame_ideal3, frame_reference3,
    frame_kernel4, frame_ideal4, frame_reference4, frame_kernel5, frame_ideal5, frame_reference5,
    frame_kernel6, frame_ideal6, frame_reference6, frame_kernel7, frame_ideal7, frame_reference7,
    trivial, algebraic, trivial, algebraic2, trivial, algebraic3, trivial, algebraic4,
    trivial, algebraic5, trivial, algebraic6, trivial, algebraic7⟩

end Cert.Proof

end
